-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v104_0)) (v1 : (c : Dev Cert.KernelIdeal.nD) → Buf (Elt Ideal) ((c.tc : Thread Cert.KernelIdeal.nD Cert.KernelIdeal.τ).loc Cert.KernelIdeal.main_v104_1)) (v2 : (c : Dev Cert.KernelIdeal.nD) → Buf (Elt Ideal) ((c.tc : Thread Cert.KernelIdeal.nD Cert.KernelIdeal.τ).loc Cert.KernelIdeal.main_v104_2)) (v3 : (c : Dev Cert.KernelIdeal.nD) → Buf (Elt Ideal) ((c.tc : Thread Cert.KernelIdeal.nD Cert.KernelIdeal.τ).loc Cert.KernelIdeal.main_v104_3)) (v4 : (c : Dev Cert.KernelIdeal.nD) → Buf (Elt Ideal) ((c.tc : Thread Cert.KernelIdeal.nD Cert.KernelIdeal.τ).loc Cert.KernelIdeal.main_v104_4)) (v5 : (c : Dev Cert.KernelIdeal.nD) → Buf (Elt Ideal) ((c.tc : Thread Cert.KernelIdeal.nD Cert.KernelIdeal.τ).loc Cert.KernelIdeal.main_v104_5)) (v6 : (c : Dev Cert.KernelIdeal.nD) → Buf (Elt Ideal) ((c.tc : Thread Cert.KernelIdeal.nD Cert.KernelIdeal.τ).loc Cert.KernelIdeal.main_v104_6)) (v7 : (c : Dev Cert.KernelIdeal.nD) → Buf (Elt Ideal) ((c.tc : Thread Cert.KernelIdeal.nD Cert.KernelIdeal.τ).loc Cert.KernelIdeal.main_v104_7)) (v8 : (c : Dev Cert.KernelIdeal.nD) → Buf (Elt Ideal) ((c.tc : Thread Cert.KernelIdeal.nD Cert.KernelIdeal.τ).loc Cert.KernelIdeal.main_v104_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104_0) = v0 c
          ∧ r.2.mem ((c.tc : Thread Cert.KernelIdeal.nD Cert.KernelIdeal.τ).loc Cert.KernelIdeal.main_v104_1) = v1 c
          ∧ r.2.mem ((c.tc : Thread Cert.KernelIdeal.nD Cert.KernelIdeal.τ).loc Cert.KernelIdeal.main_v104_2) = v2 c
          ∧ r.2.mem ((c.tc : Thread Cert.KernelIdeal.nD Cert.KernelIdeal.τ).loc Cert.KernelIdeal.main_v104_3) = v3 c
          ∧ r.2.mem ((c.tc : Thread Cert.KernelIdeal.nD Cert.KernelIdeal.τ).loc Cert.KernelIdeal.main_v104_4) = v4 c
          ∧ r.2.mem ((c.tc : Thread Cert.KernelIdeal.nD Cert.KernelIdeal.τ).loc Cert.KernelIdeal.main_v104_5) = v5 c
          ∧ r.2.mem ((c.tc : Thread Cert.KernelIdeal.nD Cert.KernelIdeal.τ).loc Cert.KernelIdeal.main_v104_6) = v6 c
          ∧ r.2.mem ((c.tc : Thread Cert.KernelIdeal.nD Cert.KernelIdeal.τ).loc Cert.KernelIdeal.main_v104_7) = v7 c
          ∧ r.2.mem ((c.tc : Thread Cert.KernelIdeal.nD Cert.KernelIdeal.τ).loc Cert.KernelIdeal.main_v104_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v168) = v3 c
          ∧ r.2.mem ((c.tc : Thread Cert.ReferenceIdeal.nD Cert.ReferenceIdeal.τ).loc Cert.ReferenceIdeal.main_v171) = v4 c
          ∧ r.2.mem ((c.tc : Thread Cert.ReferenceIdeal.nD Cert.ReferenceIdeal.τ).loc Cert.ReferenceIdeal.main_v172) = v5 c
          ∧ r.2.mem ((c.tc : Thread Cert.ReferenceIdeal.nD Cert.ReferenceIdeal.τ).loc Cert.ReferenceIdeal.main_v174) = v6 c
          ∧ r.2.mem ((c.tc : Thread Cert.ReferenceIdeal.nD Cert.ReferenceIdeal.τ).loc Cert.ReferenceIdeal.main_v176) = v7 c
          ∧ r.2.mem ((c.tc : Thread Cert.ReferenceIdeal.nD Cert.ReferenceIdeal.τ).loc Cert.ReferenceIdeal.main_v178) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2x2048x2048 : Shape := ⟨3, ![2, 2048, 2048]⟩
abbrev S2x2048x3072 : Shape := ⟨3, ![2, 2048, 3072]⟩
abbrev S2x2048x11520 : Shape := ⟨3, ![2, 2048, 11520]⟩
abbrev S1x32 : Shape := ⟨2, ![1, 32]⟩
abbrev S1x2048 : Shape := ⟨2, ![1, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2x2048x3072 : S_.BroadcastsInDim S2x2048x3072 (![] : Fin 0 → Fin S2x2048x3072.rank)
  reducesTo_S2x2048x3072_S_d0_1_2 : S2x2048x3072.ReducesTo [0, 1, 2] S_
  bcast_S_S2x2048x11520 : S_.BroadcastsInDim S2x2048x11520 (![] : Fin 0 → Fin S2x2048x11520.rank)
  reducesTo_S2x2048x11520_S_d0_1_2 : S2x2048x11520.ReducesTo [0, 1, 2] S_
  bcast_S_S1x32 : S_.BroadcastsInDim S1x32 (![] : Fin 0 → Fin S1x32.rank)
  reducesTo_S1x32_S_d0_1 : S1x32.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x32 .f32) (main_arg5 : FVec F S1x32 .f32) (main_arg6 : FVec F S1x2048 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S1x32 .f32 := Host.absf main_arg4
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S1x32 .f32 := Host.absf main_arg5
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  main_v33

def fn {F : FTy → Type} [FloatOps F] (main_arg0 : FVec F S2x2048x2048 .f32) (main_arg1 : FVec F S2x2048x3072 .f32) (main_arg2 : FVec F S2x2048x11520 .f32) (main_arg3 : FVec F S1x32 .f32) (main_arg4 : FVec F S1x32 .f32) (main_arg5 : FVec F S1x32 .f32) (main_arg6 : FVec F S1x2048 .f32) (main_arg7 : FVec F S2x2048x11520 .bf16) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2x2048x3072 .f32 := Host.absf main_arg1
  let main_cst_0 : FVec F S_ .f32 := constant S_ .f32 0x7F800000#32
  let main_v5 : FVec F S2x2048x3072 .f32 := broadcastInDim S2x2048x3072 ![] bcast_S_S2x2048x3072 main_cst_0
  let main_v6 : IVec S2x2048x3072 1 := cmpf .olt main_v4 main_v5
  let main_c_1 : IVec S_ 1 := constantI S_ 1 1#1
  let main_v7 : IVec S_ 1 := (fun x v => Host.reduce IntOp.andi x v reducesTo_S2x2048x3072_S_d0_1_2 h_S_) main_v6 main_c_1
  let main_v8 : IVec S_ 1 := andi main_v3 main_v7
  let main_v9 : FVec F S2x2048x11520 .f32 := Host.absf main_arg2
  let main_cst_2 : FVec F S_ .f32 := constant S_ .f32 0x7F800000#32
  let main_v10 : FVec F S2x2048x11520 .f32 := broadcastInDim S2x2048x11520 ![] bcast_S_S2x2048x11520 main_cst_2
  let main_v11 : IVec S2x2048x11520 1 := cmpf .olt main_v9 main_v10
  let main_c_3 : IVec S_ 1 := constantI S_ 1 1#1
  let main_v12 : IVec S_ 1 := (fun x v => Host.reduce IntOp.andi x v reducesTo_S2x2048x11520_S_d0_1_2 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg4 main_arg5 main_arg6 main_v13 main_v16
-- ==== Kernel.lean ====
abbrev S2x2048x2048 : Shape := ⟨3, ![2, 2048, 2048]⟩
abbrev S2x2048x3072 : Shape := ⟨3, ![2, 2048, 3072]⟩
abbrev S2x2048x11520 : Shape := ⟨3, ![2, 2048, 11520]⟩
abbrev S1x32 : Shape := ⟨2, ![1, 32]⟩
abbrev S1x2048 : Shape := ⟨2, ![1, 2048]⟩
abbrev S2x2048x512 : Shape := ⟨3, ![2, 2048, 512]⟩
abbrev S2x2048x32 : Shape := ⟨3, ![2, 2048, 32]⟩
abbrev S32 : Shape := ⟨1, ![32]⟩
abbrev S1x1x32 : Shape := ⟨3, ![1, 1, 32]⟩
abbrev S_ : Shape := ⟨0, ![]⟩
abbrev S2x2048x4x8x64 : Shape := ⟨5, ![2, 2048, 4, 8, 64]⟩
abbrev S2x2048x4x128 : Shape := ⟨4, ![2, 2048, 4, 128]⟩
abbrev S2x2048x4x8 : Shape := ⟨4, ![2, 2048, 4, 8]⟩
abbrev S2x2048x4x8x1 : Shape := ⟨5, ![2, 2048, 4, 8, 1]⟩
abbrev S2048 : Shape := ⟨1, ![2048]⟩
abbrev S2048x1 : Shape := ⟨2, ![2048, 1]⟩
abbrev S2048x2048 : Shape := ⟨2, ![2048, 2048]⟩
abbrev S2048x2048x1x1 : Shape := ⟨4, ![2048, 2048, 1, 1]⟩
abbrev S2x2048x1x4x8 : Shape := ⟨5, ![2, 2048, 1, 4, 8]⟩
abbrev S2x1x2048x4x8 : Shape := ⟨5, ![2, 1, 2048, 4, 8]⟩
abbrev S2x2048x2048x4x8 : Shape := ⟨5, ![2, 2048, 2048, 4, 8]⟩
abbrev S2x4x2048x2048 : Shape := ⟨4, ![2, 4, 2048, 2048]⟩
abbrev S2x2048x2048x4 : Shape := ⟨4, ![2, 2048, 2048, 4]⟩
abbrev S2x2048x2048x4x1 : Shape := ⟨5, ![2, 2048, 2048, 4, 1]⟩
abbrev S2x4x8x64x2048 : Shape := ⟨5, ![2, 4, 8, 64, 2048]⟩
abbrev S4x8 : Shape := ⟨2, ![4, 8]⟩
abbrev S4x8x1 : Shape := ⟨3, ![4, 8, 1]⟩
abbrev S1x1x4x8x1 : Shape := ⟨5, ![1, 1, 4, 8, 1]⟩
abbrev S4x128 : Shape := ⟨2, ![4, 128]⟩
abbrev S4x1x128 : Shape := ⟨3, ![4, 1, 128]⟩
abbrev S1x32x64 : Shape := ⟨3, ![1, 32, 64]⟩
abbrev S2x4x2048x8 : Shape := ⟨4, ![2, 4, 2048, 8]⟩
abbrev S2x4x2048x128 : Shape := ⟨4, ![2, 4, 2048, 128]⟩
abbrev S2x16x128x4x8 : Shape := ⟨5, ![2, 16, 128, 4, 8]⟩
abbrev S2x16x1x4x8 : Shape := ⟨5, ![2, 16, 1, 4, 8]⟩
abbrev S2x16x4x8 : Shape := ⟨4, ![2, 16, 4, 8]⟩
abbrev S16 : Shape := ⟨1, ![16]⟩
abbrev S16x1 : Shape := ⟨2, ![16, 1]⟩
abbrev S16x2048 : Shape := ⟨2, ![16, 2048]⟩
abbrev S16x2048x1x1 : Shape := ⟨4, ![16, 2048, 1, 1]⟩
abbrev S2x16x2048x4x8 : Shape := ⟨5, ![2, 16, 2048, 4, 8]⟩
abbrev S2x16x2048x4x8x1 : Shape := ⟨6, ![2, 16, 2048, 4, 8, 1]⟩
abbrev S2x1x2048x4x8x64 : Shape := ⟨6, ![2, 1, 2048, 4, 8, 64]⟩
abbrev S2x16x2048x4x8x64 : Shape := ⟨6, ![2, 16, 2048, 4, 8, 64]⟩
abbrev S2x4x16x8x64x128 : Shape := ⟨6, ![2, 4, 16, 8, 64, 128]⟩
abbrev S2x16x4x128x8x64 : Shape := ⟨6, ![2, 16, 4, 128, 8, 64]⟩
abbrev S2x16x4x128x512 : Shape := ⟨5, ![2, 16, 4, 128, 512]⟩
abbrev S4x1x512 : Shape := ⟨3, ![4, 1, 512]⟩
abbrev S1x128x512 : Shape := ⟨3, ![1, 128, 512]⟩
abbrev S1x128x128 : Shape := ⟨3, ![1, 128, 128]⟩
abbrev S1x1x1x128x512 : Shape := ⟨5, ![1, 1, 1, 128, 512]⟩
abbrev S1x1x128x128 : Shape := ⟨4, ![1, 1, 128, 128]⟩
abbrev S1x1x128 : Shape := ⟨3, ![1, 1, 128]⟩
abbrev S1x512 : Shape := ⟨2, ![1, 512]⟩
abbrev S1x1x512 : Shape := ⟨3, ![1, 1, 512]⟩
abbrev S128x512 : Shape := ⟨2, ![128, 512]⟩
abbrev S128x128 : Shape := ⟨2, ![128, 128]⟩
abbrev S1x128 : Shape := ⟨2, ![1, 128]⟩
abbrev S512x128 : Shape := ⟨2, ![512, 128]⟩
abbrev S128 : Shape := ⟨1, ![128]⟩
abbrev S128x1 : Shape := ⟨2, ![128, 1]⟩
abbrev S512 : Shape := ⟨1, ![512]⟩
abbrev S8x512 : Shape := ⟨2, ![8, 512]⟩
abbrev S8x128 : Shape := ⟨2, ![8, 128]⟩
abbrev S128x64 : Shape := ⟨2, ![128, 64]⟩
abbrev S1x128x64 : Shape := ⟨3, ![1, 128, 64]⟩

abbrev nBuf : Space → Nat
  | .hbm => 151
  | .vmem => 43
  | .smem => 0
  | _ => 0

abbrev hbmTy0_0 (i : Nat) : BufTy := match i % 128 with
  | 0 => ⟨S2x2048x2048, .f32⟩
  | 1 => ⟨S2x2048x3072, .f32⟩
  | 2 => ⟨S2x2048x11520, .f32⟩
  | 3 => ⟨S1x32, .f32⟩
  | 4 => ⟨S1x32, .f32⟩
  | 5 => ⟨S1x32, .f32⟩
  | 6 => ⟨S1x2048, .f32⟩
  | 7 => ⟨S2x2048x11520, .bf16⟩
  | 8 => ⟨S2x2048x2048, .f32⟩
  | 9 => ⟨S2x2048x512, .f32⟩
  | 10 => ⟨S2x2048x512, .f32⟩
  | 11 => ⟨S2x2048x32, .f32⟩
  | 12 => ⟨S32, .f32⟩
  | 13 => ⟨S32, .f32⟩
  | 14 => ⟨S1x1x32, .f32⟩
  | 15 => ⟨S2x2048x32, .f32⟩
  | 16 => ⟨S2x2048x32, .f32⟩
  | 17 => ⟨S_, .f32⟩
  | 18 => ⟨S2x2048x32, .f32⟩
  | 19 => ⟨S2x2048x32, .f32⟩
  | 20 => ⟨S2x2048x32, .f32⟩
  | 21 => ⟨S2x2048x32, .f32⟩
  | 22 => ⟨S2x2048x32, .i1⟩
  | 23 => ⟨S2x2048x32, .f32⟩
  | 24 => ⟨S2x2048x32, .f32⟩
  | 25 => ⟨S2x2048x32, .f32⟩
  | 26 => ⟨S2x2048x32, .f32⟩
  | 27 => ⟨S2x2048x32, .f32⟩
  | 28 => ⟨S2x2048x32, .f32⟩
  | 29 => ⟨S2x2048x32, .f32⟩
  | 30 => ⟨S2x2048x32, .f32⟩
  | 31 => ⟨S32, .f32⟩
  | 32 => ⟨S32, .f32⟩
  | 33 => ⟨S1x1x32, .f32⟩
  | 34 => ⟨S2x2048x32, .f32⟩
  | 35 => ⟨S2x2048x32, .f32⟩
  | 36 => ⟨S1x1x32, .f32⟩
  | 37 => ⟨S2x2048x32, .f32⟩
  | 38 => ⟨S2x2048x32, .f32⟩
  | 39 => ⟨S_, .f32⟩
  | 40 => ⟨S_, .f32⟩
  | 41 => ⟨S2x2048x32, .f32⟩
  | 42 => ⟨S32, .f32⟩
  | 43 => ⟨S2x2048x4x8x64, .f32⟩
  | 44 => ⟨S2x2048x4x128, .f32⟩
  | 45 => ⟨S2x2048x4x128, .f32⟩
  | 46 => ⟨S2x2048x4x8, .f32⟩
  | 47 => ⟨S2x2048x4x8, .f32⟩
  | 48 => ⟨S2x2048x4x8x1, .f32⟩
  | 49 => ⟨S2x2048x4x8x64, .f32⟩
  | 50 => ⟨S2x2048x4x8x64, .f32⟩
  | 51 => ⟨S2048, .i32⟩
  | 52 => ⟨S2048x1, .i32⟩
  | 53 => ⟨S1x2048, .i32⟩
  | 54 => ⟨S2048x2048, .i32⟩
  | 55 => ⟨S2048x2048, .i32⟩
  | 56 => ⟨S2048x2048, .i1⟩
  | 57 => ⟨S2048x2048x1x1, .i1⟩
  | 58 => ⟨S2x2048x1x4x8, .f32⟩
  | 59 => ⟨S2x1x2048x4x8, .f32⟩
  | 60 => ⟨S2x2048x2048x4x8, .f32⟩
  | 61 => ⟨S2x2048x2048x4x8, .f32⟩
  | 62 => ⟨S2x2048x2048x4x8, .f32⟩
  | 63 => ⟨S_, .f32⟩
  | 64 => ⟨S_, .f32⟩
  | 65 => ⟨S2x2048x2048x4x8, .i1⟩
  | 66 => ⟨S2x2048x2048x4x8, .f32⟩
  | 67 => ⟨S2x2048x2048x4x8, .f32⟩
  | 68 => ⟨S2x2048x2048x4x8, .f32⟩
  | 69 => ⟨S2x4x2048x2048, .f32⟩
  | 70 => ⟨S2x2048x2048x4, .f32⟩
  | 71 => ⟨S2x2048x2048x4x1, .f32⟩
  | 72 => ⟨S2x2048x2048x4x8, .f32⟩
  | 73 => ⟨S2x2048x2048x4x8, .f32⟩
  | 74 => ⟨S2x4x8x64x2048, .f32⟩
  | 75 => ⟨S2x2048x4x8x64, .f32⟩
  | 76 => ⟨S4x8, .f32⟩
  | 77 => ⟨S4x8x1, .f32⟩
  | 78 => ⟨S1x1x4x8x1, .f32⟩
  | 79 => ⟨S2x2048x4x8x64, .f32⟩
  | 80 => ⟨S2x2048x4x8x64, .f32⟩
  | 81 => ⟨S2x2048x4x8x64, .f32⟩
  | 82 => ⟨S2x2048x2048, .f32⟩
  | 83 => ⟨S4x8, .f32⟩
  | 84 => ⟨S_, .i32⟩
  | 85 => ⟨S_, .f32⟩
  | 86 => ⟨S4x128, .f32⟩
  | 87 => ⟨S4x1x128, .f32⟩
  | 88 => ⟨S4x8, .f32⟩
  | 89 => ⟨S_, .i32⟩
  | 90 => ⟨S_, .f32⟩
  | 91 => ⟨S4x128, .f32⟩
  | 92 => ⟨S4x1x128, .f32⟩
  | 93 => ⟨S1x32x64, .f32⟩
  | 94 => ⟨S1x2048, .f32⟩
  | 95 => ⟨S2x2048x32, .f32⟩
  | 96 => ⟨S2x2048x4x8, .f32⟩
  | 97 => ⟨S2x4x2048x8, .f32⟩
  | 98 => ⟨S_, .i32⟩
  | 99 => ⟨S_, .f32⟩
  | 100 => ⟨S2x4x2048x128, .f32⟩
  | 101 => ⟨S2x2048x32, .f32⟩
  | 102 => ⟨S2x16x128x4x8, .f32⟩
  | 103 => ⟨S2x16x1x4x8, .f32⟩
  | 104 => ⟨S2x16x4x8, .f32⟩
  | 105 => ⟨S2x2048x4x8, .f32⟩
  | 106 => ⟨S2x2048x4x8x64, .f32⟩
  | 107 => ⟨S2x2048x4x8, .f32⟩
  | 108 => ⟨S2x2048x4x8x1, .f32⟩
  | 109 => ⟨S2x2048x4x8x64, .f32⟩
  | 110 => ⟨S2x2048x4x8x64, .f32⟩
  | 111 => ⟨S16, .i32⟩
  | 112 => ⟨S16x1, .i32⟩
  | 113 => ⟨S_, .i32⟩
  | 114 => ⟨S16x1, .i32⟩
  | 115 => ⟨S16x1, .i32⟩
  | 116 => ⟨S2048, .i32⟩
  | 117 => ⟨S1x2048, .i32⟩
  | 118 => ⟨S16x2048, .i32⟩
  | 119 => ⟨S16x2048, .i32⟩
  | 120 => ⟨S16x2048, .i1⟩
  | 121 => ⟨S16x2048x1x1, .i1⟩
  | 122 => ⟨S2x16x1x4x8, .f32⟩
  | 123 => ⟨S2x1x2048x4x8, .f32⟩
  | 124 => ⟨S2x16x2048x4x8, .f32⟩
  | 125 => ⟨S2x16x2048x4x8, .f32⟩
  | 126 => ⟨S2x16x2048x4x8, .f32⟩
  | 127 => ⟨S_, .f32⟩
  | _ => ⟨S2x2048x2048, .f32⟩

abbrev hbmTy0_1 (i : Nat) : BufTy := match i % 128 with
  | 0 => ⟨S_, .f32⟩
  | 1 => ⟨S2x16x2048x4x8, .i1⟩
  | 2 => ⟨S2x16x2048x4x8, .f32⟩
  | 3 => ⟨S2x16x2048x4x8, .f32⟩
  | 4 => ⟨S2x16x2048x4x8, .f32⟩
  | 5 => ⟨S2x2048x4x128, .f32⟩
  | 6 => ⟨S2x16x2048x4x8x1, .f32⟩
  | 7 => ⟨S2x1x2048x4x8x64, .f32⟩
  | 8 => ⟨S2x16x2048x4x8x64, .f32⟩
  | 9 => ⟨S2x16x2048x4x8x64, .f32⟩
  | 10 => ⟨S2x16x2048x4x8x64, .f32⟩
  | 11 => ⟨S2x4x16x8x64x128, .f32⟩
  | 12 => ⟨S2x16x4x128x8x64, .f32⟩
  | 13 => ⟨S2x16x4x128x512, .f32⟩
  | 14 => ⟨S2x2048x2048, .f32⟩
  | 15 => ⟨S2x2048x512, .f32⟩
  | 16 => ⟨S2x2048x512, .f32⟩
  | 17 => ⟨S2x2048x11520, .bf16⟩
  | 18 => ⟨S2x4x2048x128, .f32⟩
  | 19 => ⟨S4x1x512, .f32⟩
  | 20 => ⟨S4x1x128, .f32⟩
  | 21 => ⟨S4x1x128, .f32⟩
  | 22 => ⟨S4x1x128, .f32⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x512, .f32⟩
  | .local _ .vmem, ⟨11, _⟩ => ⟨S1x128x512, .f32⟩
  | .local _ .vmem, ⟨12, _⟩ => ⟨S1x1x1x128x512, .f32⟩
  | .local _ .vmem, ⟨13, _⟩ => ⟨S1x1x1x128x512, .f32⟩
  | .local _ .vmem, ⟨14, _⟩ => ⟨S1x1x128x128, .f32⟩
  | .local _ .vmem, ⟨15, _⟩ => ⟨S1x1x128x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x128x512, .f32⟩
  | .local _ .vmem, ⟨25, _⟩ => ⟨S1x128x512, .f32⟩
  | .local _ .vmem, ⟨26, _⟩ => ⟨S1x128x128, .f32⟩
  | .local _ .vmem, ⟨27, _⟩ => ⟨S1x128x128, .f32⟩
  | .local _ .vmem, ⟨28, _⟩ => ⟨S1x128x128, .f32⟩
  | .local _ .vmem, ⟨29, _⟩ => ⟨S1x128x128, .f32⟩
  | .local _ .vmem, ⟨30, _⟩ => ⟨S1x128x512, .bf16⟩
  | .local _ .vmem, ⟨31, _⟩ => ⟨S1x128x512, .bf16⟩
  | .local _ .vmem, ⟨32, _⟩ => ⟨S1x1x128x128, .f32⟩
  | .local _ .vmem, ⟨33, _⟩ => ⟨S1x1x128x128, .f32⟩
  | .local _ .vmem, ⟨34, _⟩ => ⟨S1x1x512, .f32⟩
  | .local _ .vmem, ⟨35, _⟩ => ⟨S1x1x512, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S128x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call1_call0_cst : Ref sig .tc := ⟨.hbm, 39, rfl⟩
abbrev main_call1_call0_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c : Ref sig .tc := ⟨.hbm, 84, rfl⟩
abbrev main_call3_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_0 : Ref sig .tc := ⟨.hbm, 89, rfl⟩
abbrev main_call4_v0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_1 : Ref sig .tc := ⟨.hbm, 98, rfl⟩
abbrev main_call5_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_2 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_3 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104_0 : Ref sig .tc := ⟨.hbm, 142, rfl⟩
abbrev main_v104_1 : Ref sig .tc := ⟨.hbm, 143, rfl⟩
abbrev main_v104_2 : Ref sig .tc := ⟨.hbm, 144, rfl⟩
abbrev main_v104_3 : Ref sig .tc := ⟨.hbm, 145, rfl⟩
abbrev main_v104_4 : Ref sig .tc := ⟨.hbm, 146, rfl⟩
abbrev main_v104_5 : Ref sig .tc := ⟨.hbm, 147, rfl⟩
abbrev main_v104_6 : Ref sig .tc := ⟨.hbm, 148, rfl⟩
abbrev main_v104_7 : Ref sig .tc := ⟨.hbm, 149, rfl⟩
abbrev main_v104_8 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg1.toNat, v0.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg1.toNat, v0.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg1.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c16_i32 : BitVec 32 := 16#32
  let v1 : BitVec 32 := Scalar.addi c16_i32 arg0
  let c0_i32 : BitVec 32 := 0#32
  ![arg1.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c20_i32 : BitVec 32 := 20#32
  let v1 : BitVec 32 := Scalar.addi c20_i32 arg0
  let c0_i32 : BitVec 32 := 0#32
  ![arg1.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c8_i32 : BitVec 32 := 8#32
  let v1 : BitVec 32 := Scalar.addi c8_i32 arg0
  let c0_i32 : BitVec 32 := 0#32
  ![arg1.toNat, v0.toNat, v1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let c0_i32_0 : BitVec 32 := 0#32
  let c0_i32_1 : BitVec 32 := 0#32
  ![arg1.toNat, v0.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let c0_i32_0 : BitVec 32 := 0#32
  ![arg1.toNat, arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg1.toNat, v0.toNat, arg0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg1.toNat, v0.toNat, arg0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg1.toNat, v0.toNat, arg0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c8_i32 : BitVec 32 := 8#32
  let v1 : BitVec 32 := Scalar.addi c8_i32 arg0
  let c0_i32 : BitVec 32 := 0#32
  ![arg1.toNat, v0.toNat, v1.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let c0_i32_0 : BitVec 32 := 0#32
  ![arg1.toNat, arg0.toNat, v0.toNat, c0_i32.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false, false]

abbrev stage0_18 : Fin 2 → Memref sig .tc .vmem S1x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false, false]

abbrev stage0_19 : Fin 2 → Memref sig .tc .vmem S1x1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false, false]

abbrev stage0_20 : Fin 2 → Memref sig .tc .vmem S1x1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false, false]
-- ==== ReferenceIdeal.lean ====
abbrev S2x2048x2048 : Shape := ⟨3, ![2, 2048, 2048]⟩
abbrev S2x2048x3072 : Shape := ⟨3, ![2, 2048, 3072]⟩
abbrev S2x2048x11520 : Shape := ⟨3, ![2, 2048, 11520]⟩
abbrev S1x32 : Shape := ⟨2, ![1, 32]⟩
abbrev S1x2048 : Shape := ⟨2, ![1, 2048]⟩
abbrev S2x2048x512 : Shape := ⟨3, ![2, 2048, 512]⟩
abbrev S2x2048x32 : Shape := ⟨3, ![2, 2048, 32]⟩
abbrev S32 : Shape := ⟨1, ![32]⟩
abbrev S2048 : Shape := ⟨1, ![2048]⟩
abbrev S1x1x32 : Shape := ⟨3, ![1, 1, 32]⟩
abbrev S_ : Shape := ⟨0, ![]⟩
abbrev S2x2048x4x8x64 : Shape := ⟨5, ![2, 2048, 4, 8, 64]⟩
abbrev S2x2048x4x128 : Shape := ⟨4, ![2, 2048, 4, 128]⟩
abbrev S2x2048x4x8 : Shape := ⟨4, ![2, 2048, 4, 8]⟩
abbrev S2x2048x4x8x1 : Shape := ⟨5, ![2, 2048, 4, 8, 1]⟩
abbrev S2048x1 : Shape := ⟨2, ![2048, 1]⟩
abbrev S2048x2048 : Shape := ⟨2, ![2048, 2048]⟩
abbrev S2048x2048x1x1 : Shape := ⟨4, ![2048, 2048, 1, 1]⟩
abbrev S2x2048x1x4x8 : Shape := ⟨5, ![2, 2048, 1, 4, 8]⟩
abbrev S2x1x2048x4x8 : Shape := ⟨5, ![2, 1, 2048, 4, 8]⟩
abbrev S2x2048x2048x4x8 : Shape := ⟨5, ![2, 2048, 2048, 4, 8]⟩
abbrev S2x4x2048x2048 : Shape := ⟨4, ![2, 4, 2048, 2048]⟩
abbrev S2x2048x2048x4 : Shape := ⟨4, ![2, 2048, 2048, 4]⟩
abbrev S2x2048x2048x4x1 : Shape := ⟨5, ![2, 2048, 2048, 4, 1]⟩
abbrev S2x4x8x64x2048 : Shape := ⟨5, ![2, 4, 8, 64, 2048]⟩
abbrev S4x8 : Shape := ⟨2, ![4, 8]⟩
abbrev S4x8x1 : Shape := ⟨3, ![4, 8, 1]⟩
abbrev S1x1x4x8x1 : Shape := ⟨5, ![1, 1, 4, 8, 1]⟩
abbrev S2x2048x4x512 : Shape := ⟨4, ![2, 2048, 4, 512]⟩
abbrev S2x2048x4 : Shape := ⟨3, ![2, 2048, 4]⟩
abbrev S2x2048x4x1 : Shape := ⟨4, ![2, 2048, 4, 1]⟩
abbrev S1x1x2048 : Shape := ⟨3, ![1, 1, 2048]⟩
abbrev S2x4x8x2048x2048 : Shape := ⟨5, ![2, 4, 8, 2048, 2048]⟩
abbrev S2x4x2048x128 : Shape := ⟨4, ![2, 4, 2048, 128]⟩
abbrev S2x2048x4096 : Shape := ⟨3, ![2, 2048, 4096]⟩
abbrev S2x2048x5376 : Shape := ⟨3, ![2, 2048, 5376]⟩
abbrev S2x4x2048x8 : Shape := ⟨4, ![2, 4, 2048, 8]⟩
abbrev S4x1x512 : Shape := ⟨3, ![4, 1, 512]⟩
abbrev S4x1x8 : Shape := ⟨3, ![4, 1, 8]⟩
abbrev S4x1x128 : Shape := ⟨3, ![4, 1, 128]⟩

abbrev nBuf : Space → Nat
  | .hbm => 291
  | .vmem => 0
  | .smem => 0
  | _ => 0

abbrev hbmTy0_0 (i : Nat) : BufTy := match i % 128 with
  | 0 => ⟨S2x2048x2048, .f32⟩
  | 1 => ⟨S2x2048x3072, .f32⟩
  | 2 => ⟨S2x2048x11520, .f32⟩
  | 3 => ⟨S1x32, .f32⟩
  | 4 => ⟨S1x32, .f32⟩
  | 5 => ⟨S1x32, .f32⟩
  | 6 => ⟨S1x2048, .f32⟩
  | 7 => ⟨S2x2048x11520, .bf16⟩
  | 8 => ⟨S2x2048x2048, .f32⟩
  | 9 => ⟨S2x2048x512, .f32⟩
  | 10 => ⟨S2x2048x512, .f32⟩
  | 11 => ⟨S2x2048x2048, .f32⟩
  | 12 => ⟨S2x2048x32, .f32⟩
  | 13 => ⟨S32, .f32⟩
  | 14 => ⟨S32, .f32⟩
  | 15 => ⟨S32, .f32⟩
  | 16 => ⟨S2048, .f32⟩
  | 17 => ⟨S1x1x32, .f32⟩
  | 18 => ⟨S2x2048x32, .f32⟩
  | 19 => ⟨S2x2048x32, .f32⟩
  | 20 => ⟨S_, .f32⟩
  | 21 => ⟨S2x2048x32, .f32⟩
  | 22 => ⟨S2x2048x32, .f32⟩
  | 23 => ⟨S2x2048x32, .f32⟩
  | 24 => ⟨S2x2048x32, .f32⟩
  | 25 => ⟨S2x2048x32, .i1⟩
  | 26 => ⟨S2x2048x32, .f32⟩
  | 27 => ⟨S2x2048x32, .f32⟩
  | 28 => ⟨S2x2048x32, .f32⟩
  | 29 => ⟨S2x2048x32, .f32⟩
  | 30 => ⟨S2x2048x32, .f32⟩
  | 31 => ⟨S2x2048x32, .f32⟩
  | 32 => ⟨S2x2048x32, .f32⟩
  | 33 => ⟨S2x2048x32, .f32⟩
  | 34 => ⟨S_, .f32⟩
  | 35 => ⟨S2x2048x32, .f32⟩
  | 36 => ⟨S2x2048x32, .i1⟩
  | 37 => ⟨S_, .f32⟩
  | 38 => ⟨S2x2048x32, .f32⟩
  | 39 => ⟨S2x2048x32, .f32⟩
  | 40 => ⟨S_, .f32⟩
  | 41 => ⟨S2x2048x32, .f32⟩
  | 42 => ⟨S2x2048x32, .i1⟩
  | 43 => ⟨S_, .f32⟩
  | 44 => ⟨S2x2048x32, .f32⟩
  | 45 => ⟨S2x2048x32, .f32⟩
  | 46 => ⟨S2x2048x32, .f32⟩
  | 47 => ⟨S2x2048x32, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S2x2048x32, .f32⟩
  | 56 => ⟨S2x2048x32, .i1⟩
  | 57 => ⟨S_, .f32⟩
  | 58 => ⟨S2x2048x32, .f32⟩
  | 59 => ⟨S2x2048x32, .f32⟩
  | 60 => ⟨S2x2048x32, .f32⟩
  | 61 => ⟨S2x2048x32, .f32⟩
  | 62 => ⟨S2x2048x32, .f32⟩
  | 63 => ⟨S_, .f32⟩
  | 64 => ⟨S2x2048x32, .f32⟩
  | 65 => ⟨S2x2048x32, .f32⟩
  | 66 => ⟨S32, .f32⟩
  | 67 => ⟨S32, .f32⟩
  | 68 => ⟨S1x1x32, .f32⟩
  | 69 => ⟨S2x2048x32, .f32⟩
  | 70 => ⟨S2x2048x32, .f32⟩
  | 71 => ⟨S1x1x32, .f32⟩
  | 72 => ⟨S2x2048x32, .f32⟩
  | 73 => ⟨S2x2048x32, .f32⟩
  | 74 => ⟨S_, .f32⟩
  | 75 => ⟨S_, .f32⟩
  | 76 => ⟨S2x2048x32, .f32⟩
  | 77 => ⟨S2x2048x4x8x64, .f32⟩
  | 78 => ⟨S2x2048x4x128, .f32⟩
  | 79 => ⟨S2x2048x4x128, .f32⟩
  | 80 => ⟨S2x2048x4x8, .f32⟩
  | 81 => ⟨S2x2048x4x8, .f32⟩
  | 82 => ⟨S2x2048x4x8x1, .f32⟩
  | 83 => ⟨S2x2048x4x8x64, .f32⟩
  | 84 => ⟨S2x2048x4x8x64, .f32⟩
  | 85 => ⟨S2048, .i32⟩
  | 86 => ⟨S2048x1, .i32⟩
  | 87 => ⟨S1x2048, .i32⟩
  | 88 => ⟨S2048x2048, .i32⟩
  | 89 => ⟨S2048x2048, .i32⟩
  | 90 => ⟨S2048x2048, .i1⟩
  | 91 => ⟨S2048x2048x1x1, .i1⟩
  | 92 => ⟨S2x2048x1x4x8, .f32⟩
  | 93 => ⟨S2x1x2048x4x8, .f32⟩
  | 94 => ⟨S2x2048x2048x4x8, .f32⟩
  | 95 => ⟨S2x2048x2048x4x8, .f32⟩
  | 96 => ⟨S2x2048x2048x4x8, .f32⟩
  | 97 => ⟨S_, .f32⟩
  | 98 => ⟨S_, .f32⟩
  | 99 => ⟨S2x2048x2048x4x8, .i1⟩
  | 100 => ⟨S2x2048x2048x4x8, .f32⟩
  | 101 => ⟨S2x2048x2048x4x8, .f32⟩
  | 102 => ⟨S_, .f32⟩
  | 103 => ⟨S2x2048x2048x4x8, .f32⟩
  | 104 => ⟨S2x2048x2048x4x8, .f32⟩
  | 105 => ⟨S2x4x2048x2048, .f32⟩
  | 106 => ⟨S2x2048x2048x4, .f32⟩
  | 107 => ⟨S2x2048x2048x4x1, .f32⟩
  | 108 => ⟨S2x2048x2048x4x8, .f32⟩
  | 109 => ⟨S2x2048x2048x4x8, .f32⟩
  | 110 => ⟨S2x4x8x64x2048, .f32⟩
  | 111 => ⟨S2x2048x4x8x64, .f32⟩
  | 112 => ⟨S4x8, .f32⟩
  | 113 => ⟨S4x8x1, .f32⟩
  | 114 => ⟨S1x1x4x8x1, .f32⟩
  | 115 => ⟨S2x2048x4x8x64, .f32⟩
  | 116 => ⟨S2x2048x4x8x64, .f32⟩
  | 117 => ⟨S2x2048x4x8x64, .f32⟩
  | 118 => ⟨S2x2048x2048, .f32⟩
  | 119 => ⟨S2x2048x2048, .f32⟩
  | 120 => ⟨S2x2048x2048, .f32⟩
  | 121 => ⟨S_, .f32⟩
  | 122 => ⟨S2x2048x2048, .f32⟩
  | 123 => ⟨S2x2048x2048, .f32⟩
  | 124 => ⟨S_, .f32⟩
  | 125 => ⟨S2x2048x2048, .f32⟩
  | 126 => ⟨S2x2048x2048, .f32⟩
  | 127 => ⟨S_, .f32⟩
  | _ => ⟨S2x2048x2048, .f32⟩

abbrev hbmTy0_1 (i : Nat) : BufTy := match i % 128 with
  | 0 => ⟨S2x2048x2048, .f32⟩
  | 1 => ⟨S2x2048x2048, .f32⟩
  | 2 => ⟨S2x2048x2048, .f32⟩
  | 3 => ⟨S2x2048x2048, .f32⟩
  | 4 => ⟨S2x2048x2048, .f32⟩
  | 5 => ⟨S2x2048x4x512, .f32⟩
  | 6 => ⟨S2x2048x4x512, .f32⟩
  | 7 => ⟨S_, .f32⟩
  | 8 => ⟨S2x2048x4, .f32⟩
  | 9 => ⟨S2x2048x4x1, .f32⟩
  | 10 => ⟨S_, .f32⟩
  | 11 => ⟨S2x2048x4x1, .f32⟩
  | 12 => ⟨S2x2048x4x1, .f32⟩
  | 13 => ⟨S_, .f32⟩
  | 14 => ⟨S2x2048x4x1, .f32⟩
  | 15 => ⟨S2x2048x4x1, .f32⟩
  | 16 => ⟨S2x2048x4x1, .f32⟩
  | 17 => ⟨S2x2048x4x1, .f32⟩
  | 18 => ⟨S_, .f32⟩
  | 19 => ⟨S2x2048x4x1, .f32⟩
  | 20 => ⟨S2x2048x4x1, .f32⟩
  | 21 => ⟨S2x2048x4x512, .f32⟩
  | 22 => ⟨S2x2048x4x512, .f32⟩
  | 23 => ⟨S2x2048x2048, .f32⟩
  | 24 => ⟨S1x1x2048, .f32⟩
  | 25 => ⟨S2x2048x2048, .f32⟩
  | 26 => ⟨S2x2048x2048, .f32⟩
  | 27 => ⟨S2x2048x2048, .f32⟩
  | 28 => ⟨S_, .f32⟩
  | 29 => ⟨S2048, .f32⟩
  | 30 => ⟨S1x1x2048, .f32⟩
  | 31 => ⟨S2x2048x2048, .f32⟩
  | 32 => ⟨S2x2048x2048, .f32⟩
  | 33 => ⟨S_, .f32⟩
  | 34 => ⟨S2048, .f32⟩
  | 35 => ⟨S2x2048x4x512, .f32⟩
  | 36 => ⟨S2x2048x4x512, .f32⟩
  | 37 => ⟨S_, .f32⟩
  | 38 => ⟨S2x2048x4, .f32⟩
  | 39 => ⟨S2x2048x4x1, .f32⟩
  | 40 => ⟨S2x2048x4x512, .f32⟩
  | 41 => ⟨S2x2048x4x512, .f32⟩
  | 42 => ⟨S2x2048x4x1, .f32⟩
  | 43 => ⟨S_, .f32⟩
  | 44 => ⟨S2x2048x4x1, .f32⟩
  | 45 => ⟨S2x2048x4x1, .f32⟩
  | 46 => ⟨S_, .f32⟩
  | 47 => ⟨S2x2048x4, .f32⟩
  | 48 => ⟨S2x2048x4x512, .f32⟩
  | 49 => ⟨S2x2048x4x512, .f32⟩
  | 50 => ⟨S2x2048x4x512, .f32⟩
  | 51 => ⟨S2x2048x4x512, .f32⟩
  | 52 => ⟨S2x2048x4x512, .f32⟩
  | 53 => ⟨S2x2048x2048, .f32⟩
  | 54 => ⟨S2x2048x2048, .f32⟩
  | 55 => ⟨S2x2048x2048, .f32⟩
  | 56 => ⟨S2x2048x2048, .f32⟩
  | 57 => ⟨S2x2048x2048, .f32⟩
  | 58 => ⟨S2x2048x2048, .f32⟩
  | 59 => ⟨S2x2048x2048, .f32⟩
  | 60 => ⟨S2x2048x4x8x64, .f32⟩
  | 61 => ⟨S2x2048x4x8x64, .f32⟩
  | 62 => ⟨S_, .f32⟩
  | 63 => ⟨S4x8, .f32⟩
  | 64 => ⟨S1x1x4x8x1, .f32⟩
  | 65 => ⟨S2x2048x4x8x64, .f32⟩
  | 66 => ⟨S2x2048x4x8x64, .f32⟩
  | 67 => ⟨S_, .f32⟩
  | 68 => ⟨S4x8, .f32⟩
  | 69 => ⟨S4x8x1, .f32⟩
  | 70 => ⟨S_, .f32⟩
  | 71 => ⟨S4x8, .f32⟩
  | 72 => ⟨S32, .f32⟩
  | 73 => ⟨S2x4x8x64x2048, .f32⟩
  | 74 => ⟨S2x4x8x2048x2048, .f32⟩
  | 75 => ⟨S2x2048x2048x4x8, .f32⟩
  | 76 => ⟨S2x4x8x64x2048, .f32⟩
  | 77 => ⟨S2x2048x4x8x64, .f32⟩
  | 78 => ⟨S2x2048x2048x4x8, .f32⟩
  | 79 => ⟨S2x2048x2048x4x8, .f32⟩
  | 80 => ⟨S2x2048x2048x4x8, .f32⟩
  | 81 => ⟨S_, .f32⟩
  | 82 => ⟨S2x2048x2048x4, .f32⟩
  | 83 => ⟨S2x2048x2048x4x1, .f32⟩
  | 84 => ⟨S_, .f32⟩
  | 85 => ⟨S2x2048x2048x4, .f32⟩
  | 86 => ⟨S2x4x2048x2048, .f32⟩
  | 87 => ⟨S2x4x2048x128, .f32⟩
  | 88 => ⟨S2x2048x4x128, .f32⟩
  | 89 => ⟨S2x4x2048x128, .f32⟩
  | 90 => ⟨S2x2048x4x128, .f32⟩
  | 91 => ⟨S2x2048x2048x4x8, .f32⟩
  | 92 => ⟨S_, .f32⟩
  | 93 => ⟨S2x2048x2048x4x8, .f32⟩
  | 94 => ⟨S2x2048x2048x4x8, .f32⟩
  | 95 => ⟨S_, .f32⟩
  | 96 => ⟨S2x2048x4x8, .f32⟩
  | 97 => ⟨S2x2048x1x4x8, .f32⟩
  | 98 => ⟨S2x2048x2048x4x8, .f32⟩
  | 99 => ⟨S_, .f32⟩
  | 100 => ⟨S2x2048x4x8, .f32⟩
  | 101 => ⟨S2x1x2048x4x8, .f32⟩
  | 102 => ⟨S_, .f32⟩
  | 103 => ⟨S2x2048x4x8, .f32⟩
  | 104 => ⟨S_, .f32⟩
  | 105 => ⟨S2x2048x4x8, .f32⟩
  | 106 => ⟨S2x2048x4x8, .f32⟩
  | 107 => ⟨S2x2048x4x8x64, .f32⟩
  | 108 => ⟨S_, .f32⟩
  | 109 => ⟨S2x2048x4x8, .f32⟩
  | 110 => ⟨S2x2048x4x8x1, .f32⟩
  | 111 => ⟨S2x2048x4x8x64, .f32⟩
  | 112 => ⟨S2x2048x4x8x64, .f32⟩
  | 113 => ⟨S2x2048x4x8x64, .f32⟩
  | 114 => ⟨S_, .f32⟩
  | 115 => ⟨S2x2048x4x8, .f32⟩
  | 116 => ⟨S2x2048x32, .f32⟩
  | 117 => ⟨S2x2048x32, .f32⟩
  | 118 => ⟨S2x2048x512, .f32⟩
  | 119 => ⟨S2x2048x512, .f32⟩
  | 120 => ⟨S2x2048x2048, .f32⟩
  | 121 => ⟨S_, .f32⟩
  | 122 => ⟨S_, .f32⟩
  | 123 => ⟨S2x2048x32, .f32⟩
  | 124 => ⟨S2x2048x32, .f32⟩
  | 125 => ⟨S_, .f32⟩
  | 126 => ⟨S32, .f32⟩
  | 127 => ⟨S1x1x32, .f32⟩
  | _ => ⟨S2x2048x2048, .f32⟩

abbrev hbmTy0_2 (i : Nat) : BufTy := match i % 128 with
  | 0 => ⟨S2x2048x32, .f32⟩
  | 1 => ⟨S2x2048x32, .f32⟩
  | 2 => ⟨S2x2048x32, .f32⟩
  | 3 => ⟨S_, .f32⟩
  | 4 => ⟨S32, .f32⟩
  | 5 => ⟨S32, .f32⟩
  | 6 => ⟨S32, .f32⟩
  | 7 => ⟨S2x2048x32, .f32⟩
  | 8 => ⟨S_, .f32⟩
  | 9 => ⟨S32, .f32⟩
  | 10 => ⟨S1x1x32, .f32⟩
  | 11 => ⟨S_, .f32⟩
  | 12 => ⟨S32, .f32⟩
  | 13 => ⟨S2x2048x4096, .bf16⟩
  | 14 => ⟨S2x2048x2048, .bf16⟩
  | 15 => ⟨S2x2048x5376, .bf16⟩
  | 16 => ⟨S2x2048x11520, .bf16⟩
  | 17 => ⟨S2x2048x4x8, .f32⟩
  | 18 => ⟨S2x4x2048x8, .f32⟩
  | 19 => ⟨S_, .i32⟩
  | 20 => ⟨S_, .f32⟩
  | 21 => ⟨S2x4x2048x128, .f32⟩
  | 22 => ⟨S4x1x512, .f32⟩
  | 23 => ⟨S4x1x8, .f32⟩
  | 24 => ⟨S_, .i32⟩
  | 25 => ⟨S_, .f32⟩
  | 26 => ⟨S4x1x128, .f32⟩
  | 27 => ⟨S4x1x8, .f32⟩
  | 28 => ⟨S_, .i32⟩
  | 29 => ⟨S_, .f32⟩
  | 30 => ⟨S4x1x128, .f32⟩
  | 31 => ⟨S4x1x8, .f32⟩
  | 32 => ⟨S_, .i32⟩
  | 33 => ⟨S_, .f32⟩
  | 34 => ⟨S4x1x128, .f32⟩
  | _ => ⟨S2x2048x2048, .f32⟩

abbrev hbmTy (i : Nat) : BufTy := match i / 128 with
  | 0 => hbmTy0_0 i
  | 1 => hbmTy0_1 i
  | 2 => hbmTy0_2 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v12_0 : Ref sig .tc := ⟨.hbm, 33, rfl⟩
abbrev main_call0_cst_0 : Ref sig .tc := ⟨.hbm, 34, rfl⟩
abbrev main_call0_v13 : Ref sig .tc := ⟨.hbm, 35, rfl⟩
abbrev main_call0_v14 : Ref sig .tc := ⟨.hbm, 36, rfl⟩
abbrev main_call0_cst_1 : Ref sig .tc := ⟨.hbm, 37, rfl⟩
abbrev main_call0_v15 : Ref sig .tc := ⟨.hbm, 38, rfl⟩
abbrev main_call0_v16 : Ref sig .tc := ⟨.hbm, 39, rfl⟩
abbrev main_call0_cst_2 : Ref sig .tc := ⟨.hbm, 40, rfl⟩
abbrev main_call0_v17 : Ref sig .tc := ⟨.hbm, 41, rfl⟩
abbrev main_call0_v18 : Ref sig .tc := ⟨.hbm, 42, rfl⟩
abbrev main_call0_cst_3 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_v12_1 : Ref sig .tc := ⟨.hbm, 47, rfl⟩
abbrev main_call0_cst_4 : Ref sig .tc := ⟨.hbm, 48, rfl⟩
abbrev main_call0_cst_5 : Ref sig .tc := ⟨.hbm, 49, rfl⟩
abbrev main_call0_v23 : Ref sig .tc := ⟨.hbm, 50, rfl⟩
abbrev main_call0_cst_6 : Ref sig .tc := ⟨.hbm, 51, rfl⟩
abbrev main_call0_cst_7 : Ref sig .tc := ⟨.hbm, 52, rfl⟩
abbrev main_call0_v24 : Ref sig .tc := ⟨.hbm, 53, rfl⟩
abbrev main_call0_cst_8 : Ref sig .tc := ⟨.hbm, 54, rfl⟩
abbrev main_call0_v25 : Ref sig .tc := ⟨.hbm, 55, rfl⟩
abbrev main_call0_v26 : Ref sig .tc := ⟨.hbm, 56, rfl⟩
abbrev main_call0_cst_9 : Ref sig .tc := ⟨.hbm, 57, rfl⟩
abbrev main_call0_v27 : Ref sig .tc := ⟨.hbm, 58, rfl⟩
abbrev main_call0_v28 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_cst_10 : Ref sig .tc := ⟨.hbm, 63, rfl⟩
abbrev main_call0_v32 : Ref sig .tc := ⟨.hbm, 64, rfl⟩
abbrev main_v12_2 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_call1_call0_cst : Ref sig .tc := ⟨.hbm, 74, rfl⟩
abbrev main_call1_call0_v0 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_cst : Ref sig .tc := ⟨.hbm, 97, rfl⟩
abbrev main_call2_v0 : Ref sig .tc := ⟨.hbm, 98, rfl⟩
abbrev main_v42_1 : Ref sig .tc := ⟨.hbm, 99, rfl⟩
abbrev main_call2_v2 : Ref sig .tc := ⟨.hbm, 100, rfl⟩
abbrev main_v42_0 : Ref sig .tc := ⟨.hbm, 101, rfl⟩
abbrev main_call2_cst : Ref sig .tc := ⟨.hbm, 102, rfl⟩
abbrev main_v42_2 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_v58_2 : Ref sig .tc := ⟨.hbm, 126, rfl⟩
abbrev main_call3_cst_1 : Ref sig .tc := ⟨.hbm, 127, rfl⟩
abbrev main_call3_v6 : Ref sig .tc := ⟨.hbm, 128, rfl⟩
abbrev main_call3_v7 : Ref sig .tc := ⟨.hbm, 129, rfl⟩
abbrev main_v58_1 : Ref sig .tc := ⟨.hbm, 130, rfl⟩
abbrev main_v58_0 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_0 : Ref sig .tc := ⟨.hbm, 135, rfl⟩
abbrev main_v62 : Ref sig .tc := ⟨.hbm, 136, rfl⟩
abbrev main_v63 : Ref sig .tc := ⟨.hbm, 137, rfl⟩
abbrev main_cst_1 : Ref sig .tc := ⟨.hbm, 138, rfl⟩
abbrev main_v64 : Ref sig .tc := ⟨.hbm, 139, rfl⟩
abbrev main_v65 : Ref sig .tc := ⟨.hbm, 140, rfl⟩
abbrev main_cst_2 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_3 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_cst_4 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_cst_5 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_cst_6 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_cst_7 : Ref sig .tc := ⟨.hbm, 171, rfl⟩
abbrev main_v91 : Ref sig .tc := ⟨.hbm, 172, rfl⟩
abbrev main_v92 : Ref sig .tc := ⟨.hbm, 173, rfl⟩
abbrev main_cst_8 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_call4_v0 : Ref sig .tc := ⟨.hbm, 184, rfl⟩
abbrev main_call4_v1 : Ref sig .tc := ⟨.hbm, 185, rfl⟩
abbrev main_call4_v2 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_cst_9 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_cst_10 : Ref sig .tc := ⟨.hbm, 195, rfl⟩
abbrev main_v109 : Ref sig .tc := ⟨.hbm, 196, rfl⟩
abbrev main_v110 : Ref sig .tc := ⟨.hbm, 197, rfl⟩
abbrev main_cst_11 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_cst_12 : Ref sig .tc := ⟨.hbm, 209, rfl⟩
abbrev main_v121 : Ref sig .tc := ⟨.hbm, 210, rfl⟩
abbrev main_v122 : Ref sig .tc := ⟨.hbm, 211, rfl⟩
abbrev main_cst_13 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_call5_cst : Ref sig .tc := ⟨.hbm, 220, rfl⟩
abbrev main_call5_v0 : Ref sig .tc := ⟨.hbm, 221, rfl⟩
abbrev main_v130 : Ref sig .tc := ⟨.hbm, 222, rfl⟩
abbrev main_cst_14 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_cst_15 : Ref sig .tc := ⟨.hbm, 227, rfl⟩
abbrev main_v134 : Ref sig .tc := ⟨.hbm, 228, rfl⟩
abbrev main_v135 : Ref sig .tc := ⟨.hbm, 229, rfl⟩
abbrev main_cst_16 : Ref sig .tc := ⟨.hbm, 230, rfl⟩
abbrev main_v136 : Ref sig .tc := ⟨.hbm, 231, rfl⟩
abbrev main_cst_17 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_cst_18 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_cst_19 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_call6_call0_cst : Ref sig .tc := ⟨.hbm, 249, rfl⟩
abbrev main_call6_call0_v0 : Ref sig .tc := ⟨.hbm, 250, rfl⟩
abbrev main_v151 : Ref sig .tc := ⟨.hbm, 251, rfl⟩
abbrev main_v152 : Ref sig .tc := ⟨.hbm, 252, rfl⟩
abbrev main_cst_20 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_cst_21 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_cst_22 : Ref sig .tc := ⟨.hbm, 264, rfl⟩
abbrev main_v162 : Ref sig .tc := ⟨.hbm, 265, rfl⟩
abbrev main_v163 : Ref sig .tc := ⟨.hbm, 266, rfl⟩
abbrev main_cst_23 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_c : Ref sig .tc := ⟨.hbm, 275, rfl⟩
abbrev main_call8_v0 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_c_24 : Ref sig .tc := ⟨.hbm, 280, rfl⟩
abbrev main_call9_v0 : Ref sig .tc := ⟨.hbm, 281, rfl⟩
abbrev main_v174 : Ref sig .tc := ⟨.hbm, 282, rfl⟩
abbrev main_v175 : Ref sig .tc := ⟨.hbm, 283, rfl⟩
abbrev main_c_25 : Ref sig .tc := ⟨.hbm, 284, rfl⟩
abbrev main_call10_v0 : Ref sig .tc := ⟨.hbm, 285, rfl⟩
abbrev main_v176 : Ref sig .tc := ⟨.hbm, 286, rfl⟩
abbrev main_v177 : Ref sig .tc := ⟨.hbm, 287, rfl⟩
abbrev main_c_26 : Ref sig .tc := ⟨.hbm, 288, rfl⟩
abbrev main_call11_v0 : Ref sig .tc := ⟨.hbm, 289, rfl⟩
abbrev main_v178 : Ref sig .tc := ⟨.hbm, 290, rfl⟩

abbrev nD : Nat := 1
abbrev τ : Topo := Topo.v7x

variable {F : FTy → Type} [FloatOps F]
-- ==== Kernel2.lean ====
abbrev S4096x11520 : Shape := ⟨2, ![4096, 11520]⟩
abbrev S11520x1024 : Shape := ⟨2, ![11520, 1024]⟩
abbrev S4096x1024 : Shape := ⟨2, ![4096, 1024]⟩
abbrev S2048x1280 : Shape := ⟨2, ![2048, 1280]⟩
abbrev S1280x1024 : Shape := ⟨2, ![1280, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x11520, .bf16⟩
  | .hbm, ⟨1, _⟩ => ⟨S11520x1024, .bf16⟩
  | .hbm, ⟨2, _⟩ => ⟨S4096x1024, .f32⟩
  | .local _ .vmem, ⟨0, _⟩ => ⟨S2048x1280, .bf16⟩
  | .local _ .vmem, ⟨1, _⟩ => ⟨S2048x1280, .bf16⟩
  | .local _ .vmem, ⟨2, _⟩ => ⟨S1280x1024, .bf16⟩
  | .local _ .vmem, ⟨3, _⟩ => ⟨S1280x1024, .bf16⟩
  | .local _ .vmem, ⟨4, _⟩ => ⟨S2048x1024, .f32⟩
  | .local _ .vmem, ⟨5, _⟩ => ⟨S2048x1024, .f32⟩
  | _, _ => ⟨S4096x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x11520 : Shape := ⟨2, ![4096, 11520]⟩
abbrev S11520x1024 : Shape := ⟨2, ![11520, 1024]⟩
abbrev S_ : Shape := ⟨0, ![]⟩
abbrev S4096x1024 : Shape := ⟨2, ![4096, 1024]⟩
abbrev S1024x11520 : Shape := ⟨2, ![1024, 11520]⟩

abbrev nBuf : Space → Nat
  | .hbm => 9
  | .vmem => 0
  | .smem => 0
  | _ => 0

abbrev bufTy : (tb : Table) → Fin (tcTables nBuf tb) → BufTy
  | .hbm, ⟨0, _⟩ => ⟨S4096x11520, .bf16⟩
  | .hbm, ⟨1, _⟩ => ⟨S11520x1024, .bf16⟩
  | .hbm, ⟨2, _⟩ => ⟨S_, .f32⟩
  | .hbm, ⟨3, _⟩ => ⟨S4096x1024, .f32⟩
  | .hbm, ⟨4, _⟩ => ⟨S11520x1024, .f32⟩
  | .hbm, ⟨5, _⟩ => ⟨S1024x11520, .f32⟩
  | .hbm, ⟨6, _⟩ => ⟨S4096x11520, .f32⟩
  | .hbm, ⟨7, _⟩ => ⟨S4096x11520, .f32⟩
  | .hbm, ⟨8, _⟩ => ⟨S4096x1024, .f32⟩
  | _, _ => ⟨S4096x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x11520 : Shape := ⟨2, ![4096, 11520]⟩
abbrev S4096x1024 : Shape := ⟨2, ![4096, 1024]⟩
abbrev S11520x1024 : Shape := ⟨2, ![11520, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x11520, .bf16⟩
  | .hbm, ⟨1, _⟩ => ⟨S4096x1024, .bf16⟩
  | .hbm, ⟨2, _⟩ => ⟨S11520x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | .local _ .vmem, ⟨5, _⟩ => ⟨S1280x1024, .f32⟩
  | _, _ => ⟨S4096x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x11520 : Shape := ⟨2, ![4096, 11520]⟩
abbrev S4096x1024 : Shape := ⟨2, ![4096, 1024]⟩
abbrev S_ : Shape := ⟨0, ![]⟩
abbrev S11520x1024 : Shape := ⟨2, ![11520, 1024]⟩
abbrev S1024x11520 : Shape := ⟨2, ![1024, 11520]⟩

abbrev nBuf : Space → Nat
  | .hbm => 11
  | .vmem => 0
  | .smem => 0
  | _ => 0

abbrev bufTy : (tb : Table) → Fin (tcTables nBuf tb) → BufTy
  | .hbm, ⟨0, _⟩ => ⟨S4096x11520, .bf16⟩
  | .hbm, ⟨1, _⟩ => ⟨S4096x1024, .bf16⟩
  | .hbm, ⟨2, _⟩ => ⟨S_, .f32⟩
  | .hbm, ⟨3, _⟩ => ⟨S11520x1024, .f32⟩
  | .hbm, ⟨4, _⟩ => ⟨S4096x1024, .f32⟩
  | .hbm, ⟨5, _⟩ => ⟨S1024x11520, .f32⟩
  | .hbm, ⟨6, _⟩ => ⟨S4096x11520, .f32⟩
  | .hbm, ⟨7, _⟩ => ⟨S4096x11520, .f32⟩
  | .hbm, ⟨8, _⟩ => ⟨S11520x1024, .f32⟩
  | .hbm, ⟨9, _⟩ => ⟨S1024x11520, .f32⟩
  | .hbm, ⟨10, _⟩ => ⟨S11520x1024, .f32⟩
  | _, _ => ⟨S4096x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x1024 : Shape := ⟨2, ![4096, 1024]⟩
abbrev S11520x1024 : Shape := ⟨2, ![11520, 1024]⟩
abbrev S4096x11520 : Shape := ⟨2, ![4096, 11520]⟩
abbrev S2048x1024 : Shape := ⟨2, ![2048, 1024]⟩
abbrev S1280x1024 : Shape := ⟨2, ![1280, 1024]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S11520x1024, .bf16⟩
  | .hbm, ⟨2, _⟩ => ⟨S4096x11520, .f32⟩
  | .local _ .vmem, ⟨0, _⟩ => ⟨S2048x1024, .bf16⟩
  | .local _ .vmem, ⟨1, _⟩ => ⟨S2048x1024, .bf16⟩
  | .local _ .vmem, ⟨2, _⟩ => ⟨S1280x1024, .bf16⟩
  | .local _ .vmem, ⟨3, _⟩ => ⟨S1280x1024, .bf16⟩
  | .local _ .vmem, ⟨4, _⟩ => ⟨S2048x1280, .f32⟩
  | .local _ .vmem, ⟨5, _⟩ => ⟨S2048x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S11520x1024 : Shape := ⟨2, ![11520, 1024]⟩
abbrev S1024x11520 : Shape := ⟨2, ![1024, 11520]⟩
abbrev S4096x11520 : Shape := ⟨2, ![4096, 11520]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S11520x1024, .bf16⟩
  | .hbm, ⟨2, _⟩ => ⟨S4096x1024, .f32⟩
  | .hbm, ⟨3, _⟩ => ⟨S11520x1024, .f32⟩
  | .hbm, ⟨4, _⟩ => ⟨S1024x11520, .f32⟩
  | .hbm, ⟨5, _⟩ => ⟨S4096x11520, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Host.lean ====
module
public import proofs.«01_k».proof.Proof.Gen.KernelIdeal.Frame
public import proofs.«01_k».proof.Proof.Gen.ReferenceIdeal.Read
public import Idealize.ShloMosaic.Lib.Pipeline.Value
public import Idealize.ShloMosaic.Lib.Pipeline.ValueKit
public import Idealize.ShloMosaic.Lib.Tactic
public import Idealize.ShloMosaic.Lib.StableHlo.RunRead

@[expose] public section
set_option maxRecDepth 16384

noncomputable section
namespace Cert.KernelIdeal.Host
open Cert.KernelIdeal Cert.KernelIdeal.Gen Idealize.ShloMosaic Idealize.ShloMosaic.TcCoe
variable {F : FTy → Type} [FloatOps F]
variable (m : (ℓ : Loc nD τ sig) → Buf (Elt F) ℓ)

theorem dtb_eq (c : Dev nD) : V m c main_v58 = shapeCast _ (pad S4x128 ![0, 0] ![0, 120] ![0, 0] (shapeCast S4x8 (m ((c : Thread nD τ).loc main_arg3)) shapeCasts_S1x32_S4x8) (sitofp .f32 (constantI S_ 32 0#32)) pads_S4x8_S4x128_000_01200 h_S_) shapeCasts_S4x128_S4x1x128 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

theorem y_eq (c : Dev nD) : V m c main_v55 = Cert.ReferenceIdeal.Read.val_main_v57 (F := F) (m ((c : Thread nD τ).loc main_arg1)) (m ((c : Thread nD τ).loc main_arg2)) (m ((c : Thread nD τ).loc main_arg3)) (m ((c : Thread nD τ).loc main_arg4)) (m ((c : Thread nD τ).loc main_arg5)) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

theorem dproj_eq (c : Dev nD) : V m c main_v104_3 = m ((c : Thread nD τ).loc main_arg7) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

theorem alog_eq (c : Dev nD) : V m c main_v61 = shapeCast _ (pad S4x128 ![0, 0] ![0, 120] ![0, 0] (shapeCast S4x8 (m ((c : Thread nD τ).loc main_arg4)) shapeCasts_S1x32_S4x8) (sitofp .f32 (constantI S_ 32 0#32)) pads_S4x8_S4x128_000_01200 h_S_) shapeCasts_S4x128_S4x1x128 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

end Cert.KernelIdeal.Host
end
-- ==== Proof.Ops.lean ====
module
public import proofs.«01_k».proof.Proof.Gen.KernelIdeal.Frame
public import Idealize.ShloMosaic.Lib.Pipeline.Value
public import Idealize.ShloMosaic.Lib.ValueIdx
public import Idealize.ShloMosaic.Lib.MatmulPlain

/-! Vectors of real numbers at the ideal values: a vector whose element at each index is a real number, given by a
    function of the natural number coordinates, and what each operation of the kernel's body does to that function. -/

@[expose] public section
set_option maxRecDepth 16384

noncomputable section
namespace Ssd
open Idealize.ShloMosaic Idealize.ShloMosaic.ValueIdx
open scoped BigOperators

variable {n m k : ℕ} {φ ψ : FTy}

/-- The vector `v` has the real number `f r` at `r`. -/
def R1 (v : FVec Ideal ⟨1, ![n]⟩ φ) (f : ℕ → ℝ) : Prop := ∀ r : Fin n, v (ix1 r) = ((f r : ℝ) : EReal)
/-- The matrix `v` has the real number `f r c` at row `r` and column `c`. -/
def R2 (v : FVec Ideal ⟨2, ![n, m]⟩ φ) (f : ℕ → ℕ → ℝ) : Prop :=
  ∀ (r : Fin n) (c : Fin m), v (ix2 r c) = ((f r c : ℝ) : EReal)
/-- A block of one matrix. -/
def R3 (v : FVec Ideal ⟨3, ![1, n, m]⟩ φ) (f : ℕ → ℕ → ℝ) : Prop :=
  ∀ (a : Fin 1) (r : Fin n) (c : Fin m), v (ix3 a r c) = ((f r c : ℝ) : EReal)
/-- A block of one matrix, of rank four. -/
def R4 (v : FVec Ideal ⟨4, ![1, 1, n, m]⟩ φ) (f : ℕ → ℕ → ℝ) : Prop :=
  ∀ (a b : Fin 1) (r : Fin n) (c : Fin m), v (ix4 a b r c) = ((f r c : ℝ) : EReal)
/-- A block of one matrix, of rank five. -/
def R5 (v : FVec Ideal ⟨5, ![1, 1, 1, n, m]⟩ φ) (f : ℕ → ℕ → ℝ) : Prop :=
  ∀ (a b d : Fin 1) (r : Fin n) (c : Fin m), v (ix5 a b d r c) = ((f r c : ℝ) : EReal)
/-- The mask `v` is set exactly where `p` holds. -/
def M2 (v : IVec ⟨2, ![n, m]⟩ 1) (p : ℕ → ℕ → Prop) : Prop :=
  ∀ (r : Fin n) (c : Fin m), v (ix2 r c) = 1#1 ↔ p r c

theorem R2.congr {v : FVec Ideal ⟨2, ![n, m]⟩ φ} {f g : ℕ → ℕ → ℝ} (h : R2 v f)
    (e : ∀ r c, r < n → c < m → f r c = g r c) : R2 v g := fun r c => by rw [h r c, e r c r.isLt c.isLt]

theorem R2.broadcast {x : EReal} {y : ℝ} (h : x = (y : EReal)) :
    R2 (φ := φ) (Idealize.ShloMosaic.broadcast ⟨2, ![n, m]⟩ x : FVec Ideal ⟨2, ![n, m]⟩ φ) (fun _ _ => y) := fun _ _ => h

section elementwise
variable {a b : FVec Ideal ⟨2, ![n, m]⟩ φ} {f g : ℕ → ℕ → ℝ}

theorem R2.add (ha : R2 a f) (hb : R2 b g) : R2 (addf a b) (fun r c => f r c + g r c) := fun r c => by
  rw [addf_apply, ha r c, hb r c, EReal.coe_add]
theorem R2.sub (ha : R2 a f) (hb : R2 b g) : R2 (subf a b) (fun r c => f r c - g r c) := fun r c => by
  rw [subf_apply, ha r c, hb r c, EReal.coe_sub]
theorem R2.mul (ha : R2 a f) (hb : R2 b g) : R2 (mulf a b) (fun r c => f r c * g r c) := fun r c => by
  rw [mulf_apply, ha r c, hb r c, EReal.coe_mul]
theorem R2.max (ha : R2 a f) (hb : R2 b g) : R2 (maximumf a b) (fun r c => Max.max (f r c) (g r c)) := fun r c => by
  rw [maximumf_apply, ha r c, hb r c, EReal.coe_strictMono.monotone.map_max]
theorem R2.min (ha : R2 a f) (hb : R2 b g) : R2 (minimumf a b) (fun r c => Min.min (f r c) (g r c)) := fun r c => by
  rw [minimumf_apply, ha r c, hb r c, EReal.coe_strictMono.monotone.map_min]
theorem R2.div (ha : R2 a f) (hb : R2 b g) (h : ∀ r c, r < n → c < m → g r c ≠ 0) :
    R2 (divf a b) (fun r c => f r c / g r c) := fun r c => by
  rw [divf_apply, ha r c, hb r c, Ideal.div_coe (h r c r.isLt c.isLt), ← EReal.coe_mul, mul_one_div]
theorem R2.exp (ha : R2 a f) : R2 (Idealize.ShloMosaic.exp a) (fun r c => Real.exp (f r c)) := fun r c => by
  show Ideal.exp (a (ix2 r c)) = _
  rw [ha r c, Ideal.exp_coe]
theorem R2.log (ha : R2 a f) (h : ∀ r c, r < n → c < m → 0 < f r c) :
    R2 (Idealize.ShloMosaic.log a) (fun r c => Real.log (f r c)) := fun r c => by
  show Ideal.log (a (ix2 r c)) = _
  rw [ha r c, Ideal.log_coe, if_neg (not_le.2 (h r c r.isLt c.isLt))]
theorem R2.rsqrt (ha : R2 a f) (h : ∀ r c, r < n → c < m → 0 < f r c) :
    R2 (Idealize.ShloMosaic.rsqrt a) (fun r c => (Real.sqrt (f r c))⁻¹) := fun r c => by
  show Ideal.rsqrt (a (ix2 r c)) = _
  have := h r c r.isLt c.isLt
  rw [ha r c, Ideal.rsqrt_coe, if_neg (not_lt.2 this.le), if_neg this.ne']
theorem R2.abs (ha : R2 a f) : R2 (absf a) (fun r c => |f r c|) := fun r c => by
  show Max.max (a (ix2 r c)) (-a (ix2 r c)) = ((Max.max (f r c) (-f r c) : ℝ) : EReal)
  rw [ha r c, EReal.coe_strictMono.monotone.map_max, EReal.coe_neg]
theorem R2.trunc (h : ψ.bits < φ.bits) (ha : R2 a f) : R2 (truncf ψ a h) f := ha
theorem R2.ext (h : φ.bits < ψ.bits) (ha : R2 a f) : R2 (extf ψ a h) f := ha
theorem R2.select {p : IVec ⟨2, ![n, m]⟩ 1} {q : ℕ → ℕ → Prop} [∀ r c, Decidable (q r c)] (hp : M2 p q) (ha : R2 a f) (hb : R2 b g) :
    R2 (Idealize.ShloMosaic.select p a b) (fun r c => if q r c then f r c else g r c) := fun r c => by
  show Scalar.select (p (ix2 r c)) (a (ix2 r c)) (b (ix2 r c)) = ((if q r c then f r c else g r c : ℝ) : EReal)
  unfold Scalar.select
  have := hp r c
  by_cases h : q r c
  · rw [if_pos h, this.2 h]; exact ha r c
  · rw [if_neg h, if_neg (show ¬ p (ix2 r c) = 1 from fun e => h (this.1 e)), hb r c]
/-- A mask as a matrix of zeros and ones. -/
theorem R2.ofMask {p : IVec ⟨2, ![n, m]⟩ 1} {q : ℕ → ℕ → Prop} [∀ r c, Decidable (q r c)] (hp : M2 p q) (h : 1 < 32) :
    R2 (sitofp φ (extui 32 p h) : FVec Ideal ⟨2, ![n, m]⟩ φ) (fun r c => if q r c then 1 else 0) := fun r c => by
  show (((((p (ix2 r c)).setWidth 32).toInt : ℝ)) : EReal) = ((if q r c then 1 else 0 : ℝ) : EReal)
  have := hp r c
  by_cases h : q r c
  · rw [if_pos h, this.2 h]; norm_num
  · rw [if_neg h]
    have : p (ix2 r c) = 0#1 := by
      rcases BitVec.eq_zero_or_eq_one (p (ix2 r c)) with e | e
      · exact e
      · exact absurd (this.1 e) h
    rw [this]; norm_num
end elementwise

section layout
variable {f : ℕ → ℕ → ℝ}

theorem R2.of3 {v : FVec Ideal ⟨3, ![1, n, m]⟩ φ} (hv : R3 v f) (h) : R2 (shapeCast ⟨2, ![n, m]⟩ v h : FVec Ideal _ φ) f := fun r c => by
  rw [← hv 0 r c]
  exact shapeCast_apply v h (ix2 r c) (ix3 0 r c) (by rw [Shape.rowMajor_val_three, Shape.rowMajor_val_two]; show (0 * n + r.val) * m + c.val = r.val * m + c.val; simp)
theorem R2.to3 {v : FVec Ideal ⟨2, ![n, m]⟩ φ} (hv : R2 v f) (h) : R3 (shapeCast ⟨3, ![1, n, m]⟩ v h : FVec Ideal _ φ) f := fun a r c => by
  rw [← hv r c]
  exact shapeCast_apply v h (ix3 a r c) (ix2 r c) (by rw [Shape.rowMajor_val_three, Shape.rowMajor_val_two]; show r.val * m + c.val = (a.val * n + r.val) * m + c.val; simp)
theorem R2.of4 {v : FVec Ideal ⟨4, ![1, 1, n, m]⟩ φ} (hv : R4 v f) (h) : R2 (shapeCast ⟨2, ![n, m]⟩ v h : FVec Ideal _ φ) f := fun r c => by
  rw [← hv 0 0 r c]
  exact shapeCast_apply v h (ix2 r c) (ix4 0 0 r c) (by rw [Shape.rowMajor_val_four, Shape.rowMajor_val_two]; show ((0 * 1 + 0) * n + r.val) * m + c.val = r.val * m + c.val; simp)
theorem R2.to4 {v : FVec Ideal ⟨2, ![n, m]⟩ φ} (hv : R2 v f) (h) : R4 (shapeCast ⟨4, ![1, 1, n, m]⟩ v h : FVec Ideal _ φ) f := fun a b r c => by
  rw [← hv r c]
  exact shapeCast_apply v h (ix4 a b r c) (ix2 r c) (by rw [Shape.rowMajor_val_four, Shape.rowMajor_val_two]; show r.val * m + c.val = ((a.val * 1 + b.val) * n + r.val) * m + c.val; simp)
theorem R2.of5 {v : FVec Ideal ⟨5, ![1, 1, 1, n, m]⟩ φ} (hv : R5 v f) (h) : R2 (shapeCast ⟨2, ![n, m]⟩ v h : FVec Ideal _ φ) f := fun r c => by
  rw [← hv 0 0 0 r c]
  exact shapeCast_apply v h (ix2 r c) (ix5 0 0 0 r c) (by rw [Shape.rowMajor_val_five, Shape.rowMajor_val_two]; show (((0 * 1 + 0) * 1 + 0) * n + r.val) * m + c.val = r.val * m + c.val; simp)
/-- A vector as a column. -/
theorem R1.col {v : FVec Ideal ⟨1, ![n]⟩ φ} {f : ℕ → ℝ} (hv : R1 v f) (h) :
    R2 (shapeCast ⟨2, ![n, 1]⟩ v h : FVec Ideal _ φ) (fun r _ => f r) := fun r c => by
  rw [← hv r]
  exact shapeCast_apply v h (ix2 r c) (ix1 r) (by rw [Shape.rowMajor_val_two, Shape.rowMajor_val_one]; show r.val = r.val * 1 + c.val; simp)
/-- A vector as a row. -/
theorem R1.row {v : FVec Ideal ⟨1, ![n]⟩ φ} {f : ℕ → ℝ} (hv : R1 v f) (h) :
    R2 (shapeCast ⟨2, ![1, n]⟩ v h : FVec Ideal _ φ) (fun _ c => f c) := fun r c => by
  rw [← hv c]
  exact shapeCast_apply v h (ix2 r c) (ix1 c) (by rw [Shape.rowMajor_val_two, Shape.rowMajor_val_one]; show c.val = r.val * n + c.val; simp)
/-- A column repeated along the rows. -/
theorem R2.bcol {v : FVec Ideal ⟨2, ![n, 1]⟩ φ} (hv : R2 v f) (h) :
    R2 (broadcastTo ⟨2, ![n, m]⟩ v h : FVec Ideal _ φ) (fun r _ => f r 0) := fun r c => by
  refine (broadcastTo_apply v h (ix2 r c) (ix2 r 0) (fun a => ?_)).trans (hv r 0)
  match a with
  | ⟨0, _⟩ =>
    show r.val = if n = 1 then 0 else r.val
    split
    · have := r.isLt; omega
    · rfl
  | ⟨1, _⟩ => rfl
/-- A row repeated down the columns. -/
theorem R2.brow {v : FVec Ideal ⟨2, ![1, m]⟩ φ} (hv : R2 v f) (h) :
    R2 (broadcastTo ⟨2, ![n, m]⟩ v h : FVec Ideal _ φ) (fun _ c => f 0 c) := fun r c => by
  refine (broadcastTo_apply v h (ix2 r c) (ix2 0 c) (fun a => ?_)).trans (hv 0 c)
  match a with
  | ⟨0, _⟩ => rfl
  | ⟨1, _⟩ =>
    show c.val = if m = 1 then 0 else c.val
    split
    · have := c.isLt; omega
    · rfl
theorem R2.transp {v : FVec Ideal ⟨2, ![n, m]⟩ φ} (hv : R2 v f) (h) :
    R2 (transpose ⟨2, ![m, n]⟩ [1, 0] v h : FVec Ideal _ φ) (fun r c => f c r) := fun r c => by
  refine (transpose_apply [1, 0] v h (ix2 r c) (ix2 c r) (fun b => ?_)).trans (hv c r)
  match b with
  | ⟨0, _⟩ => rfl
  | ⟨1, _⟩ => rfl
theorem R2.slice {n' m' : ℕ} {v : FVec Ideal ⟨2, ![n, m]⟩ φ} (hv : R2 v f) (o : Fin 2 → ℕ) (h) :
    R2 (extractStridedSlice ⟨2, ![n', m']⟩ o v h : FVec Ideal _ φ) (fun r c => f (o 0 + r) (o 1 + c)) := fun r c => by
  have h0 : o 0 + n' ≤ n := h.2 0
  have h1 : o 1 + m' ≤ m := h.2 1
  refine (extractStridedSlice_apply o v h (ix2 r c) (ix2 ⟨o 0 + r, by omega⟩ ⟨o 1 + c, by omega⟩) (fun a => ?_)).trans (hv _ _)
  match a with
  | ⟨0, _⟩ => rfl
  | ⟨1, _⟩ => rfl
end layout

/-- A sum of real numbers, taken at the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_fin_coe (f : ℕ → ℝ) : ∑ i : Fin n, ((f i : ℝ) : EReal) = ((∑ i ∈ Finset.range n, f i : ℝ) : EReal) := by
  rw [coe_sum, Finset.sum_range]

/-- The sum along each row. -/
theorem R2.sumCols {v : FVec Ideal ⟨2, ![n, m]⟩ φ} {f : ℕ → ℕ → ℝ} (hv : R2 v f) (acc : BitVec φ.bits)
    (h : (⟨2, ![n, m]⟩ : Shape).Reduces [1] ⟨1, ![n]⟩) (hφ) (hacc) :
    R1 (multiReduction .add [1] ⟨1, ![n]⟩ v acc h hφ hacc) (fun r => ∑ c ∈ Finset.range m, f r c) := fun r => by
  rw [Ideal.multiReduction_add_single, ← sum_fin_coe]
  refine Finset.sum_congr rfl fun c _ => ?_
  have : h.lift (ix1 r) c = ix2 r c := funext fun a => Fin.ext (by
    match a with
    | ⟨0, _⟩ => rfl
    | ⟨1, _⟩ => rfl)
  rw [this]
  exact hv r c
/-- The sum down each column. -/
theorem R2.sumRows {v : FVec Ideal ⟨2, ![n, m]⟩ φ} {f : ℕ → ℕ → ℝ} (hv : R2 v f) (acc : BitVec φ.bits)
    (h : (⟨2, ![n, m]⟩ : Shape).Reduces [0] ⟨1, ![m]⟩) (hφ) (hacc) :
    R1 (multiReduction .add [0] ⟨1, ![m]⟩ v acc h hφ hacc) (fun c => ∑ r ∈ Finset.range n, f r c) := fun c => by
  rw [Ideal.multiReduction_add_single, ← sum_fin_coe (fun r => f r c)]
  refine Finset.sum_congr rfl fun r _ => ?_
  have : h.lift (ix1 c) r = ix2 r c := funext fun a => Fin.ext (by
    match a with
    | ⟨0, _⟩ => rfl
    | ⟨1, _⟩ => rfl)
  rw [this]
  exact hv r c

section products
variable {f g : ℕ → ℕ → ℝ} {φ₁ φ₂ : FTy}

/-- Rows times columns. -/
theorem R2.dot10 {w} {a : FVec Ideal ⟨2, ![n, k]⟩ φ₁} {b : FVec Ideal ⟨2, ![k, m]⟩ φ₂} (ha : R2 a f) (hb : R2 b g) (prec) :
    R2 (matmul (⟨[1], [0], [0], [1], [], [], w⟩ : DotDims ⟨2, ![n, k]⟩ ⟨2, ![k, m]⟩ ⟨2, ![n, m]⟩) prec a b
      (constant ⟨2, ![n, m]⟩ .f32 0x00000000#32)) (fun r c => ∑ i ∈ Finset.range k, f r i * g i c) := fun r c => by
  show FloatOps.matmul _ prec a b _ (ix2 r c) = _
  rw [Ideal.matmul_apply, constant_apply, Ideal.ofBits_zero_f32, zero_add,
    ← Equiv.sum_comp (contrEquiv1 (⟨[1], [0], [0], [1], [], [], w⟩ : DotDims _ _ _) k rfl rfl).symm, ← sum_fin_coe (fun i => f r i * g i c)]
  refine Finset.sum_congr rfl fun i _ => ?_
  have c2 := contrEquiv1_symm_val (⟨[1], [0], [0], [1], [], [], w⟩ : DotDims ⟨2, ![n, k]⟩ ⟨2, ![k, m]⟩ ⟨2, ![n, m]⟩) k rfl rfl i
  have el : (⟨[1], [0], [0], [1], [], [], w⟩ : DotDims ⟨2, ![n, k]⟩ ⟨2, ![k, m]⟩ ⟨2, ![n, m]⟩).lhsIdx (ix2 r c) ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have er : (⟨[1], [0], [0], [1], [], [], w⟩ : DotDims ⟨2, ![n, k]⟩ ⟨2, ![k, m]⟩ ⟨2, ![n, m]⟩).rhsIdx (ix2 r c) ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [el, er, ha r i, hb i c, EReal.coe_mul]

/-- Rows times rows. -/
theorem R2.dot11 {w} {a : FVec Ideal ⟨2, ![n, k]⟩ φ₁} {b : FVec Ideal ⟨2, ![m, k]⟩ φ₂} (ha : R2 a f) (hb : R2 b g) (prec) :
    R2 (matmul (⟨[1], [1], [0], [0], [], [], w⟩ : DotDims ⟨2, ![n, k]⟩ ⟨2, ![m, k]⟩ ⟨2, ![n, m]⟩) prec a b
      (constant ⟨2, ![n, m]⟩ .f32 0x00000000#32)) (fun r c => ∑ i ∈ Finset.range k, f r i * g c i) := fun r c => by
  show FloatOps.matmul _ prec a b _ (ix2 r c) = _
  rw [Ideal.matmul_apply, constant_apply, Ideal.ofBits_zero_f32, zero_add,
    ← Equiv.sum_comp (contrEquiv1 (⟨[1], [1], [0], [0], [], [], w⟩ : DotDims _ _ _) k rfl rfl).symm, ← sum_fin_coe (fun i => f r i * g c i)]
  refine Finset.sum_congr rfl fun i _ => ?_
  have c2 := contrEquiv1_symm_val (⟨[1], [1], [0], [0], [], [], w⟩ : DotDims ⟨2, ![n, k]⟩ ⟨2, ![m, k]⟩ ⟨2, ![n, m]⟩) k rfl rfl i
  have el : (⟨[1], [1], [0], [0], [], [], w⟩ : DotDims ⟨2, ![n, k]⟩ ⟨2, ![m, k]⟩ ⟨2, ![n, m]⟩).lhsIdx (ix2 r c) ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have er : (⟨[1], [1], [0], [0], [], [], w⟩ : DotDims ⟨2, ![n, k]⟩ ⟨2, ![m, k]⟩ ⟨2, ![n, m]⟩).rhsIdx (ix2 r c) ((contrEquiv1 _ k rfl rfl).symm i) = ix2 c i := by
    funext ax; apply Fin.ext
    match ax with
    | ⟨0, _⟩ => simp [DotDims.rhsIdx]; rfl
    | ⟨1, _⟩ => simp [DotDims.rhsIdx]; exact c2
  rw [el, er, ha r i, hb c i, EReal.coe_mul]

/-- Columns times columns. -/
theorem R2.dot00 {w} {a : FVec Ideal ⟨2, ![k, n]⟩ φ₁} {b : FVec Ideal ⟨2, ![k, m]⟩ φ₂} (ha : R2 a f) (hb : R2 b g) (prec) :
    R2 (matmul (⟨[0], [0], [1], [1], [], [], w⟩ : DotDims ⟨2, ![k, n]⟩ ⟨2, ![k, m]⟩ ⟨2, ![n, m]⟩) prec a b
      (constant ⟨2, ![n, m]⟩ .f32 0x00000000#32)) (fun r c => ∑ i ∈ Finset.range k, f i r * g i c) := fun r c => by
  show FloatOps.matmul _ prec a b _ (ix2 r c) = _
  rw [Ideal.matmul_apply, constant_apply, Ideal.ofBits_zero_f32, zero_add,
    ← Equiv.sum_comp (contrEquiv1 (⟨[0], [0], [1], [1], [], [], w⟩ : DotDims _ _ _) k rfl rfl).symm, ← sum_fin_coe (fun i => f i r * g i c)]
  refine Finset.sum_congr rfl fun i _ => ?_
  have c2 := contrEquiv1_symm_val (⟨[0], [0], [1], [1], [], [], w⟩ : DotDims ⟨2, ![k, n]⟩ ⟨2, ![k, m]⟩ ⟨2, ![n, m]⟩) k rfl rfl i
  have el : (⟨[0], [0], [1], [1], [], [], w⟩ : DotDims ⟨2, ![k, n]⟩ ⟨2, ![k, m]⟩ ⟨2, ![n, m]⟩).lhsIdx (ix2 r c) ((contrEquiv1 _ k rfl rfl).symm i) = ix2 i r := by
    funext ax; apply Fin.ext
    match ax with
    | ⟨0, _⟩ => simp [DotDims.lhsIdx]; exact c2
    | ⟨1, _⟩ => simp [DotDims.lhsIdx]; rfl
  have er : (⟨[0], [0], [1], [1], [], [], w⟩ : DotDims ⟨2, ![k, n]⟩ ⟨2, ![k, m]⟩ ⟨2, ![n, m]⟩).rhsIdx (ix2 r c) ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [el, er, ha i r, hb i c, EReal.coe_mul]
end products

theorem one_f32 : Ideal.ofBits .f32 0x3F800000#32 = ((1 : ℝ) : EReal) := by simp [Ideal.ofBits, Ideal.ieee, -EReal.coe_mul]; norm_num
theorem c512_f32 : Ideal.ofBits .f32 0x44000000#32 = ((512 : ℝ) : EReal) := by simp [Ideal.ofBits, Ideal.ieee, -EReal.coe_mul]; norm_num
theorem zero_f32 : Ideal.ofBits .f32 0x00000000#32 = ((0 : ℝ) : EReal) := by simp
/-- The small number under the root. -/
def eps : ℝ := (Ideal.ofBits .f32 0x358637BD#32).toReal
theorem eps_f32 : Ideal.ofBits .f32 0x358637BD#32 = (eps : EReal) := by
  unfold eps
  simp [Ideal.ofBits, Ideal.ieee, -EReal.coe_mul]
theorem eps_pos : 0 < eps := by
  unfold eps
  simp [Ideal.ofBits, Ideal.ieee, -EReal.coe_mul]

end Ssd
end
-- ==== Proof.Args.lean ====
module
public import proofs.«01_k».proof.Proof.Ops
public import proofs.«01_k».proof.Pre_finite
public import proofs.«01_k».proof.Proof.Gen.Pre_finite
public import Idealize.ShloMosaic.Lib.ReduceAll

/-! The argument arrays as arrays of real numbers: what the precondition says. -/

@[expose] public section
set_option maxRecDepth 16384

noncomputable section
namespace Ssd
open Idealize.ShloMosaic Idealize.ShloMosaic.ValueIdx

/-- The real numbers the seven float32 arguments hold. -/
structure Args where
  /-- the cotangent of the gated and normalised output, by batch row, time and column -/
  CT : ℕ → ℕ → ℕ → ℝ
  /-- the convolved activations: values, key rows and query rows side by side -/
  X : ℕ → ℕ → ℕ → ℝ
  /-- the projection: the gate's columns and the step's columns are read -/
  P : ℕ → ℕ → ℕ → ℝ
  /-- the step's bias by head -/
  TB : ℕ → ℝ
  /-- the logarithm of the decay rate by head -/
  AL : ℕ → ℝ
  /-- the skip weight by head -/
  SK : ℕ → ℝ
  /-- the norm's weight by column -/
  W : ℕ → ℝ

/-- The arrays hold the real numbers of `a`. -/
structure Args.Of (a : Args) (x0 : FVec Ideal ⟨3, ![2, 2048, 2048]⟩ .f32) (x1 : FVec Ideal ⟨3, ![2, 2048, 3072]⟩ .f32)
    (x2 : FVec Ideal ⟨3, ![2, 2048, 11520]⟩ .f32) (x3 x4 x5 : FVec Ideal ⟨2, ![1, 32]⟩ .f32)
    (x6 : FVec Ideal ⟨2, ![1, 2048]⟩ .f32) : Prop where
  ct : ∀ b t q, x0 (ix3 b t q) = ((a.CT b t q : ℝ) : EReal)
  x : ∀ b t q, x1 (ix3 b t q) = ((a.X b t q : ℝ) : EReal)
  p : ∀ b t q, x2 (ix3 b t q) = ((a.P b t q : ℝ) : EReal)
  tb : ∀ z h, x3 (ix2 z h) = ((a.TB h : ℝ) : EReal)
  al : ∀ z h, x4 (ix2 z h) = ((a.AL h : ℝ) : EReal)
  sk : ∀ z h, x5 (ix2 z h) = ((a.SK h : ℝ) : EReal)
  w : ∀ z h, x6 (ix2 z h) = ((a.W h : ℝ) : EReal)

/-- An element whose absolute value compares below another is a real number. -/
theorem finite_of_lt {s : Shape} (x y : FVec Ideal s .f32) (i : s.Idx)
    (h : cmpf .olt (Host.absf x) y i = 1#1) : ((x i : EReal).toReal : EReal) = x i := by
  have h2 : (max (x i) (-(x i)) : EReal) < y i := by
    have h1 : (if (max (x i) (-(x i)) : EReal) < y i then (1 : BitVec 1) else 0) = 1#1 := by
      refine Eq.trans ?_ h
      show _ = Ideal.cmp .olt (max (x i) (-(x i)) : EReal) (y i)
      by_cases hc : (max (x i) (-(x i)) : EReal) < y i <;> simp [Ideal.cmp, hc]
    by_contra hc
    rw [if_neg hc] at h1
    exact absurd h1 (by decide)
  have h4 := lt_of_lt_of_le h2 le_top
  apply EReal.coe_toReal
  · rintro e; rw [e] at h4; simp at h4
  · rintro e; rw [e] at h4; simp at h4

instance : Subsingleton (Cert.Pre_finite.S_).Idx := ⟨fun a b => funext fun d => d.elim0⟩

/-- Under the precondition the arrays hold real numbers. -/
theorem Args.exists_of (x0 : FVec Ideal ⟨3, ![2, 2048, 2048]⟩ .f32) (x1 : FVec Ideal ⟨3, ![2, 2048, 3072]⟩ .f32)
    (x2 : FVec Ideal ⟨3, ![2, 2048, 11520]⟩ .f32) (x3 x4 x5 : FVec Ideal ⟨2, ![1, 32]⟩ .f32)
    (x6 : FVec Ideal ⟨2, ![1, 2048]⟩ .f32) (x7 : FVec Ideal ⟨3, ![2, 2048, 11520]⟩ .bf16) [Cert.Pre_finite.Facts]
    (h : Cert.Pre_finite.fn (F := Ideal) x0 x1 x2 x3 x4 x5 x6 x7 = (fun _ => 1#1)) :
    ∃ a : Args, a.Of x0 x1 x2 x3 x4 x5 x6 := by
  have h := congrFun h (fun d => d.elim0)
  have split : ∀ u v : IVec Cert.Pre_finite.S_ 1, andi u v (fun d => d.elim0) = 1#1 →
      u (fun d => d.elim0) = 1#1 ∧ v (fun d => d.elim0) = 1#1 := fun u v e => IntOp.andi_eq_one.1 e
  obtain ⟨h, h6⟩ := split _ _ h
  obtain ⟨h, h5⟩ := split _ _ h
  obtain ⟨h, h4⟩ := split _ _ h
  obtain ⟨h, h3⟩ := split _ _ h
  obtain ⟨h, h2⟩ := split _ _ h
  obtain ⟨h0, h1⟩ := split _ _ h
  have r0 := fun i => finite_of_lt x0 _ i (Host.reduce_andi_all _ _ _ _ _ h0 i)
  have r1 := fun i => finite_of_lt x1 _ i (Host.reduce_andi_all _ _ _ _ _ h1 i)
  have r2 := fun i => finite_of_lt x2 _ i (Host.reduce_andi_all _ _ _ _ _ h2 i)
  have r3 := fun i => finite_of_lt x3 _ i (Host.reduce_andi_all _ _ _ _ _ h3 i)
  have r4 := fun i => finite_of_lt x4 _ i (Host.reduce_andi_all _ _ _ _ _ h4 i)
  have r5 := fun i => finite_of_lt x5 _ i (Host.reduce_andi_all _ _ _ _ _ h5 i)
  have r6 := fun i => finite_of_lt x6 _ i (Host.reduce_andi_all _ _ _ _ _ h6 i)
  exact ⟨{ CT := fun b t q => EReal.toReal (x0 (ix3 (Fin.ofNat 2 b) (Fin.ofNat 2048 t) (Fin.ofNat 2048 q)))
           X := fun b t q => EReal.toReal (x1 (ix3 (Fin.ofNat 2 b) (Fin.ofNat 2048 t) (Fin.ofNat 3072 q)))
           P := fun b t q => EReal.toReal (x2 (ix3 (Fin.ofNat 2 b) (Fin.ofNat 2048 t) (Fin.ofNat 11520 q)))
           TB := fun h => EReal.toReal (x3 (ix2 0 (Fin.ofNat 32 h)))
           AL := fun h => EReal.toReal (x4 (ix2 0 (Fin.ofNat 32 h)))
           SK := fun h => EReal.toReal (x5 (ix2 0 (Fin.ofNat 32 h)))
           W := fun h => EReal.toReal (x6 (ix2 0 (Fin.ofNat 2048 h))) },
    { ct := fun b t q => by simpa using (r0 (ix3 b t q)).symm
      x := fun b t q => by simpa using (r1 (ix3 b t q)).symm
      p := fun b t q => by simpa using (r2 (ix3 b t q)).symm
      tb := fun z h => by obtain rfl := Subsingleton.elim z 0; simpa using (r3 (ix2 0 h)).symm
      al := fun z h => by obtain rfl := Subsingleton.elim z 0; simpa using (r4 (ix2 0 h)).symm
      sk := fun z h => by obtain rfl := Subsingleton.elim z 0; simpa using (r5 (ix2 0 h)).symm
      w := fun z h => by obtain rfl := Subsingleton.elim z 0; simpa using (r6 (ix2 0 h)).symm }⟩

end Ssd
end
-- ==== Proof.Gate.lean ====
module
public import proofs.«01_k».proof.Proof.Ops

/-! The gate and the group norm of the body, backward: what the body computes from its blocks of y, z, the cotangent
    and the norm's weight, in real numbers. -/

@[expose] public section
set_option maxRecDepth 16384

noncomputable section
namespace Ssd
open Idealize.ShloMosaic Idealize.ShloMosaic.ValueIdx Cert.KernelIdeal Cert.KernelIdeal.Gen
open scoped BigOperators

/-- The logistic function as the kernel writes it. -/
def sig (z : ℝ) : ℝ := 1 / (1 + Real.exp (0 - z))
theorem sig_eq (z : ℝ) : sig z = (1 + Real.exp (-z))⁻¹ := by unfold sig; rw [zero_sub, one_div]

variable (Y Z D : ℕ → ℕ → ℝ) (W : ℕ → ℝ)

/-- y silu(z). -/
def y2 (r c : ℕ) : ℝ := Y r c * (Z r c * sig (Z r c))
/-- The inverse root of the mean square of a row, plus the small number. -/
def rstd (r : ℕ) : ℝ := (Real.sqrt ((∑ c ∈ Finset.range 512, y2 Y Z r c * y2 Y Z r c) / 512 + eps))⁻¹
/-- The normalized row. -/
def y2h (r c : ℕ) : ℝ := y2 Y Z r c * rstd Y Z r
/-- The gradient of the normalized row's argument. -/
def dy2 (r c : ℕ) : ℝ :=
  rstd Y Z r * (D r c * W c - y2h Y Z r c * ((∑ j ∈ Finset.range 512, D r j * W j * y2h Y Z r j) / 512))
/-- The gradient of z. -/
def dz (r c : ℕ) : ℝ := dy2 Y Z D W r c * Y r c * (sig (Z r c) * (1 + Z r c * (1 - sig (Z r c))))
/-- The gradient of y. -/
def dy (r c : ℕ) : ℝ := dy2 Y Z D W r c * (Z r c * sig (Z r c))

theorem ms_pos (r : ℕ) : 0 < (∑ c ∈ Finset.range 512, y2 Y Z r c * y2 Y Z r c) / 512 + eps :=
  add_pos_of_nonneg_of_pos (div_nonneg (Finset.sum_nonneg fun c _ => mul_self_nonneg _) (by norm_num)) eps_pos

variable {Y Z D W} {x0 x1 x5 : FVec Ideal S1x128x512 .f32} {x11 : FVec Ideal S1x512 .f32}

theorem sg_real (h5 : R3 x5 Z) : R2 (k0_pay27 x5) (fun r c => sig (Z r c)) :=
  (R2.broadcast one_f32).div ((R2.broadcast one_f32).add ((R2.broadcast zero_f32).sub (R2.of3 h5 _)).exp)
    (fun _ _ _ _ => by positivity)
theorem y2_real (h1 : R3 x1 Y) (h5 : R3 x5 Z) : R2 (k0_pay29 x1 x5) (y2 Y Z) :=
  (R2.of3 h1 _).mul ((R2.of3 h5 _).mul (sg_real h5))
theorem rstd_real (h1 : R3 x1 Y) (h5 : R3 x5 Z) : R2 (k0_pay30 x1 x5) (fun r _ => rstd Y Z r) :=
  (((((y2_real h1 h5).mul (y2_real h1 h5)).sumCols _ _ _ _).col _).div (R2.broadcast c512_f32) (fun _ _ _ _ => by norm_num)
    |>.add (R2.broadcast eps_f32)).rsqrt (fun r _ _ _ => ms_pos Y Z r)
theorem y2h_real (h1 : R3 x1 Y) (h5 : R3 x5 Z) : R2 (k0_pay31 x1 x5) (y2h Y Z) :=
  (y2_real h1 h5).mul ((rstd_real h1 h5).bcol _)
theorem dy2_real (h0 : R3 x0 D) (h1 : R3 x1 Y) (h5 : R3 x5 Z) (h11 : R2 x11 (fun _ c => W c)) :
    R2 (k0_pay36 (k0_pay30 x1 x5) (k0_pay31 x1 x5) (k0_pay32 x0) x11) (dy2 Y Z D W) :=
  have hw := (R2.of3 h0 shapeCasts_S1x128x512_S128x512).mul (h11.brow broadcasts_S1x512_S128x512)
  ((rstd_real h1 h5).bcol _).mul (hw.sub ((y2h_real h1 h5).mul
    ((((hw.mul (y2h_real h1 h5)).sumCols _ _ _ _).col _).div (R2.broadcast c512_f32) (fun _ _ _ _ => by norm_num) |>.bcol _)))
theorem dz_real (h0 : R3 x0 D) (h1 : R3 x1 Y) (h5 : R3 x5 Z) (h11 : R2 x11 (fun _ c => W c)) :
    R3 (k0_pay37 (k0_pay25 x1) (k0_pay26 x5) (k0_pay27 x5) (k0_pay30 x1 x5) (k0_pay31 x1 x5) (k0_pay32 x0) x11) (dz Y Z D W) :=
  R2.to3 (((dy2_real h0 h1 h5 h11).mul (R2.of3 h1 _)).mul ((sg_real h5).mul ((R2.broadcast one_f32).add
    ((R2.of3 h5 _).mul ((R2.broadcast one_f32).sub (sg_real h5))))) |>.trunc _) _
theorem dy_real (h0 : R3 x0 D) (h1 : R3 x1 Y) (h5 : R3 x5 Z) (h11 : R2 x11 (fun _ c => W c)) :
    R2 (k0_pay38 (k0_pay28 x5) (k0_pay30 x1 x5) (k0_pay31 x1 x5) (k0_pay32 x0) x11) (dy Y Z D W) :=
  (dy2_real h0 h1 h5 h11).mul ((R2.of3 h5 _).mul (sg_real h5))
/-- The running sum of the weight's gradient. -/
theorem dsnw_real {x17 : FVec Ideal S1x1x512 .f32} {A : ℕ → ℝ} (h0 : R3 x0 D) (h1 : R3 x1 Y) (h5 : R3 x5 Z) (h17 : R3 x17 (fun _ c => A c)) :
    R3 (k0_pay35 (k0_pay33 x17) (k0_pay34 x1 x5 x0)) (fun _ c => A c + ∑ r ∈ Finset.range 128, D r c * y2h Y Z r c) :=
  R2.to3 ((R2.of3 h17 shapeCasts_S1x1x512_S1x512).add ((((R2.of3 h0 shapeCasts_S1x128x512_S128x512).mul (y2h_real h1 h5)).sumRows _ _ _ _).row _)) _

end Ssd
end
-- ==== Proof.Spec.lean ====
module
public import proofs.«01_k».proof.Proof.Args
public import proofs.«01_k».proof.Proof.Gate

/-! The mathematics of the state-space layer and of its gradient, over the real numbers, by batch row, time, group,
    head of the group and place in the head. -/

@[expose] public section

noncomputable section
namespace Ssd.Args
open scoped BigOperators

variable (a : Args)

/-- The step before its softplus. -/
def pre (b t H : ℕ) : ℝ := a.P b t (11264 + H) + a.TB H
/-- The step: the softplus. -/
def dt (b t H : ℕ) : ℝ := max (a.pre b t H) 0 + Real.log (1 + Real.exp (-|a.pre b t H|))
/-- The decay rate of a head. -/
def rate (H : ℕ) : ℝ := -Real.exp (a.AL H)
/-- The running sum of the decay's logarithm. -/
def cs (b t H : ℕ) : ℝ := ∑ u ∈ Finset.range (t + 1), a.dt b u H * a.rate H
/-- The values. -/
def xh (b t g h p : ℕ) : ℝ := a.X b t ((g * 8 + h) * 64 + p)
/-- The key rows. -/
def B (b t g n : ℕ) : ℝ := a.X b t (2048 + (g * 128 + n))
/-- The query rows. -/
def C (b t g n : ℕ) : ℝ := a.X b t (2560 + (g * 128 + n))
/-- The values scaled by the step. -/
def xdt (b t g h p : ℕ) : ℝ := a.xh b t g h p * a.dt b t (g * 8 + h)
/-- The decay from one time to a later one. -/
def dec (b t s g h : ℕ) : ℝ := if s ≤ t then Real.exp (a.cs b t (g * 8 + h) - a.cs b s (g * 8 + h)) else 0
/-- The product of the query row of one time and the key row of another. -/
def cb (b t s g : ℕ) : ℝ := ∑ n ∈ Finset.range 128, a.B b s g n * a.C b t g n
/-- The layer's output. -/
def Y5 (b t g h p : ℕ) : ℝ :=
  (∑ s ∈ Finset.range 2048, a.xdt b s g h p * (a.cb b t s g * a.dec b t s g h)) + a.xh b t g h p * a.SK (g * 8 + h)
/-- The output of one group, by time and column. -/
def Yb (b g t q : ℕ) : ℝ := a.Y5 b t g (q / 64) (q % 64)
/-- The gate of one group. -/
def Zb (b g t q : ℕ) : ℝ := a.P b t (4096 + (g * 512 + q))
/-- The cotangent of one group. -/
def Db (b g t q : ℕ) : ℝ := a.CT b t (g * 512 + q)
/-- The norm's weight of one group. -/
def Wg (g q : ℕ) : ℝ := a.W (g * 512 + q)
/-- The gradient of the layer's output. -/
def dYb (b g t q : ℕ) : ℝ := Ssd.dy (a.Yb b g) (a.Zb b g) (a.Db b g) (a.Wg g) t q
/-- The gradient of the gate. -/
def dZb (b g t q : ℕ) : ℝ := Ssd.dz (a.Yb b g) (a.Zb b g) (a.Db b g) (a.Wg g) t q
/-- The gradient of the norm's weight. -/
def dW (g q : ℕ) : ℝ :=
  ∑ b ∈ Finset.range 2, ∑ t ∈ Finset.range 2048, a.Db b g t q * y2h (a.Yb b g) (a.Zb b g) t q

end Ssd.Args
end
-- ==== Proof.RefOps.lean ====
module
public import proofs.«01_k».proof.Proof.Ops
public import Idealize.ShloMosaic.Lib.IdealHost

/-! Host operations on real numbers: what sums over several axes and running sums are at the ideal values. -/

@[expose] public section
set_option maxRecDepth 16384

noncomputable section
namespace Ssd
open Idealize.ShloMosaic Idealize.ShloMosaic.ValueIdx
open scoped BigOperators

theorem mul_real {x y : EReal} {a b : ℝ} (hx : x = (a : EReal)) (hy : y = (b : EReal)) : x * y = ((a * b : ℝ) : EReal) := by
  rw [hx, hy, EReal.coe_mul]
theorem add_real {x y : EReal} {a b : ℝ} (hx : x = (a : EReal)) (hy : y = (b : EReal)) : x + y = ((a + b : ℝ) : EReal) := by
  rw [hx, hy, EReal.coe_add]
theorem sub_real {x y : EReal} {a b : ℝ} (hx : x = (a : EReal)) (hy : y = (b : EReal)) : x - y = ((a - b : ℝ) : EReal) := by
  rw [hx, hy, EReal.coe_sub]
theorem neg_real {x : EReal} {a : ℝ} (hx : x = (a : EReal)) : -x = ((-a : ℝ) : EReal) := by
  rw [hx, EReal.coe_neg]
theorem cast_real {x : EReal} {a b : ℝ} (hx : x = (a : EReal)) (h : a = b) : x = (b : EReal) := h ▸ hx

/-- A sum of products of real numbers. -/
theorem dot_real {n : ℕ} {u v : Fin n → EReal} {f g : ℕ → ℝ} (hu : ∀ k : Fin n, u k = ((f k : ℝ) : EReal))
    (hv : ∀ k : Fin n, v k = ((g k : ℝ) : EReal)) :
    ∑ k : Fin n, u k * v k = ((∑ k ∈ Finset.range n, f k * g k : ℝ) : EReal) := by
  rw [← sum_fin_coe]
  exact Finset.sum_congr rfl fun k _ => mul_real (hu k) (hv k)

/-- A sum of real numbers after a zero. -/
theorem sum_real {n : ℕ} {z : EReal} {u : Fin n → EReal} {f : ℕ → ℝ} (hz : z = 0) (hu : ∀ k : Fin n, u k = ((f k : ℝ) : EReal)) :
    z + ∑ k : Fin n, u k = ((∑ k ∈ Finset.range n, f k : ℝ) : EReal) := by
  rw [hz, zero_add, ← sum_fin_coe]
  exact Finset.sum_congr rfl fun k _ => hu k

/-- The sum over the first two of three axes. -/
theorem sum01 {A B C : ℕ} {φ : FTy} {u : Shape} (h : (⟨3, ![A, B, C]⟩ : Shape).ReducesTo [0, 1] ⟨1, ![C]⟩) (hu : 0 < u.numel)
    (x : FVec Ideal ⟨3, ![A, B, C]⟩ φ) (init : FVec Ideal u φ) (hi : ∀ i, init i = (0 : EReal)) {f : ℕ → ℕ → ℕ → ℝ}
    (hx : ∀ i, x i = ((f (i 0).val (i 1).val (i 2).val : ℝ) : EReal)) (j : (⟨1, ![C]⟩ : Shape).Idx) :
    Host.reduceAdd x init h hu j
      = ((∑ a ∈ Finset.range A, ∑ b ∈ Finset.range B, f a b (j 0).val : ℝ) : EReal) := by
  rw [hostReduceAdd_apply, hi, Ideal.hostReduceAdd, zero_add]
  have e : ∀ a ∈ Finset.range A, ((∑ b ∈ Finset.range B, f a b (j 0).val : ℝ) : EReal) = ∑ b : Fin B, ((f a b (j 0).val : ℝ) : EReal) :=
    fun a _ => (sum_fin_coe (n := B) fun b => f a b (j 0).val).symm
  rw [coe_sum, Finset.sum_congr rfl e, Finset.sum_range fun a => ∑ b : Fin B, ((f a b (j 0).val : ℝ) : EReal),
    ← Finset.sum_product' Finset.univ Finset.univ (fun (a : Fin A) (b : Fin B) => ((f a b (j 0).val : ℝ) : EReal))]
  refine Finset.sum_nbij' (fun i => ((i 0 : Fin A), (i 1 : Fin B))) (fun p => ix3 p.1 p.2 (j 0)) ?_ ?_ ?_ ?_ ?_
  · intro i _; simp
  · intro p _
    refine Finset.mem_filter.2 ⟨Finset.mem_univ _, funext fun b => ?_⟩
    match b with
    | ⟨0, _⟩ => rfl
  · intro i hi'
    have hd := (Finset.mem_filter.1 hi').2
    have h0 : (i 2 : Fin C) = j 0 := congrFun hd 0
    refine funext fun b => ?_
    match b with
    | ⟨0, _⟩ => rfl
    | ⟨1, _⟩ => rfl
    | ⟨2, _⟩ => exact h0.symm
  · intro p _; rfl
  · intro i hi'
    have hd := (Finset.mem_filter.1 hi').2
    have h0 : (i 2 : Fin C) = j 0 := congrFun hd 0
    rw [hx, ← h0]

/-- The sum over the first two and the last of five axes. -/
theorem sum014 {A B C D E : ℕ} {φ : FTy} {u : Shape} (h : (⟨5, ![A, B, C, D, E]⟩ : Shape).ReducesTo [0, 1, 4] ⟨2, ![C, D]⟩) (hu : 0 < u.numel)
    (x : FVec Ideal ⟨5, ![A, B, C, D, E]⟩ φ) (init : FVec Ideal u φ) (hi : ∀ i, init i = (0 : EReal)) {f : ℕ → ℕ → ℕ → ℕ → ℕ → ℝ}
    (hx : ∀ i, x i = ((f (i 0).val (i 1).val (i 2).val (i 3).val (i 4).val : ℝ) : EReal)) (j : (⟨2, ![C, D]⟩ : Shape).Idx) :
    Host.reduceAdd x init h hu j
      = ((∑ a ∈ Finset.range A, ∑ b ∈ Finset.range B, ∑ e ∈ Finset.range E, f a b (j 0).val (j 1).val e : ℝ) : EReal) := by
  rw [hostReduceAdd_apply, hi, Ideal.hostReduceAdd, zero_add]
  have e1 : ∀ a b, ((∑ e ∈ Finset.range E, f a b (j 0).val (j 1).val e : ℝ) : EReal) = ∑ e : Fin E, ((f a b (j 0).val (j 1).val e : ℝ) : EReal) :=
    fun a b => (sum_fin_coe (n := E) fun e => f a b (j 0).val (j 1).val e).symm
  have e2 : ∀ a ∈ Finset.range A, ((∑ b ∈ Finset.range B, ∑ e ∈ Finset.range E, f a b (j 0).val (j 1).val e : ℝ) : EReal)
      = ∑ b : Fin B, ∑ e : Fin E, ((f a b (j 0).val (j 1).val e : ℝ) : EReal) := fun a _ => by
    rw [coe_sum, Finset.sum_congr rfl fun b _ => e1 a b, Finset.sum_range fun b => ∑ e : Fin E, ((f a b (j 0).val (j 1).val e : ℝ) : EReal)]
  rw [coe_sum, Finset.sum_congr rfl e2, Finset.sum_range fun a => ∑ b : Fin B, ∑ e : Fin E, ((f a b (j 0).val (j 1).val e : ℝ) : EReal),
    show (∑ a : Fin A, ∑ b : Fin B, ∑ e : Fin E, ((f a b (j 0).val (j 1).val e : ℝ) : EReal))
      = ∑ p : Fin A × Fin B × Fin E, ((f p.1 p.2.1 (j 0).val (j 1).val p.2.2 : ℝ) : EReal) by simp only [Fintype.sum_prod_type]]
  refine Finset.sum_nbij' (fun i => ((i 0 : Fin A), (i 1 : Fin B), (i 4 : Fin E))) (fun p => ix5 p.1 p.2.1 (j 0) (j 1) p.2.2) ?_ ?_ ?_ ?_ ?_
  · intro i _; simp
  · intro p _
    refine Finset.mem_filter.2 ⟨Finset.mem_univ _, funext fun b => ?_⟩
    match b with
    | ⟨0, _⟩ => rfl
    | ⟨1, _⟩ => rfl
  · intro i hi'
    have hd := (Finset.mem_filter.1 hi').2
    have h0 : (i 2 : Fin C) = j 0 := congrFun hd 0
    have h1 : (i 3 : Fin D) = j 1 := congrFun hd 1
    refine funext fun b => ?_
    match b with
    | ⟨0, _⟩ => rfl
    | ⟨1, _⟩ => rfl
    | ⟨2, _⟩ => exact h0.symm
    | ⟨3, _⟩ => exact h1.symm
    | ⟨4, _⟩ => rfl
  · intro p _; rfl
  · intro i hi'
    have hd := (Finset.mem_filter.1 hi').2
    have h0 : (i 2 : Fin C) = j 0 := congrFun hd 0
    have h1 : (i 3 : Fin D) = j 1 := congrFun hd 1
    rw [hx, ← h0, ← h1]

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window of a running sum over the middle of three axes is a run of that axis. -/
def middle (N : ℕ) : (⟨3, ![1, N, 1]⟩ : Shape).Idx ≃ Fin N where
  toFun w := w 1
  invFun k := ix3 (0 : Fin 1) k (0 : Fin 1)
  left_inv w := funext fun b => by
    match b with
    | ⟨0, _⟩ => exact Subsingleton.elim (α := Fin 1) _ _
    | ⟨1, _⟩ => rfl
    | ⟨2, _⟩ => exact Subsingleton.elim (α := Fin 1) _ _
  right_inv _ := rfl

/-- A window sum over the middle of three axes, at any padding, as a sum over the window's run. -/
theorem window_sum {A N C lo hi : ℕ} {φ : FTy} {u : Shape}
    (h : (⟨3, ![A, N, C]⟩ : Shape).ReduceWindows ![1, N, 1] ![1, 1, 1] ![0, lo, 0] ![0, hi, 0] ⟨3, ![A, N, C]⟩) (hu : 0 < u.numel)
    (x : FVec Ideal ⟨3, ![A, N, C]⟩ φ) (init : FVec Ideal u φ) (hi0 : ∀ i, init i = (0 : EReal)) {f : ℕ → ℕ → ℕ → ℝ}
    (hx : ∀ i, x i = ((f (i 0).val (i 1).val (i 2).val : ℝ) : EReal)) (j : (⟨3, ![A, N, C]⟩ : Shape).Idx) :
    Host.reduceWindowAdd ![1, N, 1] ![1, 1, 1] ![0, lo, 0] ![0, hi, 0] x init h hu j
      = ((∑ k ∈ Finset.range N, if lo ≤ (j 1).val + k ∧ (j 1).val + k - lo < N then f (j 0).val ((j 1).val + k - lo) (j 2).val else 0 : ℝ) : EReal) := by
  show Host.reduceWindow (· + ·) ![1, N, 1] ![1, 1, 1] ![0, lo, 0] ![0, hi, 0] x (fun _ : (⟨0, ![]⟩ : Shape).Idx => init (Shape.Idx.first hu)) h (by decide) j = _
  unfold Host.reduceWindow
  rw [hi0]
  refine (foldl_add _ _ _).trans ?_
  rw [zero_add, ← Fin.sum_univ_def, ← sum_fin_coe]
  rw [← Equiv.sum_comp (middle N), ← Equiv.sum_comp (⟨3, ![1, N, 1]⟩ : Shape).rowMajor.symm]
  suffices key : ∀ (w : (⟨3, ![1, N, 1]⟩ : Shape).Idx) (_ : Decidable (∀ a : Fin 3, (![0, lo, 0] : Fin 3 → ℕ) a ≤ (j a).val * (![1, 1, 1] : Fin 3 → ℕ) a + (w a).val
          ∧ (j a).val * (![1, 1, 1] : Fin 3 → ℕ) a + (w a).val - (![0, lo, 0] : Fin 3 → ℕ) a < (⟨3, ![A, N, C]⟩ : Shape).size a)),
      (if hin : ∀ a : Fin 3, (![0, lo, 0] : Fin 3 → ℕ) a ≤ (j a).val * (![1, 1, 1] : Fin 3 → ℕ) a + (w a).val
          ∧ (j a).val * (![1, 1, 1] : Fin 3 → ℕ) a + (w a).val - (![0, lo, 0] : Fin 3 → ℕ) a < (⟨3, ![A, N, C]⟩ : Shape).size a
        then x (fun a => ⟨(j a).val * (![1, 1, 1] : Fin 3 → ℕ) a + (w a).val - (![0, lo, 0] : Fin 3 → ℕ) a, (hin a).2⟩) else (0 : EReal))
      = (((if lo ≤ (j 1).val + (middle N w).val ∧ (j 1).val + (middle N w).val - lo < N
          then f (j 0).val ((j 1).val + (middle N w).val - lo) (j 2).val else 0 : ℝ)) : EReal)  from
    Finset.sum_congr rfl fun n _ => key _ _
  intro w _
  show _ = (((if lo ≤ (j 1).val + (w 1).val ∧ (j 1).val + (w 1).val - lo < N
          then f (j 0).val ((j 1).val + (w 1).val - lo) (j 2).val else 0 : ℝ)) : EReal)
  have hw0 : (w 0).val = 0 := Nat.lt_one_iff.1 (w 0).isLt
  have hw2 : (w 2).val = 0 := Nat.lt_one_iff.1 (w 2).isLt
  have j0 : (j 0).val < A := (j 0).isLt
  have j1 : (j 1).val < N := (j 1).isLt
  have j2 : (j 2).val < C := (j 2).isLt
  by_cases hc : lo ≤ (j 1).val + (w 1).val ∧ (j 1).val + (w 1).val - lo < N
  · rw [dif_pos, hx]
    · show ((f ((j 0).val * 1 + (w 0).val - 0) ((j 1).val * 1 + (w 1).val - lo) ((j 2).val * 1 + (w 2).val - 0) : ℝ) : EReal) = _
      rw [hw0, hw2, mul_one, mul_one, mul_one]
      rw [if_pos hc]
      rfl
    · intro a
      match a with
      | ⟨0, _⟩ =>
        show 0 ≤ (j 0).val * 1 + (w 0).val ∧ (j 0).val * 1 + (w 0).val - 0 < A
        omega
      | ⟨1, _⟩ =>
        show lo ≤ (j 1).val * 1 + (w 1).val ∧ (j 1).val * 1 + (w 1).val - lo < N
        omega
      | ⟨2, _⟩ =>
        show 0 ≤ (j 2).val * 1 + (w 2).val ∧ (j 2).val * 1 + (w 2).val - 0 < C
        omega
  · rw [dif_neg]
    · rw [if_neg hc, EReal.coe_zero]
    · intro hin
      have h1 := hin (1 : Fin 3)
      refine hc ?_
      have h1 : lo ≤ (j 1).val * 1 + (w 1).val ∧ (j 1).val * 1 + (w 1).val - lo < N := h1
      omega

/-- The window padded low is the sum up to and including the place. -/
theorem window_low (N j : ℕ) (hj : j < N) (f : ℕ → ℝ) :
    (∑ k ∈ Finset.range N, if N - 1 ≤ j + k ∧ j + k - (N - 1) < N then f (j + k - (N - 1)) else 0) = ∑ u ∈ Finset.range (j + 1), f u := by
  rw [← Finset.sum_filter]
  refine Finset.sum_nbij' (fun k => j + k - (N - 1)) (fun u => u + (N - 1) - j) ?_ ?_ ?_ ?_ ?_ <;>
    intro k hk <;> simp only [Finset.mem_filter, Finset.mem_range] at hk ⊢ <;> omega

/-- The window padded high is the sum from the place on. -/
theorem window_high (N j : ℕ) (hj : j < N) (f : ℕ → ℝ) :
    (∑ k ∈ Finset.range N, if 0 ≤ j + k ∧ j + k - 0 < N then f (j + k - 0) else 0) = ∑ u ∈ Finset.range N, if j ≤ u then f u else 0 := by
  rw [← Finset.sum_filter, ← Finset.sum_filter]
  refine Finset.sum_nbij' (fun k => j + k - 0) (fun u => u - j) ?_ ?_ ?_ ?_ ?_ <;>
    intro k hk <;> simp only [Finset.mem_filter, Finset.mem_range] at hk ⊢ <;> omega

end Ssd
end
-- ==== Proof.Ref.lean ====
module
public import proofs.«01_k».proof.Proof.Spec
public import proofs.«01_k».proof.Proof.RefOps
public import proofs.«01_k».proof.Proof.Gen.ReferenceIdeal.Read

/-! What the reference's arrays hold, stage by stage, up to the layer's output. -/

@[expose] public section
set_option maxRecDepth 16384

noncomputable section
namespace Ssd.Ref
open Idealize.ShloMosaic Idealize.ShloMosaic.ValueIdx Cert.ReferenceIdeal Cert.ReferenceIdeal.Gen Cert.ReferenceIdeal.Read
open scoped BigOperators

theorem mulf_real {φ : FTy} {x y : Ideal φ} {a b : ℝ} (hx : x = (a : EReal)) (hy : y = (b : EReal)) :
    FloatOps.mulf x y = ((a * b : ℝ) : EReal) := mul_real hx hy
theorem addf_real {φ : FTy} {x y : Ideal φ} {a b : ℝ} (hx : x = (a : EReal)) (hy : y = (b : EReal)) :
    FloatOps.addf x y = ((a + b : ℝ) : EReal) := add_real hx hy
theorem subf_real {φ : FTy} {x y : Ideal φ} {a b : ℝ} (hx : x = (a : EReal)) (hy : y = (b : EReal)) :
    FloatOps.subf x y = ((a - b : ℝ) : EReal) := sub_real hx hy
theorem negf_real {φ : FTy} {x : Ideal φ} {a : ℝ} (hx : x = (a : EReal)) :
    FloatOps.hostNegf x = ((-a : ℝ) : EReal) := neg_real hx
theorem exp_real {φ : FTy} {x : Ideal φ} {a : ℝ} (hx : x = (a : EReal)) :
    FloatOps.hostUnary .exp x = ((Real.exp a : ℝ) : EReal) := by rw [hx]; rfl
theorem div_real {φ : FTy} {x y : Ideal φ} {a b : ℝ} (hx : x = (a : EReal)) (hy : y = (b : EReal)) (hb : b ≠ 0) :
    FloatOps.hostDivf x y = ((a / b : ℝ) : EReal) := by
  show Ideal.div x y = _
  rw [hx, hy, Ideal.div_coe hb, ← EReal.coe_mul, mul_one_div]

variable {a : Args} {x0 : FVec Ideal ⟨3, ![2, 2048, 2048]⟩ .f32} {x1 : FVec Ideal ⟨3, ![2, 2048, 3072]⟩ .f32}
    {x2 : FVec Ideal ⟨3, ![2, 2048, 11520]⟩ .f32} {x3 x4 x5 : FVec Ideal ⟨2, ![1, 32]⟩ .f32}
    {x6 : FVec Ideal ⟨2, ![1, 2048]⟩ .f32} (h : a.Of x0 x1 x2 x3 x4 x5 x6)
include h

theorem ct (i : S2x2048x2048.Idx) : x0 i = ((a.CT (i 0).val (i 1).val (i 2).val : ℝ) : EReal) :=
  (congrArg x0 (eq_ix3 i)).trans (h.ct (i 0) (i 1) (i 2))
theorem x (i : S2x2048x3072.Idx) : x1 i = ((a.X (i 0).val (i 1).val (i 2).val : ℝ) : EReal) :=
  (congrArg x1 (eq_ix3 i)).trans (h.x (i 0) (i 1) (i 2))
theorem p (i : S2x2048x11520.Idx) : x2 i = ((a.P (i 0).val (i 1).val (i 2).val : ℝ) : EReal) :=
  (congrArg x2 (eq_ix3 i)).trans (h.p (i 0) (i 1) (i 2))
theorem tb (i : S1x32.Idx) : x3 i = ((a.TB (i 1).val : ℝ) : EReal) := (congrArg x3 (eq_ix2 i)).trans (h.tb (i 0) (i 1))
theorem al (i : S1x32.Idx) : x4 i = ((a.AL (i 1).val : ℝ) : EReal) := (congrArg x4 (eq_ix2 i)).trans (h.al (i 0) (i 1))
theorem sk (i : S1x32.Idx) : x5 i = ((a.SK (i 1).val : ℝ) : EReal) := (congrArg x5 (eq_ix2 i)).trans (h.sk (i 0) (i 1))
theorem w (i : S1x2048.Idx) : x6 i = ((a.W (i 1).val : ℝ) : EReal) := (congrArg x6 (eq_ix2 i)).trans (h.w (i 0) (i 1))

theorem s22 (i : S2x2048x4x8x64.Idx) : val_main_v22 (F := Ideal) x1 i
    = ((a.xh (i 0).val (i 1).val (i 2).val (i 3).val (i 4).val : ℝ) : EReal) := by
  have h0 : (i 0).val < 2 := (i 0).isLt; have h1 : (i 1).val < 2048 := (i 1).isLt; have h2 : (i 2).val < 4 := (i 2).isLt
  have h3 : (i 3).val < 8 := (i 3).isLt; have h4 : (i 4).val < 64 := (i 4).isLt
  rw [val_main_v22_apply, val_main_v0_apply, x h]
  refine congrArg _ (?_ : a.X (_ / 4194304) (_ / 2048 % 2048) (_ % 2048) = a.X _ _ _)
  congr 1 <;> omega

theorem s23 (i : S2x2048x4x128.Idx) : val_main_v23 (F := Ideal) x1 i = ((a.B (i 0).val (i 1).val (i 2).val (i 3).val : ℝ) : EReal) := by
  have h0 : (i 0).val < 2 := (i 0).isLt; have h1 : (i 1).val < 2048 := (i 1).isLt; have h2 : (i 2).val < 4 := (i 2).isLt
  have h3 : (i 3).val < 128 := (i 3).isLt
  rw [val_main_v23_apply, val_main_v1_apply, x h]
  refine congrArg _ (?_ : a.X (_ / 1048576) (_ / 512 % 2048) (2048 + _ % 512) = a.X _ _ _)
  congr 1 <;> omega

theorem s24 (i : S2x2048x4x128.Idx) : val_main_v24 (F := Ideal) x1 i = ((a.C (i 0).val (i 1).val (i 2).val (i 3).val : ℝ) : EReal) := by
  have h0 : (i 0).val < 2 := (i 0).isLt; have h1 : (i 1).val < 2048 := (i 1).isLt; have h2 : (i 2).val < 4 := (i 2).isLt
  have h3 : (i 3).val < 128 := (i 3).isLt
  rw [val_main_v24_apply, val_main_v2_apply, x h]
  refine congrArg _ (?_ : a.X (_ / 1048576) (_ / 512 % 2048) (2560 + _ % 512) = a.X _ _ _)
  congr 1 <;> omega

/-- The step before its softplus. -/
theorem s11 (i : S2x2048x32.Idx) : val_main_v11 (F := Ideal) x2 x3 i = ((a.pre (i 0).val (i 1).val (i 2).val : ℝ) : EReal) := by
  have h2 : (i 2).val < 32 := (i 2).isLt
  rw [val_main_v11_apply]
  refine addf_real ((val_main_v4_apply _ _).trans (p h _)) ?_
  rw [val_main_v10_apply, val_main_v9_apply, val_main_v5_apply, tb h]
  exact congrArg _ (congrArg a.TB (Nat.mod_eq_of_lt h2))

omit h in
/-- The softplus with its branches for numbers that are none. -/
theorem softplus (x z : EReal) (r : ℝ) (hx : x = (r : EReal)) (hz : z = 0) :
    Scalar.select (FloatOps.cmpf (F := Ideal) (φ := .f32) .une (x - z) (x - z)) (x + z)
      (max x z + Ideal.log1p (Ideal.exp (-(max (x - z) (-(x - z))))))
    = ((max r 0 + Real.log (1 + Real.exp (-|r|)) : ℝ) : EReal) := by
  have hc : FloatOps.cmpf (F := Ideal) (φ := .f32) .une (x - z) (x - z) = 0#1 := by
    show Ideal.cmp .une (x - z) (x - z) = 0#1
    simp [Ideal.cmp]
  rw [hc, hz, hx]
  show max (r : EReal) 0 + Ideal.log1p (Ideal.exp (-(max ((r : EReal) - 0) (-((r : EReal) - 0))))) = _
  have e0 : max (r : EReal) 0 = ((max r 0 : ℝ) : EReal) := (EReal.coe_strictMono.monotone.map_max (a := r) (b := 0)).symm
  have e1 : max ((r : EReal) - 0) (-((r : EReal) - 0)) = ((|r| : ℝ) : EReal) := by
    rw [sub_zero, ← EReal.coe_neg, abs_eq_max_neg]
    exact (EReal.coe_strictMono.monotone.map_max (a := r) (b := -r)).symm
  rw [e0, e1, ← EReal.coe_neg, Ideal.exp_coe, Ideal.log1p]
  have e2 : (1 : EReal) + ((Real.exp (-|r|) : ℝ) : EReal) = ((1 + Real.exp (-|r|) : ℝ) : EReal) := by
    rw [EReal.coe_add, EReal.coe_one]
  rw [e2, Ideal.log_coe, if_neg (not_le.2 (by positivity)), EReal.coe_add]

/-- The step. -/
theorem s12 (i : S2x2048x32.Idx) : val_main_v12_0 (F := Ideal) x2 x3 i = ((a.dt (i 0).val (i 1).val (i 2).val : ℝ) : EReal) := by
  exact softplus _ _ _ (s11 h i) zero_f32

theorem s13 (i : S32.Idx) : val_main_v13 (F := Ideal) x4 i = ((Real.exp (a.AL (i 0).val) : ℝ) : EReal) := by
  have h2 : (i 0).val < 32 := (i 0).isLt
  rw [val_main_v13_apply]
  refine exp_real ?_
  rw [val_main_v6_apply, al h]
  exact congrArg _ (congrArg a.AL (Nat.mod_eq_of_lt h2))

theorem s14 (i : S32.Idx) : val_main_v14 (F := Ideal) x4 i = ((a.rate (i 0).val : ℝ) : EReal) := by
  rw [val_main_v14_apply]
  exact negf_real (s13 h i)

theorem s20 (i : S2x2048x32.Idx) : val_main_v20 (F := Ideal) x2 x3 x4 i
    = ((a.dt (i 0).val (i 1).val (i 2).val * a.rate (i 2).val : ℝ) : EReal) := by
  rw [val_main_v20_apply]
  refine mulf_real (s12 h i) ?_
  rw [val_main_v19_apply, val_main_v18_apply]
  exact s14 h _

theorem s21 (i : S2x2048x32.Idx) : val_main_v21 (F := Ideal) x2 x3 x4 i = ((a.cs (i 0).val (i 1).val (i 2).val : ℝ) : EReal) :=
  (window_sum _ _ _ _ (fun _ => zero_f32) (f := fun b t H => a.dt b t H * a.rate H) (s20 h) i).trans
    (congrArg _ (window_low 2048 (i 1).val (i 1).isLt fun u => a.dt (i 0).val u (i 2).val * a.rate (i 2).val))

theorem s25 (i : S2x2048x4x8.Idx) : val_main_v25 (F := Ideal) x2 x3 x4 i
    = ((a.cs (i 0).val (i 1).val ((i 2).val * 8 + (i 3).val) : ℝ) : EReal) := by
  have h0 : (i 0).val < 2 := (i 0).isLt; have h1 : (i 1).val < 2048 := (i 1).isLt; have h2 : (i 2).val < 4 := (i 2).isLt
  have h3 : (i 3).val < 8 := (i 3).isLt
  rw [val_main_v25_apply, s21 h]
  refine congrArg _ (?_ : a.cs (_ / 65536) (_ / 32 % 2048) (_ % 32) = a.cs _ _ _)
  congr 1 <;> omega

theorem s26 (i : S2x2048x4x8.Idx) : val_main_v26 (F := Ideal) x2 x3 i
    = ((a.dt (i 0).val (i 1).val ((i 2).val * 8 + (i 3).val) : ℝ) : EReal) := by
  have h0 : (i 0).val < 2 := (i 0).isLt; have h1 : (i 1).val < 2048 := (i 1).isLt; have h2 : (i 2).val < 4 := (i 2).isLt
  have h3 : (i 3).val < 8 := (i 3).isLt
  rw [val_main_v26_apply, s12 h]
  refine congrArg _ (?_ : a.dt (_ / 65536) (_ / 32 % 2048) (_ % 32) = a.dt _ _ _)
  congr 1 <;> omega

theorem s29 (i : S2x2048x4x8x64.Idx) : val_main_v29 (F := Ideal) x1 x2 x3 i
    = ((a.xdt (i 0).val (i 1).val (i 2).val (i 3).val (i 4).val : ℝ) : EReal) := by
  rw [val_main_v29_apply]
  refine mulf_real (s22 h i) ?_
  rw [val_main_v28_apply, val_main_v27_apply]
  exact s26 h _

omit h in
theorem toInt_small (n : ℕ) (hn : n < 2048) : (BitVec.ofNat 32 n).toInt = (n : ℤ) := by
  have : (BitVec.ofNat 32 n).toNat = n := by rw [BitVec.toNat_ofNat]; exact Nat.mod_eq_of_lt (by omega)
  rw [BitVec.toInt_eq_toNat_of_lt (by omega), this]

omit h in
/-- The mask of the times not after a time. -/
theorem s42m (i : S2x2048x2048x4x8.Idx) : val_main_v42_1 (F := Ideal) i = if (i 2).val ≤ (i 1).val then 1#1 else 0#1 := by
  have h1 : (i 1).val < 2048 := (i 1).isLt
  have h2 : (i 2).val < 2048 := (i 2).isLt
  rw [val_main_v42_1_apply, val_main_v36_apply, val_main_v35_apply, val_main_v33_apply, val_main_v34_apply,
    val_main_v31_apply, val_main_v32_apply]
  show IntOp.cmpi .sge (BitVec.ofNat 32 (i 1).val) (BitVec.ofNat 32 (i 2).val) = _
  have e1 : (BitVec.ofNat 32 (i 1).val).toInt = ((i 1).val : ℤ) := toInt_small _ (by omega)
  have e2 : (BitVec.ofNat 32 (i 2).val).toInt = ((i 2).val : ℤ) := toInt_small _ (by omega)
  show BitVec.ofBool (BitVec.sle (BitVec.ofNat 32 (i 2).val) (BitVec.ofNat 32 (i 1).val)) = _
  rw [BitVec.sle, e1, e2]
  by_cases hc : (i 2).val ≤ (i 1).val
  · rw [if_pos hc, decide_eq_true (by exact_mod_cast hc)]; rfl
  · rw [if_neg hc, decide_eq_false (by exact_mod_cast hc)]; rfl

/-- The decay. -/
theorem s43 (i : S2x2048x2048x4x8.Idx) : val_main_v43 (F := Ideal) x2 x3 x4 i
    = ((a.dec (i 0).val (i 1).val (i 2).val (i 3).val (i 4).val : ℝ) : EReal) := by
  rw [val_main_v43_apply, val_main_v42_0_apply, s42m i]
  show _ = (((if (i 2).val ≤ (i 1).val then Real.exp (a.cs (i 0).val (i 1).val ((i 3).val * 8 + (i 4).val)
    - a.cs (i 0).val (i 2).val ((i 3).val * 8 + (i 4).val)) else 0 : ℝ)) : EReal)
  by_cases hc : (i 2).val ≤ (i 1).val
  · rw [if_pos hc, if_pos hc]
    refine exp_real ?_
    show val_main_v41 (F := Ideal) x2 x3 x4 i = _
    rw [val_main_v41_apply]
    refine subf_real ?_ ?_
    · rw [val_main_v39_apply, val_main_v37_apply]; exact s25 h _
    · rw [val_main_v40_apply, val_main_v38_apply]; exact s25 h _
  · rw [if_neg hc, if_neg hc]
    show Ideal.exp (Scalar.ofBits (F := Ideal) .f32 0xFF800000#32) = _
    have : (Scalar.ofBits (F := Ideal) .f32 0xFF800000#32 : EReal) = ⊥ := by
      show Ideal.ofBits .f32 0xFF800000#32 = ⊥
      simp [Ideal.ofBits, Ideal.ieee]
    rw [this, Ideal.exp_bot, EReal.coe_zero]

theorem s45 (i : S2x2048x2048x4.Idx) : val_main_v45 (F := Ideal) x1 i
    = ((a.cb (i 0).val (i 1).val (i 2).val (i 3).val : ℝ) : EReal) := by
  rw [val_main_v45_apply, val_main_v44_apply]
  exact dot_real (fun k => s23 h _) (fun k => s24 h _)

theorem s48 (i : S2x2048x2048x4x8.Idx) : val_main_v48 (F := Ideal) x1 x2 x3 x4 i
    = ((a.cb (i 0).val (i 1).val (i 2).val (i 3).val * a.dec (i 0).val (i 1).val (i 2).val (i 3).val (i 4).val : ℝ) : EReal) := by
  rw [val_main_v48_apply]
  refine mulf_real ?_ (s43 h i)
  rw [val_main_v47_apply, val_main_v46_apply]
  exact s45 h _

theorem s54 (i : S2x2048x4x8x64.Idx) : val_main_v54 (F := Ideal) x5 i = ((a.SK ((i 2).val * 8 + (i 3).val) : ℝ) : EReal) := by
  have h2 : (i 2).val < 4 := (i 2).isLt
  have h3 : (i 3).val < 8 := (i 3).isLt
  rw [val_main_v54_apply, val_main_v53_apply, val_main_v52_apply, val_main_v51_apply, val_main_v7_apply, sk h]
  refine congrArg _ (congrArg a.SK ?_)
  show ((i 2).val * 8 + (i 3).val) % 32 = _
  omega

theorem s56 (i : S2x2048x4x8x64.Idx) : val_main_v56 (F := Ideal) x1 x2 x3 x4 x5 i
    = ((a.Y5 (i 0).val (i 1).val (i 2).val (i 3).val (i 4).val : ℝ) : EReal) := by
  rw [val_main_v56_apply]
  refine addf_real ?_ ?_
  · rw [val_main_v50_apply, val_main_v49_apply]
    exact dot_real (fun k => s29 h _) (fun k => s48 h _)
  · rw [val_main_v55_apply]
    exact mulf_real (s22 h i) (s54 h i)

/-- The layer's output. -/
theorem s57 (i : S2x2048x2048.Idx) : val_main_v57 (F := Ideal) x1 x2 x3 x4 x5 i
    = ((a.Yb (i 0).val ((i 2).val / 512) (i 1).val ((i 2).val % 512) : ℝ) : EReal) := by
  have h0 : (i 0).val < 2 := (i 0).isLt; have h1 : (i 1).val < 2048 := (i 1).isLt; have h2 : (i 2).val < 2048 := (i 2).isLt
  rw [val_main_v57_apply, s56 h]
  refine congrArg _ (?_ : a.Y5 (_ / 4194304) (_ / 2048 % 2048) (_ / 512 % 4) (_ / 64 % 8) (_ % 64) = a.Y5 _ _ _ _ _)
  congr 1 <;> omega

end Ssd.Ref
end
-- ==== Proof.Host2.lean ====
module
public import proofs.«01_k».proof.Proof.Host
public import proofs.«01_k».proof.Proof.Ref

/-! The steps' and the skip weight's operands of the kernel, in terms of the arguments. -/

@[expose] public section
set_option maxRecDepth 16384

noncomputable section
namespace Cert.KernelIdeal.Host
open Cert.KernelIdeal Cert.KernelIdeal.Gen Idealize.ShloMosaic Idealize.ShloMosaic.TcCoe
variable {F : FTy → Type} [FloatOps F]
variable (m : (ℓ : Loc nD τ sig) → Buf (Elt F) ℓ)

theorem dsk_eq (c : Dev nD) : V m c main_v63 = shapeCast _ (broadcastInDim S1x32x64 ![0, 1] bcast_S1x32_S1x32x64_0_1 (m ((c : Thread nD τ).loc main_arg5))) shapeCasts_S1x32x64_S1x2048 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

theorem dtr_eq (c : Dev nD) : V m c main_v67 = pad S2x4x2048x128 ![0, 0, 0, 0] ![0, 0, 0, 120] ![0, 0, 0, 0]
    (transpose S2x4x2048x8 [0, 2, 1, 3] (shapeCast S2x2048x4x8 (extractStridedSlice S2x2048x32 ![0, 0, 11264] (m ((c : Thread nD τ).loc main_arg2)) slices_S2x2048x11520_S2x2048x32_0_0_11264)
      shapeCasts_S2x2048x32_S2x2048x4x8) transposes_S2x2048x4x8_S2x4x2048x8_0_2_1_3) (sitofp .f32 (constantI S_ 32 0#32)) pads_S2x4x2048x8_S2x4x2048x128_000_000_000_01200 h_S_ := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

end Cert.KernelIdeal.Host
end
-- ==== Proof.State.lean ====
module
public import proofs.«01_k».proof.Proof.Host
public import proofs.«01_k».proof.Proof.Ref
public import Idealize.ShloMosaic.Lib.ValueIdxRank6

/-! The states at the chunks' beginnings, the kernel's operand computed on the host, in real numbers. -/

@[expose] public section
set_option maxRecDepth 16384

noncomputable section
namespace Ssd.State
open Idealize.ShloMosaic Idealize.ShloMosaic.TcCoe Idealize.ShloMosaic.ValueIdx Cert.KernelIdeal Cert.KernelIdeal.Gen
open scoped BigOperators

/-- The decay's logarithm from a time to the beginning of a chunk. -/
def seg (cs da : FVec Ideal S2x2048x32 .f32) : FVec Ideal S2x16x2048x4x8 .f32 :=
  subf (broadcastInDim S2x16x2048x4x8 ![0, 1, 2, 3, 4] bcast_S2x16x1x4x8_S2x16x2048x4x8_0_1_2_3_4
      (broadcastInDim S2x16x1x4x8 ![0, 1, 3, 4] bcast_S2x16x4x8_S2x16x1x4x8_0_1_3_4
        (shapeCast S2x16x4x8 (extractStridedSlice S2x16x1x4x8 ![0, 0, 0, 0, 0] (shapeCast S2x16x128x4x8 (subf cs da) shapeCasts_S2x2048x32_S2x16x128x4x8)
          slices_S2x16x128x4x8_S2x16x1x4x8_0_0_0_0_0) shapeCasts_S2x16x1x4x8_S2x16x4x8)))
    (broadcastInDim S2x16x2048x4x8 ![0, 1, 2, 3, 4] bcast_S2x1x2048x4x8_S2x16x2048x4x8_0_1_2_3_4
      (broadcastInDim S2x1x2048x4x8 ![0, 2, 3, 4] bcast_S2x2048x4x8_S2x1x2048x4x8_0_2_3_4 (shapeCast S2x2048x4x8 cs shapeCasts_S2x2048x32_S2x2048x4x8)))
/-- The times before a chunk. -/
def before : IVec S16x2048 1 :=
  cmpi .sgt (broadcastInDim S16x2048 ![0, 1] bcast_S16x1_S16x2048_0_1 (muli (broadcastInDim S16x1 ![] bcast_S_S16x1 (constantI S_ 32 128#32))
      (broadcastInDim S16x1 ![0] bcast_S16_S16x1_0 (iotaInDim S16 32 0))))
    (broadcastInDim S16x2048 ![0, 1] bcast_S1x2048_S16x2048_0_1 (broadcastInDim S1x2048 ![1] bcast_S2048_S1x2048_1 (iotaInDim S2048 32 0)))
/-- The decay from a time to the beginning of a chunk. -/
def decay (cs da : FVec Ideal S2x2048x32 .f32) : FVec Ideal S2x16x2048x4x8 .f32 :=
  Host.exp (select (broadcastInDim S2x16x2048x4x8 ![1, 2, 3, 4] bcast_S16x2048x1x1_S2x16x2048x4x8_1_2_3_4
      (broadcastInDim S16x2048x1x1 ![0, 1] bcast_S16x2048_S16x2048x1x1_0_1 before))
    (seg cs da) (broadcastInDim S2x16x2048x4x8 ![] bcast_S_S2x16x2048x4x8 (constant S_ .f32 0xFF800000#32)))
/-- The decayed values. -/
def decayed (d : FVec Ideal S2x16x2048x4x8 .f32) (u : FVec Ideal S2x2048x4x8x64 .f32) : FVec Ideal S2x16x2048x4x8x64 .f32 :=
  mulf (broadcastInDim S2x16x2048x4x8x64 ![0, 1, 2, 3, 4, 5] bcast_S2x16x2048x4x8x1_S2x16x2048x4x8x64_0_1_2_3_4_5
      (broadcastInDim S2x16x2048x4x8x1 ![0, 1, 2, 3, 4] bcast_S2x16x2048x4x8_S2x16x2048x4x8x1_0_1_2_3_4 d))
    (broadcastInDim S2x16x2048x4x8x64 ![0, 1, 2, 3, 4, 5] bcast_S2x1x2048x4x8x64_S2x16x2048x4x8x64_0_1_2_3_4_5
      (broadcastInDim S2x1x2048x4x8x64 ![0, 2, 3, 4, 5] bcast_S2x2048x4x8x64_S2x1x2048x4x8x64_0_2_3_4_5 u))
/-- The states, from the decayed values and the key rows. -/
def product (v : FVec Ideal S2x16x2048x4x8x64 .f32) (B : FVec Ideal S2x2048x4x128 .f32) : FVec Ideal S2x4x16x8x64x128 .f32 :=
  Host.dotGeneral dot_S2x16x2048x4x8x64_S2x2048x4x128_S2x4x16x8x64x128_2_1_145_3_03_02 none v B
/-- The states, as the kernel takes them. -/
def laid (v : FVec Ideal S2x4x16x8x64x128 .f32) : FVec Ideal S2x16x4x128x512 .f32 :=
  shapeCast S2x16x4x128x512 (transpose S2x16x4x128x8x64 [0, 2, 1, 5, 3, 4] v transposes_S2x4x16x8x64x128_S2x16x4x128x8x64_0_2_1_5_3_4)
    shapeCasts_S2x16x4x128x8x64_S2x16x4x128x512

theorem hst_eq (m : (ℓ : Loc nD τ Cert.KernelIdeal.sig) → Buf (Elt Ideal) ℓ) (c : Dev nD) : V m c main_v103
    = laid (product (decayed (decay
        (Cert.ReferenceIdeal.Read.val_main_v21 (m ((c : Thread nD τ).loc main_arg2)) (m ((c : Thread nD τ).loc main_arg3)) (m ((c : Thread nD τ).loc main_arg4)))
        (Cert.ReferenceIdeal.Read.val_main_v20 (m ((c : Thread nD τ).loc main_arg2)) (m ((c : Thread nD τ).loc main_arg3)) (m ((c : Thread nD τ).loc main_arg4))))
        (Cert.ReferenceIdeal.Read.val_main_v29 (m ((c : Thread nD τ).loc main_arg1)) (m ((c : Thread nD τ).loc main_arg2)) (m ((c : Thread nD τ).loc main_arg3))))
      (Cert.ReferenceIdeal.Read.val_main_v23 (m ((c : Thread nD τ).loc main_arg1)))) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

end Ssd.State
end
-- ==== Proof.State2.lean ====
module
public import proofs.«01_k».proof.Proof.State

/-! The states at the chunks' beginnings in real numbers, stage by stage. -/

@[expose] public section
set_option maxRecDepth 16384

noncomputable section
namespace Ssd.State
open Idealize.ShloMosaic Idealize.ShloMosaic.TcCoe Idealize.ShloMosaic.ValueIdx Cert.KernelIdeal Cert.KernelIdeal.Gen
open scoped BigOperators

variable {cs da : FVec Ideal S2x2048x32 .f32} {fc fd : ℕ → ℕ → ℕ → ℝ}

theorem seg_real (hc : ∀ i, cs i = ((fc (i 0).val (i 1).val (i 2).val : ℝ) : EReal)) (hd : ∀ i, da i = ((fd (i 0).val (i 1).val (i 2).val : ℝ) : EReal))
    (b : Fin 2) (c : Fin 16) (s : Fin 2048) (g : Fin 4) (h : Fin 8) : seg cs da (ValueIdx.ix5 b c s g h)
      = (((fc b.val (c.val * 128) (g.val * 8 + h.val) - fd b.val (c.val * 128) (g.val * 8 + h.val)) - fc b.val s.val (g.val * 8 + h.val) : ℝ) : EReal) := by
  have e1 : ∀ (i : S2x2048x32.Idx), subf cs da i = (((fc (i 0).val (i 1).val (i 2).val - fd (i 0).val (i 1).val (i 2).val : ℝ)) : EReal) :=
    fun i => Ref.subf_real (hc i) (hd i)
  obtain ⟨r, hr⟩ : ∃ r : Fin 128, r.val = 0 := ⟨0, rfl⟩
  unfold seg
  generalize subf cs da = v at e1 ⊢
  refine Ref.subf_real ?_ ?_
  · refine (broadcastInDim_apply _ bcast_S2x16x1x4x8_S2x16x2048x4x8_0_1_2_3_4 _ _ (ValueIdx.ix5 b c (0 : Fin 1) g h) (fun a => match a with
      | ⟨0, _⟩ => rfl | ⟨1, _⟩ => rfl | ⟨2, _⟩ => rfl | ⟨3, _⟩ => rfl | ⟨4, _⟩ => rfl)).trans ?_
    refine (broadcastInDim_apply _ bcast_S2x16x4x8_S2x16x1x4x8_0_1_3_4 _ _ (ValueIdx.ix4 b c g h) (fun a => match a with
      | ⟨0, _⟩ => rfl | ⟨1, _⟩ => rfl | ⟨2, _⟩ => rfl | ⟨3, _⟩ => rfl)).trans ?_
    refine (shapeCast_apply _ shapeCasts_S2x16x1x4x8_S2x16x4x8 _ (ValueIdx.ix5 b c (0 : Fin 1) g h) (by
      rewrite [Shape.rowMajor_val_five, Shape.rowMajor_val_four]
      show (((b.val * 16 + c.val) * 1 + 0) * 4 + g.val) * 8 + h.val = ((b.val * 16 + c.val) * 4 + g.val) * 8 + h.val
      omega)).trans ?_
    refine (extractStridedSlice_apply _ _ slices_S2x16x128x4x8_S2x16x1x4x8_0_0_0_0_0 (ValueIdx.ix5 b c (0 : Fin 1) g h) (ValueIdx.ix5 b c r g h) (fun a => match a with
      | ⟨0, _⟩ => (Nat.zero_add _).symm | ⟨1, _⟩ => (Nat.zero_add _).symm | ⟨2, _⟩ => hr.trans rfl | ⟨3, _⟩ => (Nat.zero_add _).symm | ⟨4, _⟩ => (Nat.zero_add _).symm)).trans ?_
    refine (shapeCast_apply v shapeCasts_S2x2048x32_S2x16x128x4x8 (ValueIdx.ix5 b c r g h) (ValueIdx.ix3 b (⟨c.val * 128, by omega⟩ : Fin 2048) (⟨g.val * 8 + h.val, by omega⟩ : Fin 32)) (by
      rewrite [Shape.rowMajor_val_five, Shape.rowMajor_val_three]
      show (b.val * 2048 + c.val * 128) * 32 + (g.val * 8 + h.val) = (((b.val * 16 + c.val) * 128 + r.val) * 4 + g.val) * 8 + h.val
      omega)).trans ?_
    exact e1 _
  · refine (broadcastInDim_apply _ bcast_S2x1x2048x4x8_S2x16x2048x4x8_0_1_2_3_4 _ _ (ValueIdx.ix5 b (0 : Fin 1) s g h) (fun a => match a with
      | ⟨0, _⟩ => rfl | ⟨1, _⟩ => rfl | ⟨2, _⟩ => rfl | ⟨3, _⟩ => rfl | ⟨4, _⟩ => rfl)).trans ?_
    refine (broadcastInDim_apply _ bcast_S2x2048x4x8_S2x1x2048x4x8_0_2_3_4 _ _ (ValueIdx.ix4 b s g h) (fun a => match a with
      | ⟨0, _⟩ => rfl | ⟨1, _⟩ => rfl | ⟨2, _⟩ => rfl | ⟨3, _⟩ => rfl)).trans ?_
    refine (shapeCast_apply cs shapeCasts_S2x2048x32_S2x2048x4x8 _ (ValueIdx.ix3 b s (⟨g.val * 8 + h.val, by omega⟩ : Fin 32)) (by
      rewrite [Shape.rowMajor_val_three, Shape.rowMajor_val_four]
      show (b.val * 2048 + s.val) * 32 + (g.val * 8 + h.val) = ((b.val * 2048 + s.val) * 4 + g.val) * 8 + h.val
      omega)).trans ?_
    exact hc _

theorem before_real (c : Fin 16) (s : Fin 2048) : before (ValueIdx.ix2 c s) = if s.val < c.val * 128 then 1#1 else 0#1 := by
  have ea : (broadcastInDim S16x2048 ![0, 1] bcast_S16x1_S16x2048_0_1 (muli (broadcastInDim S16x1 ![] bcast_S_S16x1 (constantI S_ 32 128#32))
      (broadcastInDim S16x1 ![0] bcast_S16_S16x1_0 (iotaInDim S16 32 0)))) (ValueIdx.ix2 c s) = 128#32 * BitVec.ofNat 32 c.val := by
    refine (broadcastInDim_apply _ bcast_S16x1_S16x2048_0_1 _ _ (ValueIdx.ix2 c (0 : Fin 1)) (fun a => match a with | ⟨0, _⟩ => rfl | ⟨1, _⟩ => rfl)).trans ?_
    show IntOp.muli _ _ = _
    refine congrArg (fun z => 128#32 * z) ?_
    exact (broadcastInDim_apply _ bcast_S16_S16x1_0 _ _ (ValueIdx.ix1 c) (fun a => match a with | ⟨0, _⟩ => rfl)).trans rfl
  have eb : (broadcastInDim S16x2048 ![0, 1] bcast_S1x2048_S16x2048_0_1 (broadcastInDim S1x2048 ![1] bcast_S2048_S1x2048_1 (iotaInDim S2048 32 0))) (ValueIdx.ix2 c s)
      = BitVec.ofNat 32 s.val := by
    refine (broadcastInDim_apply _ bcast_S1x2048_S16x2048_0_1 _ _ (ValueIdx.ix2 (0 : Fin 1) s) (fun a => match a with | ⟨0, _⟩ => rfl | ⟨1, _⟩ => rfl)).trans ?_
    exact (broadcastInDim_apply _ bcast_S2048_S1x2048_1 _ _ (ValueIdx.ix1 s) (fun a => match a with | ⟨0, _⟩ => rfl)).trans rfl
  have e1 : (128#32 * BitVec.ofNat 32 c.val).toInt = ((c.val * 128 : ℕ) : ℤ) := by
    rw [show 128#32 * BitVec.ofNat 32 c.val = BitVec.ofNat 32 (c.val * 128) by rw [mul_comm, ← BitVec.ofNat_mul]]
    exact Ref.toInt_small _ (by omega)
  have e2 : (BitVec.ofNat 32 s.val).toInt = (s.val : ℤ) := Ref.toInt_small _ (by omega)
  unfold before
  show IntOp.cmpi .sgt _ _ = _
  rw [ea, eb]
  show BitVec.ofBool (BitVec.slt (BitVec.ofNat 32 s.val) (128#32 * BitVec.ofNat 32 c.val)) = _
  rw [BitVec.slt, e1, e2]
  by_cases hs : s.val < c.val * 128
  · rw [if_pos hs, decide_eq_true (by exact_mod_cast hs)]; rfl
  · rw [if_neg hs, decide_eq_false (by exact_mod_cast hs)]; rfl

theorem decay_real (hc : ∀ i, cs i = ((fc (i 0).val (i 1).val (i 2).val : ℝ) : EReal)) (hd : ∀ i, da i = ((fd (i 0).val (i 1).val (i 2).val : ℝ) : EReal))
    (b : Fin 2) (c : Fin 16) (s : Fin 2048) (g : Fin 4) (h : Fin 8) : decay cs da (ValueIdx.ix5 b c s g h)
      = ((if s.val < c.val * 128 then Real.exp ((fc b.val (c.val * 128) (g.val * 8 + h.val) - fd b.val (c.val * 128) (g.val * 8 + h.val)) - fc b.val s.val (g.val * 8 + h.val)) else 0 : ℝ) : EReal) := by
  have es := seg_real hc hd b c s g h
  unfold decay
  generalize seg cs da = v at es ⊢
  have em : (broadcastInDim S2x16x2048x4x8 ![1, 2, 3, 4] bcast_S16x2048x1x1_S2x16x2048x4x8_1_2_3_4
      (broadcastInDim S16x2048x1x1 ![0, 1] bcast_S16x2048_S16x2048x1x1_0_1 before)) (ValueIdx.ix5 b c s g h) = if s.val < c.val * 128 then 1#1 else 0#1 := by
    refine (broadcastInDim_apply _ bcast_S16x2048x1x1_S2x16x2048x4x8_1_2_3_4 _ _ (ValueIdx.ix4 c s (0 : Fin 1) (0 : Fin 1)) (fun a => match a with
      | ⟨0, _⟩ => rfl | ⟨1, _⟩ => rfl | ⟨2, _⟩ => rfl | ⟨3, _⟩ => rfl)).trans ?_
    refine (broadcastInDim_apply _ bcast_S16x2048_S16x2048x1x1_0_1 _ _ (ValueIdx.ix2 c s) (fun a => match a with | ⟨0, _⟩ => rfl | ⟨1, _⟩ => rfl)).trans ?_
    exact before_real c s
  show FloatOps.hostUnary .exp (if (broadcastInDim S2x16x2048x4x8 ![1, 2, 3, 4] bcast_S16x2048x1x1_S2x16x2048x4x8_1_2_3_4
      (broadcastInDim S16x2048x1x1 ![0, 1] bcast_S16x2048_S16x2048x1x1_0_1 before)) (ValueIdx.ix5 b c s g h) = 1#1 then v (ValueIdx.ix5 b c s g h) else Scalar.ofBits (F := Ideal) .f32 0xFF800000#32) = _
  rw [em]
  by_cases hs : s.val < c.val * 128
  · rw [if_pos hs, if_pos hs]
    exact Ref.exp_real es
  · rw [if_neg hs, if_neg hs]
    show Ideal.exp (Scalar.ofBits (F := Ideal) .f32 0xFF800000#32) = _
    have : (Scalar.ofBits (F := Ideal) .f32 0xFF800000#32 : EReal) = ⊥ := by
      show Ideal.ofBits .f32 0xFF800000#32 = ⊥
      simp [Ideal.ofBits, Ideal.ieee]
    rw [this, Ideal.exp_bot, EReal.coe_zero]

theorem decayed_real {d : FVec Ideal S2x16x2048x4x8 .f32} {u : FVec Ideal S2x2048x4x8x64 .f32} {x y : ℝ}
    (b : Fin 2) (c : Fin 16) (s : Fin 2048) (g : Fin 4) (h : Fin 8) (p : Fin 64)
    (hd : d (ValueIdx.ix5 b c s g h) = (x : EReal)) (hu : u (ValueIdx.ix5 b s g h p) = (y : EReal)) :
    decayed d u (ValueIdx.ix6 b c s g h p) = ((x * y : ℝ) : EReal) := by
  unfold decayed
  refine Ref.mulf_real ?_ ?_
  · refine (broadcastInDim_apply _ bcast_S2x16x2048x4x8x1_S2x16x2048x4x8x64_0_1_2_3_4_5 _ _ (ValueIdx.ix6 b c s g h (0 : Fin 1)) (fun a => match a with
      | ⟨0, _⟩ => rfl | ⟨1, _⟩ => rfl | ⟨2, _⟩ => rfl | ⟨3, _⟩ => rfl | ⟨4, _⟩ => rfl | ⟨5, _⟩ => rfl)).trans ?_
    exact (broadcastInDim_apply _ bcast_S2x16x2048x4x8_S2x16x2048x4x8x1_0_1_2_3_4 _ _ (ValueIdx.ix5 b c s g h) (fun a => match a with
      | ⟨0, _⟩ => rfl | ⟨1, _⟩ => rfl | ⟨2, _⟩ => rfl | ⟨3, _⟩ => rfl | ⟨4, _⟩ => rfl)).trans hd
  · refine (broadcastInDim_apply _ bcast_S2x1x2048x4x8x64_S2x16x2048x4x8x64_0_1_2_3_4_5 _ _ (ValueIdx.ix6 b (0 : Fin 1) s g h p) (fun a => match a with
      | ⟨0, _⟩ => rfl | ⟨1, _⟩ => rfl | ⟨2, _⟩ => rfl | ⟨3, _⟩ => rfl | ⟨4, _⟩ => rfl | ⟨5, _⟩ => rfl)).trans ?_
    exact (broadcastInDim_apply _ bcast_S2x2048x4x8x64_S2x1x2048x4x8x64_0_2_3_4_5 _ _ (ValueIdx.ix5 b s g h p) (fun a => match a with
      | ⟨0, _⟩ => rfl | ⟨1, _⟩ => rfl | ⟨2, _⟩ => rfl | ⟨3, _⟩ => rfl | ⟨4, _⟩ => rfl)).trans hu

abbrev dd : DotDims S2x16x2048x4x8x64 S2x2048x4x128 S2x4x16x8x64x128 := dot_S2x16x2048x4x8x64_S2x2048x4x128_S2x4x16x8x64x128_2_1_145_3_03_02

theorem lhs0 (i : S2x4x16x8x64x128.Idx) (q : dd.contr.Idx) : (dd.lhsIdx i q 0).val = (i 0).val := by
  unfold DotDims.lhsIdx
  rw [dif_pos (show (0 : Fin S2x16x2048x4x8x64.rank) ∈ dd.lhsBatch by decide)]
  rfl
theorem lhs1 (i : S2x4x16x8x64x128.Idx) (q : dd.contr.Idx) : (dd.lhsIdx i q 1).val = (i 2).val := by
  unfold DotDims.lhsIdx
  rw [dif_neg (show (1 : Fin S2x16x2048x4x8x64.rank) ∉ dd.lhsBatch by decide), dif_pos (show (1 : Fin S2x16x2048x4x8x64.rank) ∈ dd.lhsNonContracting by decide)]
  rfl
theorem lhs3 (i : S2x4x16x8x64x128.Idx) (q : dd.contr.Idx) : (dd.lhsIdx i q 3).val = (i 1).val := by
  unfold DotDims.lhsIdx
  rw [dif_pos (show (3 : Fin S2x16x2048x4x8x64.rank) ∈ dd.lhsBatch by decide)]
  rfl
theorem lhs4 (i : S2x4x16x8x64x128.Idx) (q : dd.contr.Idx) : (dd.lhsIdx i q 4).val = (i 3).val := by
  unfold DotDims.lhsIdx
  rw [dif_neg (show (4 : Fin S2x16x2048x4x8x64.rank) ∉ dd.lhsBatch by decide), dif_pos (show (4 : Fin S2x16x2048x4x8x64.rank) ∈ dd.lhsNonContracting by decide)]
  rfl
theorem lhs5 (i : S2x4x16x8x64x128.Idx) (q : dd.contr.Idx) : (dd.lhsIdx i q 5).val = (i 4).val := by
  unfold DotDims.lhsIdx
  rw [dif_neg (show (5 : Fin S2x16x2048x4x8x64.rank) ∉ dd.lhsBatch by decide), dif_pos (show (5 : Fin S2x16x2048x4x8x64.rank) ∈ dd.lhsNonContracting by decide)]
  rfl
theorem rhs0 (i : S2x4x16x8x64x128.Idx) (q : dd.contr.Idx) : (dd.rhsIdx i q 0).val = (i 0).val := by
  unfold DotDims.rhsIdx
  rw [dif_pos (show (0 : Fin S2x2048x4x128.rank) ∈ dd.rhsBatch by decide)]
  rfl
theorem rhs2 (i : S2x4x16x8x64x128.Idx) (q : dd.contr.Idx) : (dd.rhsIdx i q 2).val = (i 1).val := by
  unfold DotDims.rhsIdx
  rw [dif_pos (show (2 : Fin S2x2048x4x128.rank) ∈ dd.rhsBatch by decide)]
  rfl
theorem rhs3 (i : S2x4x16x8x64x128.Idx) (q : dd.contr.Idx) : (dd.rhsIdx i q 3).val = (i 5).val := by
  unfold DotDims.rhsIdx
  rw [dif_neg (show (3 : Fin S2x2048x4x128.rank) ∉ dd.rhsBatch by decide), dif_pos (show (3 : Fin S2x2048x4x128.rank) ∈ dd.rhsNonContracting by decide)]
  rfl

theorem product_read (v : FVec Ideal S2x16x2048x4x8x64 .f32) (B : FVec Ideal S2x2048x4x128 .f32)
    (b : Fin 2) (g : Fin 4) (c : Fin 16) (h : Fin 8) (p : Fin 64) (n : Fin 128) :
    product v B (ValueIdx.ix6 b g c h p n) = ∑ k : Fin 2048, v (ValueIdx.ix6 b c k g h p) * B (ValueIdx.ix4 b k g n) := by
  unfold product
  simp only [Host.dotGeneral]
  rw [Ideal.dotGeneral_apply, ← Equiv.sum_comp (ValueIdx.contrEquiv1 dd 2048 rfl rfl).symm]
  refine Finset.sum_congr rfl fun k _ => ?_
  have hk := ValueIdx.contrEquiv1_symm_val dd 2048 rfl rfl k
  generalize (ValueIdx.contrEquiv1 dd 2048 rfl rfl).symm k = q at hk ⊢
  have el : dd.lhsIdx (ValueIdx.ix6 b g c h p n) q = ValueIdx.ix6 b c k g h p := funext fun a => Fin.ext (by
    match a with
    | ⟨0, _⟩ => exact lhs0 _ _
    | ⟨1, _⟩ => exact lhs1 _ _
    | ⟨2, _⟩ => exact (dd.lhsIdx_val_of_single rfl _ _).trans hk
    | ⟨3, _⟩ => exact lhs3 _ _
    | ⟨4, _⟩ => exact lhs4 _ _
    | ⟨5, _⟩ => exact lhs5 _ _)
  have er : dd.rhsIdx (ValueIdx.ix6 b g c h p n) q = ValueIdx.ix4 b k g n := funext fun a => Fin.ext (by
    match a with
    | ⟨0, _⟩ => exact rhs0 _ _
    | ⟨1, _⟩ => exact (dd.rhsIdx_val_of_single rfl _ _).trans hk
    | ⟨2, _⟩ => exact rhs2 _ _
    | ⟨3, _⟩ => exact rhs3 _ _)
  rw [el, er]

theorem laid_read (v : FVec Ideal S2x4x16x8x64x128 .f32) (b : Fin 2) (c : Fin 16) (g : Fin 4) (n : Fin 128) (q : Fin 512) :
    laid v (ValueIdx.ix5 b c g n q) = v (ValueIdx.ix6 b g c (⟨q.val / 64, by omega⟩ : Fin 8) (⟨q.val % 64, by omega⟩ : Fin 64) n) := by
  unfold laid
  refine (shapeCast_apply _ shapeCasts_S2x16x4x128x8x64_S2x16x4x128x512 _ (ValueIdx.ix6 b c g n (⟨q.val / 64, by omega⟩ : Fin 8) (⟨q.val % 64, by omega⟩ : Fin 64)) (by
      rewrite [Shape.rowMajor_val_five, Shape.rowMajor_val_six]
      show ((((b.val * 16 + c.val) * 4 + g.val) * 128 + n.val) * 8 + q.val / 64) * 64 + q.val % 64 = (((b.val * 16 + c.val) * 4 + g.val) * 128 + n.val) * 512 + q.val
      omega)).trans ?_
  exact transpose_apply _ v transposes_S2x4x16x8x64x128_S2x16x4x128x8x64_0_2_1_5_3_4 _ _ (fun a => match a with
    | ⟨0, _⟩ => rfl | ⟨1, _⟩ => rfl | ⟨2, _⟩ => rfl | ⟨3, _⟩ => rfl | ⟨4, _⟩ => rfl | ⟨5, _⟩ => rfl)

end Ssd.State
end
-- ==== Proof.Spec2.lean ====
module
public import proofs.«01_k».proof.Proof.Spec

/-! The gradients of the state-space layer, over the real numbers. -/

@[expose] public section

noncomputable section
namespace Ssd.Args
open scoped BigOperators

variable (a : Args)

/-- The gradient of the layer's output, by head and place. -/
def dY5 (b t g h p : ℕ) : ℝ := a.dYb b g t (h * 64 + p)
/-- The gradient of the skip weight. -/
def dSK (g h : ℕ) : ℝ := ∑ b ∈ Finset.range 2, ∑ t ∈ Finset.range 2048, ∑ p ∈ Finset.range 64, a.xh b t g h p * a.dY5 b t g h p
/-- The gradient of the score of a pair of times in a head. -/
def dS (b t s g h : ℕ) : ℝ := ∑ p ∈ Finset.range 64, a.dY5 b t g h p * a.xdt b s g h p
/-- The gradient of the scaled values. -/
def dXdt (b s g h p : ℕ) : ℝ := ∑ t ∈ Finset.range 2048, a.dY5 b t g h p * (a.cb b t s g * a.dec b t s g h)
/-- The gradient of the product of a query row and a key row. -/
def dCB (b t s g : ℕ) : ℝ := ∑ h ∈ Finset.range 8, a.dS b t s g h * a.dec b t s g h
/-- The gradient of the query rows. -/
def dC (b t g n : ℕ) : ℝ := ∑ s ∈ Finset.range 2048, a.dCB b t s g * a.B b s g n
/-- The gradient of the key rows. -/
def dB (b s g n : ℕ) : ℝ := ∑ t ∈ Finset.range 2048, a.dCB b t s g * a.C b t g n
/-- The gradient of the values. -/
def dX (b t g h p : ℕ) : ℝ := a.dY5 b t g h p * a.SK (g * 8 + h) + a.dXdt b t g h p * a.dt b t (g * 8 + h)

end Ssd.Args
end
-- ==== Proof.Body1.lean ====
module
public import proofs.«01_k».proof.Proof.Gate

/-! The steps and decays of the body, in real numbers: the masks, the step of each head, its running sum, and their
    expansion from one lane per head to one lane per column of the head. -/

@[expose] public section
set_option maxRecDepth 16384

noncomputable section
namespace Ssd
open Idealize.ShloMosaic Idealize.ShloMosaic.ValueIdx Cert.KernelIdeal Cert.KernelIdeal.Gen
open scoped BigOperators

/-- The column number. -/
abbrev colNo : IVec S128x128 32 := iota .tc S128x128 32 [1] iota_S128x128_d1_w32
/-- The row number. -/
abbrev rowNo : IVec S128x128 32 := iota .tc S128x128 32 [0] iota_S128x128_d0_w32
/-- The row number of a wide matrix. -/
abbrev rowNoX : IVec S128x512 32 := iota .tc S128x512 32 [0] iota_S128x512_d0_w32

theorem m_lane : M2 k0_pay7 (fun _ j => j < 8) := fun r c => by
  show IntOp.cmpi .slt (BitVec.ofNat 32 (0 * 128 + c.val)) 8#32 = 1#1 ↔ c.val < 8
  revert c
  decide +kernel
theorem m_lane1 : M2 k0_pay10 (fun _ j => j < 8) := fun r c => by
  show IntOp.cmpi .slt (BitVec.ofNat 32 (0 * 128 + (0 + c.val))) 8#32 = 1#1 ↔ c.val < 8
  revert c
  decide +kernel
theorem m_causal : M2 (cmpi .sge rowNo colNo) (fun r s => s ≤ r) := fun r c => by
  show IntOp.cmpi .sge (BitVec.ofNat 32 (0 * 128 + r.val)) (BitVec.ofNat 32 (0 * 128 + c.val)) = 1#1 ↔ c.val ≤ r.val
  revert r c
  decide +kernel
theorem headOf : ∀ q : Fin 512, k0_pay15 (ix2 (0 : Fin 128) q) = BitVec.ofNat 32 (q.val / 64) := by decide +kernel
theorem ofNat_eq {x y : ℕ} (hx : x < 2 ^ 32) (hy : y < 2 ^ 32) : IntOp.cmpi .eq (BitVec.ofNat 32 x) (BitVec.ofNat 32 y) = 1#1 ↔ x = y := by
  constructor
  · intro e
    by_contra hne
    have this : ¬ BitVec.ofNat 32 x = BitVec.ofNat 32 y := fun e' => hne (by
      have e2 := congrArg BitVec.toNat e'
      rw [BitVec.toNat_ofNat, BitVec.toNat_ofNat, Nat.mod_eq_of_lt hx, Nat.mod_eq_of_lt hy] at e2
      exact e2)
    have e3 : BitVec.ofBool (BitVec.ofNat 32 x == BitVec.ofNat 32 y) = 1#1 := e
    rw [beq_eq_false_iff_ne.mpr this] at e3
    exact absurd e3 (by decide)
  · rintro rfl
    simp [IntOp.cmpi]
theorem m_expand : M2 (cmpi .eq k0_pay15 rowNoX) (fun j q => q / 64 = j) := fun j q => by
  have e : k0_pay15 (ix2 j q) = BitVec.ofNat 32 (q.val / 64) := headOf q
  show IntOp.cmpi .eq (k0_pay15 (ix2 j q)) (BitVec.ofNat 32 (0 * 128 + j.val)) = 1#1 ↔ q.val / 64 = j.val
  rw [e, ofNat_eq (by omega) (by omega)]
  omega
/-- The matrix that repeats a lane per head over the columns of the head. -/
theorem expand_real : R2 (k0_pay16 rowNoX k0_pay15) (fun j q => if q / 64 = j then 1 else 0) := R2.ofMask (φ := .f32) m_expand _

/-- The columns that a head's lane collects. -/
def headMask : IVec S512x128 32 :=
  select (andi (cmpi .ne (subi (extui 32 (cmpi .sgt (iota .tc S512x128 32 [0] iota_S512x128_d0_w32) (broadcast S512x128 0#32)) natLt_1_32)
      (extui 32 (cmpi .slt (iota .tc S512x128 32 [0] iota_S512x128_d0_w32) (broadcast S512x128 0#32)) natLt_1_32))
      (broadcast S512x128 (Scalar.subi (Scalar.extui (Scalar.cmpi .sgt 64#32 0#32)) (Scalar.extui (Scalar.cmpi .slt 64#32 0#32)))))
      (cmpi .ne (remsi (iota .tc S512x128 32 [0] iota_S512x128_d0_w32) (broadcast S512x128 64#32)) (broadcast S512x128 0#32)))
    (subi (divsi (iota .tc S512x128 32 [0] iota_S512x128_d0_w32) (broadcast S512x128 64#32)) (broadcast S512x128 1#32))
    (divsi (iota .tc S512x128 32 [0] iota_S512x128_d0_w32) (broadcast S512x128 64#32))
theorem headOf' : ∀ q : Fin 512, headMask (ix2 q (0 : Fin 128)) = BitVec.ofNat 32 (q.val / 64) := by decide +kernel
theorem m_collect : M2 (cmpi .eq headMask (iota .tc S512x128 32 [1] iota_S512x128_d1_w32)) (fun q j => q / 64 = j) := fun q j => by
  have e : headMask (ix2 q j) = BitVec.ofNat 32 (q.val / 64) := headOf' q
  show IntOp.cmpi .eq (headMask (ix2 q j)) (BitVec.ofNat 32 (0 * 128 + j.val)) = 1#1 ↔ q.val / 64 = j.val
  rw [e, ofNat_eq (by omega) (by omega)]
  omega
/-- The matrix that sums the columns of each head into its lane. -/
theorem collect_real : R2 k0_pay17 (fun q j => if q / 64 = j then 1 else 0) := R2.ofMask (φ := .f32) m_collect _

section three
variable {n k m : ℕ} {f e : ℕ → ℕ → ℝ}

/-- A matrix split in three parts, times a second one. -/
theorem R2.dot3 {w} {a1 a2 a3 : FVec Ideal ⟨2, ![n, k]⟩ .bf16} {b : FVec Ideal ⟨2, ![k, m]⟩ .bf16} (h1 : R2 a1 f)
    (h2 : R2 a2 (fun r c => f r c - f r c)) (h3 : R2 a3 (fun r c => (f r c - f r c) - (f r c - f r c))) (hb : R2 b e) (p1 p2 p3) :
    R2 (addf (addf (matmul (⟨[1], [0], [0], [1], [], [], w⟩ : DotDims ⟨2, ![n, k]⟩ ⟨2, ![k, m]⟩ ⟨2, ![n, m]⟩) p1 a1 b (constant ⟨2, ![n, m]⟩ .f32 0x00000000#32))
      (matmul (⟨[1], [0], [0], [1], [], [], w⟩ : DotDims ⟨2, ![n, k]⟩ ⟨2, ![k, m]⟩ ⟨2, ![n, m]⟩) p2 a2 b (constant ⟨2, ![n, m]⟩ .f32 0x00000000#32)))
      (matmul (⟨[1], [0], [0], [1], [], [], w⟩ : DotDims ⟨2, ![n, k]⟩ ⟨2, ![k, m]⟩ ⟨2, ![n, m]⟩) p3 a3 b (constant ⟨2, ![n, m]⟩ .f32 0x00000000#32)))
      (fun r c => ∑ i ∈ Finset.range k, f r i * e i c) :=
  (((R2.dot10 h1 hb p1).add (R2.dot10 h2 hb p2)).add (R2.dot10 h3 hb p3)).congr fun r c _ _ => by simp
/-- A matrix times one split in three parts. -/
theorem R2.dot3' {w} {a1 a2 a3 : FVec Ideal ⟨2, ![k, m]⟩ .bf16} {b : FVec Ideal ⟨2, ![n, k]⟩ .bf16} (h1 : R2 a1 f)
    (h2 : R2 a2 (fun r c => f r c - f r c)) (h3 : R2 a3 (fun r c => (f r c - f r c) - (f r c - f r c))) (hb : R2 b e) (p1 p2 p3) :
    R2 (addf (addf (matmul (⟨[1], [0], [0], [1], [], [], w⟩ : DotDims ⟨2, ![n, k]⟩ ⟨2, ![k, m]⟩ ⟨2, ![n, m]⟩) p1 b a1 (constant ⟨2, ![n, m]⟩ .f32 0x00000000#32))
      (matmul (⟨[1], [0], [0], [1], [], [], w⟩ : DotDims ⟨2, ![n, k]⟩ ⟨2, ![k, m]⟩ ⟨2, ![n, m]⟩) p2 b a2 (constant ⟨2, ![n, m]⟩ .f32 0x00000000#32)))
      (matmul (⟨[1], [0], [0], [1], [], [], w⟩ : DotDims ⟨2, ![n, k]⟩ ⟨2, ![k, m]⟩ ⟨2, ![n, m]⟩) p3 b a3 (constant ⟨2, ![n, m]⟩ .f32 0x00000000#32)))
      (fun r c => ∑ i ∈ Finset.range k, e r i * f i c) :=
  (((R2.dot10 hb h1 p1).add (R2.dot10 hb h2 p2)).add (R2.dot10 hb h3 p3)).congr fun r c _ _ => by simp
end three

/-- The step of a lane. -/
def stp (P : ℕ → ℕ → ℝ) (TB : ℕ → ℝ) (r j : ℕ) : ℝ :=
  if j < 8 then Max.max (P r j + TB j) 0 + Real.log (1 + Real.exp (0 - |P r j + TB j|)) else 0
/-- The decay rate of a lane. -/
def rte (AL : ℕ → ℝ) (j : ℕ) : ℝ := if j < 8 then 0 - Real.exp (AL j) else 0
/-- The running sum of step times rate in a block. -/
def acs (P : ℕ → ℕ → ℝ) (TB AL : ℕ → ℝ) (r j : ℕ) : ℝ :=
  ∑ i ∈ Finset.range 128, (if i ≤ r then (1 : ℝ) else 0) * (stp P TB i j * rte AL j)

variable {P : ℕ → ℕ → ℝ} {TB AL : ℕ → ℝ} {x7 : FVec Ideal S1x1x128x128 .f32} {x8 x9 : FVec Ideal S1x1x128 .f32}

theorem R2.of3r {n : ℕ} {v : FVec Ideal ⟨3, ![1, 1, n]⟩ .f32} {f : ℕ → ℝ} (hv : R3 v (fun _ c => f c)) (h) :
    R2 (shapeCast ⟨2, ![1, n]⟩ v h : FVec Ideal _ .f32) (fun _ c => f c) := R2.of3 hv h
theorem pre_real (h7 : R4 x7 P) (h8 : R3 x8 (fun _ c => TB c)) : R2 (k0_pay8 x7 x8) (fun r j => P r j + TB j) :=
  (R2.of4 h7 _).add ((R2.of3 h8 shapeCasts_S1x1x128_S1x128).brow broadcasts_S1x128_S128x128)
theorem stp_real (h7 : R4 x7 P) (h8 : R3 x8 (fun _ c => TB c)) : R2 (k0_pay9 x7 x8) (stp P TB) :=
  R2.select m_lane (((pre_real h7 h8).max (R2.broadcast zero_f32)).add
    ((R2.broadcast one_f32).add ((R2.broadcast zero_f32).sub (pre_real h7 h8).abs).exp |>.log (fun _ _ _ _ => by positivity))) (R2.broadcast zero_f32)
theorem rte_real (h9 : R3 x9 (fun _ c => AL c)) : R2 (k0_pay12 k0_pay10 (k0_pay11 x9) (Scalar.ofBits .f32 0x00000000#32)) (fun _ j => rte AL j) :=
  R2.select m_lane1 ((R2.broadcast zero_f32).sub (R2.of3 h9 shapeCasts_S1x1x128_S1x128).exp) (R2.broadcast zero_f32)
theorem acs_real (h7 : R4 x7 P) (h8 : R3 x8 (fun _ c => TB c)) (h9 : R3 x9 (fun _ c => AL c)) :
    R2 (k0_pay13 colNo rowNo (k0_pay9 x7 x8) k0_pay10 (k0_pay11 x9) (Scalar.ofBits .f32 0x00000000#32)) (acs P TB AL) :=
  have hx := (stp_real h7 h8).mul ((rte_real h9).brow broadcasts_S1x128_S128x128)
  R2.dot3' hx (hx.sub hx) ((hx.sub hx).sub (hx.sub hx)) (R2.ofMask (φ := .f32) m_causal natLt_1_32) none none none

/-- A lane per head repeated over the columns of the head. -/
theorem sum_expand (f : ℕ → ℝ) (q : ℕ) (hq : q < 512) : ∑ j ∈ Finset.range 128, f j * (if q / 64 = j then (1 : ℝ) else 0) = f (q / 64) := by
  simp only [mul_ite, mul_one, mul_zero]
  rw [Finset.sum_ite_eq, if_pos (Finset.mem_range.mpr (by omega))]
theorem stpx_real {v : FVec Ideal S128x128 .f32} {f : ℕ → ℕ → ℝ} (h : R2 v f) : R2 (k0_pay18 v rowNoX k0_pay15) (fun r q => f r (q / 64)) :=
  (R2.dot3 (w := dot_S128x128_S128x512_S128x512_1_0_0_1_n_n.wf) h (h.sub h) ((h.sub h).sub (h.sub h)) expand_real none none none).congr fun r q _ hq => sum_expand (f r) q hq
theorem acsx_real {v : FVec Ideal S128x128 .f32} {f : ℕ → ℕ → ℝ} (h : R2 v f) :
    R2 (k0_pay22 (k0_pay16 rowNoX k0_pay15) (k0_pay19 v) (k0_pay20 v) (k0_pay21 v)) (fun r q => f r (q / 64)) :=
  (R2.dot3 (w := dot_S128x128_S128x512_S128x512_1_0_0_1_n_n.wf) h (h.sub h) ((h.sub h).sub (h.sub h)) expand_real none none none).congr fun r q _ hq => sum_expand (f r) q hq
theorem endx_real {v : FVec Ideal S128x128 .f32} {f : ℕ → ℕ → ℝ} (h : R2 v f) :
    R2 (k0_pay23 (k0_pay16 rowNoX k0_pay15) (k0_pay19 v) (k0_pay20 v) (k0_pay21 v)) (fun _ q => f 127 (q / 64)) :=
  ((acsx_real h).slice ![127, 0] slices_S128x512_o127_0_S1x512).congr fun r q hr _ => by
    have : r = 0 := by omega
    subst this
    show f (127 + 0) ((0 + q) / 64) = _
    rw [zero_add]

end Ssd
end
-- ==== Proof.Body2.lean ====
module
public import proofs.«01_k».proof.Proof.Body1

/-! The products of the body, in real numbers: the decay of each head, the gradients of the key and query rows, of the
    values and of the state. -/

@[expose] public section
set_option maxRecDepth 16384

noncomputable section
namespace Ssd
open Idealize.ShloMosaic Idealize.ShloMosaic.ValueIdx Cert.KernelIdeal Cert.KernelIdeal.Gen
open scoped BigOperators

/-- The decay of one head between two rows of a block. -/
def dcy (A : ℕ → ℕ → ℝ) (h r s : ℕ) : ℝ := if s ≤ r then Real.exp (Min.min (A r h - A s h) 0) else 0
/-- The product of a query row and a key row. -/
def cbk (Bk Ck : ℕ → ℕ → ℝ) (r s : ℕ) : ℝ := ∑ n ∈ Finset.range 128, Ck r n * Bk s n
/-- The gradient of one head's decayed product. -/
def dmk (G U : ℕ → ℕ → ℝ) (h r s : ℕ) : ℝ := ∑ p ∈ Finset.range 64, G r (h * 64 + p) * U s (h * 64 + p)
/-- The gradient of the product of a query row and a key row. -/
def dcbk (A G U : ℕ → ℕ → ℝ) (r s : ℕ) : ℝ := ∑ h ∈ Finset.range 8, dmk G U h r s * dcy A h r s

variable {A G U Bk Ck H DH X T : ℕ → ℕ → ℝ} {v55 : FVec Ideal S128x128 .f32} {v203 v218 : FVec Ideal S128x512 .bf16}

theorem dcy_real (o : ℕ) {o1 o2 : ℕ} (e1 : o1 = o) (e2 : o2 = o) (hA : R2 v55 A) (w1 w2 w3 w4) :
    R2 (select (cmpi .sge rowNo colNo) (exp (minimumf (subf (broadcastTo S128x128 (extractStridedSlice S128x1 ![0, o1] v55 w1) w2)
      (broadcastTo S128x128 (extractStridedSlice S1x128 ![o2, 0] (transpose S128x128 [1, 0] v55 transposes_S128x128_p1_0_S128x128) w3) w4))
      (broadcast S128x128 (Scalar.ofBits .f32 0x00000000#32)))) (broadcast S128x128 (Scalar.ofBits .f32 0x00000000#32)) : FVec Ideal S128x128 .f32) (dcy A o) := by
  subst e1 e2
  exact (R2.select m_causal ((((hA.slice ![0, o2] w1).bcol w2).sub (((hA.transp _).slice ![o2, 0] w3).brow w4)).min (R2.broadcast zero_f32)).exp
    (R2.broadcast zero_f32)).congr fun r s _ _ => by
      show (if s ≤ r then Real.exp (Min.min (A (0 + r) (o2 + 0) - A (0 + s) (o2 + 0)) 0) else 0) = _
      rw [zero_add, zero_add, add_zero, dcy]
theorem dmk_real (o : ℕ) {o1 : ℕ} (e1 : o1 = o * 64) (hG : R2 v203 G) (hU : R2 v218 U) (w1 w2) :
    R2 (matmul dot_S128x64_S128x64_S128x128_1_1_0_0_n_n none (extractStridedSlice S128x64 ![0, o1] v203 w1) (extractStridedSlice S128x64 ![0, o1] v218 w2)
      (constant S128x128 .f32 0x00000000#32) : FVec Ideal S128x128 .f32) (dmk G U o) := by
  subst e1
  exact (R2.dot11 (w := dot_S128x64_S128x64_S128x128_1_1_0_0_n_n.wf) (hG.slice ![0, o * 64] w1) (hU.slice ![0, o * 64] w2) none).congr fun r s _ _ => by
    refine Finset.sum_congr rfl fun p _ => ?_
    show G (0 + r) _ * U (0 + s) _ = _
    rw [zero_add, zero_add]; rfl

/-- The decayed product of one head, as every head's lines compute it. -/
abbrev dcyV (o : ℕ) (v55 : FVec Ideal S128x128 .f32) (w1 : S128x128.Slices ![0, o] S128x1) (w3 : S128x128.Slices ![o, 0] S1x128) : FVec Ideal S128x128 .f32 :=
  select (cmpi .sge rowNo colNo) (exp (minimumf (subf (broadcastTo S128x128 (extractStridedSlice S128x1 ![0, o] v55 w1) broadcasts_S128x1_S128x128)
      (broadcastTo S128x128 (extractStridedSlice S1x128 ![o, 0] (transpose S128x128 [1, 0] v55 transposes_S128x128_p1_0_S128x128) w3) broadcasts_S1x128_S128x128))
      (broadcast S128x128 (Scalar.ofBits .f32 0x00000000#32)))) (broadcast S128x128 (Scalar.ofBits .f32 0x00000000#32))

/-- The sum over the heads, as the body adds it up. -/
abbrev dcbV (v55 v56 : FVec Ideal S128x128 .f32) (v142 : IVec S128x128 1) (v203 v218 : FVec Ideal S128x512 .bf16) : FVec Ideal S128x128 .f32 :=
  k0_pay124 v55 v56 v142 v203 v218 (k0_pay115 v55 v56 v142 v203 v218 (k0_pay108 v55 v56 v142 v203 v218
    (k0_pay94 (k0_pay85 (k0_pay76 v203 v218 (k0_pay69 v142 v203 v218 k0_pay61 (k0_pay64 v55 v56) k0_pay65) (k0_pay73 v55 v56 v142))
      (k0_pay80 v55 v56 v142) (k0_pay82 v203 v218)) (k0_pay89 v55 v56 v142) (k0_pay90 v203 v218)) (k0_pay98 v55 v56 v142) (k0_pay99 v203 v218)))

theorem dcb_real (hA : R2 v55 A) (hG : R2 v203 G) (hU : R2 v218 U) :
    R2 (dcbV v55 (transpose S128x128 [1, 0] v55 transposes_S128x128_p1_0_S128x128) (k0_pay24 colNo rowNo) v203 v218) (dcbk A G U) :=
  ((((((((R2.broadcast zero_f32).add ((dmk_real 0 (o1 := 0) rfl hG hU _ _).mul (dcy_real 0 (o1 := 0) (o2 := 0) rfl rfl hA _ _ _ _))).add
    ((dmk_real 1 (o1 := 64) rfl hG hU _ _).mul (dcy_real 1 (o1 := 1) (o2 := 1) rfl rfl hA _ _ _ _))).add
    ((dmk_real 2 (o1 := 128) rfl hG hU _ _).mul (dcy_real 2 (o1 := 2) (o2 := 2) rfl rfl hA _ _ _ _))).add
    ((dmk_real 3 (o1 := 192) rfl hG hU _ _).mul (dcy_real 3 (o1 := 3) (o2 := 3) rfl rfl hA _ _ _ _))).add
    ((dmk_real 4 (o1 := 256) rfl hG hU _ _).mul (dcy_real 4 (o1 := 4) (o2 := 4) rfl rfl hA _ _ _ _))).add
    ((dmk_real 5 (o1 := 320) rfl hG hU _ _).mul (dcy_real 5 (o1 := 5) (o2 := 5) rfl rfl hA _ _ _ _))).add
    ((dmk_real 6 (o1 := 384) rfl hG hU _ _).mul (dcy_real 6 (o1 := 6) (o2 := 6) rfl rfl hA _ _ _ _))).add
    ((dmk_real 7 (o1 := 448) rfl hG hU _ _).mul (dcy_real 7 (o1 := 7) (o2 := 7) rfl rfl hA _ _ _ _)) |>.congr fun r s _ _ => by
      simp only [dcbk, Finset.sum_range_succ, Finset.sum_range_zero]

variable {x2 : FVec Ideal S1x128x512 .f32} {x3 x4 : FVec Ideal S1x128x128 .f32} {x6 : FVec Ideal S1x1x1x128x512 .f32} {sc v202 v140 v128 : FVec Ideal S128x512 .f32}
  {v141 : FVec Ideal S1x512 .f32}

/-- The gradient of the query rows. -/
theorem dcm_real (h3 : R3 x3 Bk) (h6 : R5 x6 H) (hdy : R2 v202 G) (hax : R2 v140 X) {v595 : FVec Ideal S128x128 .f32} {K : ℕ → ℕ → ℝ} (hK : R2 v595 K) :
    R3 (k0_pay128 (k0_pay41 x3) (k0_pay53 (k0_pay44 x6) (k0_pay51 v140 v202)) v595)
      (fun r n => ∑ q ∈ Finset.range 512, G r q * Real.exp (X r q) * H n q + ∑ s ∈ Finset.range 128, K r s * Bk s n) :=
  R2.to3 ((R2.dot11 (w := dot_S128x512_S128x512_S128x128_1_1_0_0_n_n.wf) ((hdy.mul hax.exp).trunc bitsLt_bf16_f32) ((R2.of5 h6 shapeCasts_S1x1x1x128x512_S128x512).trunc bitsLt_bf16_f32) none).add
    (R2.dot10 (w := dot_S128x128_S128x128_S128x128_1_0_0_1_n_n.wf) (hK.trunc bitsLt_bf16_f32) ((R2.of3 h3 shapeCasts_S1x128x128_S128x128).trunc bitsLt_bf16_f32) none)) _
/-- The gradient of the key rows. -/
theorem dbm_real {E : ℕ → ℝ} (h2 : R3 x2 U) (h4 : R3 x4 Ck) (hs : R2 sc DH) (hdt : R2 v128 T) (hax : R2 v140 X) (he : R2 v141 (fun _ q => E q))
    {v595 : FVec Ideal S128x128 .f32} {K : ℕ → ℕ → ℝ} (hK : R2 v595 K) :
    R3 (k0_pay129 (k0_pay42 x4) (k0_pay55 (k0_pay45 sc) (k0_pay49 v128 v140 v141 (k0_pay40 x2))) v595)
      (fun s n => ∑ q ∈ Finset.range 512, U s q * T s q * Real.exp (E q - X s q) * DH n q + ∑ r ∈ Finset.range 128, K r s * Ck r n) :=
  R2.to3 ((R2.dot11 (w := dot_S128x512_S128x512_S128x128_1_1_0_0_n_n.wf) ((((R2.of3 h2 shapeCasts_S1x128x512_S128x512).mul hdt).mul ((he.brow broadcasts_S1x512_S128x512).sub hax).exp).trunc bitsLt_bf16_f32) (hs.trunc bitsLt_bf16_f32) none).add
    (R2.dot00 (w := dot_S128x128_S128x128_S128x128_0_0_1_1_n_n.wf) (hK.trunc bitsLt_bf16_f32) ((R2.of3 h4 shapeCasts_S1x128x128_S128x128).trunc bitsLt_bf16_f32) none)) _
theorem R2.self {n m : ℕ} {v : FVec Ideal ⟨2, ![n, m]⟩ .f32} {f : ℕ → ℕ → ℝ} (hv : R2 v f) (h) : R2 (shapeCast ⟨2, ![n, m]⟩ v h : FVec Ideal _ .f32) f :=
  fun r c => by rw [← hv r c]; exact shapeCast_apply v h (ix2 r c) (ix2 r c) rfl
/-- The gradient of the state that enters the block, before the next one. -/
theorem dh_real {E : ℕ → ℝ} (h4 : R3 x4 Ck) (hs : R2 sc DH) (hdy : R2 v202 G) (hax : R2 v140 X) (he : R2 v141 (fun _ q => E q)) :
    R2 (k0_pay58 v141 (k0_pay42 x4) sc (k0_pay51 v140 v202))
      (fun n q => DH n q * Real.exp (E q) + ∑ r ∈ Finset.range 128, Ck r n * (G r q * Real.exp (X r q))) :=
  R2.self ((hs.mul (he.exp.brow broadcasts_S1x512_S128x512)).add
    (R2.dot00 (w := dot_S128x128_S128x512_S128x512_0_0_1_1_n_n.wf) ((R2.of3 h4 shapeCasts_S1x128x128_S128x128).trunc bitsLt_bf16_f32) ((hdy.mul hax.exp).trunc bitsLt_bf16_f32) none)) _
/-- The running sum of the skip's gradient. -/
theorem ddsk_real {x20 : FVec Ideal S1x1x128 .f32} {D : ℕ → ℝ} (h2 : R3 x2 U) (hdy : R2 v202 G) (h20 : R3 x20 (fun _ j => D j)) :
    R3 (k0_pay50 k0_pay17 v202 (k0_pay40 x2) x20)
      (fun _ j => D j + ∑ q ∈ Finset.range 512, (∑ r ∈ Finset.range 128, G r q * U r q) * (if q / 64 = j then 1 else 0)) :=
  have hx := (R2.self (((hdy.mul (R2.of3 h2 shapeCasts_S1x128x512_S128x512)).sumRows 0x00000000#32 reduces_S128x512_S512 (.inl rfl) rfl).row shapeCasts_S512_S1x512) shapeCasts_S1x512_S1x512).brow broadcasts_S1x512_S8x512
  R2.to3 ((R2.of3 h20 shapeCasts_S1x1x128_S1x128).add
    ((R2.dot3 (w := dot_S8x512_S512x128_S8x128_1_0_0_1_n_n.wf) (hx.trunc bitsLt_bf16_f32) ((hx.sub hx).trunc bitsLt_bf16_f32) (((hx.sub hx).sub (hx.sub hx)).trunc bitsLt_bf16_f32) collect_real none none none).slice ![0, 0] slices_S8x128_o0_0_S1x128
      |>.congr fun r j _ _ => by
        show _ = ∑ q ∈ Finset.range 512, _
        refine Finset.sum_congr rfl fun q _ => ?_
        show _ * (if q / 64 = 0 + j then (1 : ℝ) else 0) = _ * _
        rw [zero_add])) _

end Ssd
end
-- ==== Proof.Points2.lean ====
module
public import proofs.«01_k».proof.Proof.Body2
public import Idealize.ShloMosaic.Lib.Pipeline.ValueKit

/-! What a grid point leaves in the blocks of the gradients of the query rows, the key rows and the skip, and in the
    running state: the printed payloads of the blocks it reads. -/

@[expose] public section
set_option maxRecDepth 16384

noncomputable section
namespace Ssd.Points
open Idealize.ShloMosaic Idealize.ShloMosaic.TcCoe Cert.KernelIdeal Cert.KernelIdeal.Gen
variable (m : (ℓ : Loc nD τ Cert.KernelIdeal.sig) → Buf (Elt Ideal) ℓ) (c : Dev nD) (t : Fin cfg0.N)

/-- The steps of a point. -/
abbrev dtV : FVec Ideal S128x128 .f32 := k0_pay9 (iblk m c 7 t) (iblk m c 8 t)
/-- The running sums of a point. -/
abbrev acsV : FVec Ideal S128x128 .f32 :=
  k0_pay13 colNo rowNo (dtV m c t) k0_pay10 (k0_pay11 (iblk m c 9 t)) (Scalar.ofBits .f32 0x00000000#32)
/-- The running sums of a point, transposed. -/
abbrev acsT : FVec Ideal S128x128 .f32 :=
  k0_pay14 colNo rowNo (dtV m c t) k0_pay10 (k0_pay11 (iblk m c 9 t)) (Scalar.ofBits .f32 0x00000000#32)
/-- The running sums of a point, by column. -/
abbrev acsX : FVec Ideal S128x512 .f32 :=
  k0_pay22 (k0_pay16 rowNoX k0_pay15) (k0_pay19 (acsV m c t)) (k0_pay20 (acsV m c t)) (k0_pay21 (acsV m c t))
/-- The last of them. -/
abbrev endX : FVec Ideal S1x512 .f32 :=
  k0_pay23 (k0_pay16 rowNoX k0_pay15) (k0_pay19 (acsV m c t)) (k0_pay20 (acsV m c t)) (k0_pay21 (acsV m c t))
/-- The steps of a point, by column. -/
abbrev dtX : FVec Ideal S128x512 .f32 := k0_pay18 (dtV m c t) rowNoX k0_pay15
/-- The gradient of the layer's output at a point. -/
abbrev dyV : FVec Ideal S128x512 .f32 :=
  k0_pay38 (k0_pay28 (X0_5 m c t)) (k0_pay30 (iblk m c 1 t) (X0_5 m c t)) (k0_pay31 (iblk m c 1 t) (X0_5 m c t)) (k0_pay32 (iblk m c 0 t)) (iblk m c 11 t)
/-- The same, narrowed. -/
abbrev dyB : FVec Ideal S128x512 .bf16 :=
  k0_pay39 (k0_pay28 (X0_5 m c t)) (k0_pay30 (iblk m c 1 t) (X0_5 m c t)) (k0_pay31 (iblk m c 1 t) (X0_5 m c t)) (k0_pay32 (iblk m c 0 t)) (iblk m c 11 t)
/-- The sum over the heads of the decayed products' gradients at a point. -/
abbrev dcbP : FVec Ideal S128x128 .f32 :=
  dcbV (acsV m c t) (acsT m c t) (k0_pay24 colNo rowNo) (dyB m c t) (k0_pay47 (dtX m c t) (k0_pay40 (iblk m c 2 t)))

theorem dcm_eq : (outsAt0 m c t.val t.isLt).2.2.1
    = k0_pay128 (k0_pay41 (iblk m c 3 t)) (k0_pay53 (k0_pay44 (iblk m c 6 t)) (k0_pay51 (acsX m c t) (dyV m c t))) (dcbP m c t) := by
  by_cases h1 : t.val % 16 = 0
  · by_cases h0 : t.val % 32 = 0
    · rw [outsAt0_A m c t h0 h1]; dsimp only; frame_out
    · rw [outsAt0_C m c t h0 h1]; dsimp only; frame_out
  · have h0 : ¬t.val % 32 = 0 := by omega
    rw [outsAt0_B m c t h0 h1]; dsimp only; frame_out

theorem dbm_first (h1 : t.val % 16 = 0) : (outsAt0 m c t.val t.isLt).2.1
    = k0_pay129 (k0_pay42 (iblk m c 4 t)) (k0_pay55 (k0_pay45 (k0_pay6 (F := Ideal))) (k0_pay49 (dtX m c t) (acsX m c t) (endX m c t) (k0_pay40 (iblk m c 2 t)))) (dcbP m c t) := by
  by_cases h0 : t.val % 32 = 0
  · rw [outsAt0_A m c t h0 h1]; dsimp only; frame_out
  · rw [outsAt0_C m c t h0 h1]; dsimp only; frame_out
theorem dbm_next (h1 : ¬t.val % 16 = 0) : (outsAt0 m c t.val t.isLt).2.1
    = k0_pay129 (k0_pay42 (iblk m c 4 t)) (k0_pay55 (k0_pay45 (outsAt0 m c (t.val - 1) (Nat.lt_of_le_of_lt (Nat.sub_le _ _) t.isLt)).2.2.2.2.2.2.2.2.2)
        (k0_pay49 (dtX m c t) (acsX m c t) (endX m c t) (k0_pay40 (iblk m c 2 t)))) (dcbP m c t) := by
  rw [outsAt0_B m c t (by omega) h1]; dsimp only; frame_out
  exact congrArg (fun z => k0_pay129 (k0_pay42 (iblk m c 4 t)) (k0_pay55 (k0_pay45 z) (k0_pay49 (dtX m c t) (acsX m c t) (endX m c t) (k0_pay40 (iblk m c 2 t)))) (dcbP m c t))
    (Memref.IsWhole.read_unread _ _)

theorem dh_first (h1 : t.val % 16 = 0) : (outsAt0 m c t.val t.isLt).2.2.2.2.2.2.2.2.2
    = k0_pay58 (endX m c t) (k0_pay42 (iblk m c 4 t)) (k0_pay6 (F := Ideal)) (k0_pay51 (acsX m c t) (dyV m c t)) := by
  by_cases h0 : t.val % 32 = 0
  · rw [outsAt0_A m c t h0 h1]; dsimp only; frame_out
  · rw [outsAt0_C m c t h0 h1]; dsimp only; frame_out
theorem dh_next (h1 : ¬t.val % 16 = 0) : (outsAt0 m c t.val t.isLt).2.2.2.2.2.2.2.2.2
    = k0_pay58 (endX m c t) (k0_pay42 (iblk m c 4 t)) (outsAt0 m c (t.val - 1) (Nat.lt_of_le_of_lt (Nat.sub_le _ _) t.isLt)).2.2.2.2.2.2.2.2.2
        (k0_pay51 (acsX m c t) (dyV m c t)) := by
  rw [outsAt0_B m c t (by omega) h1]; dsimp only; frame_out
  exact congrArg (fun z => k0_pay58 (endX m c t) (k0_pay42 (iblk m c 4 t)) z (k0_pay51 (acsX m c t) (dyV m c t))) (Memref.IsWhole.read_unread _ _)

theorem ddsk_first (h0 : t.val % 32 = 0) : (outsAt0 m c t.val t.isLt).2.2.2.2.2.2.2.2.1
    = k0_pay50 k0_pay17 (dyV m c t) (k0_pay40 (iblk m c 2 t)) (k0_pay5 (F := Ideal)) := by
  rw [outsAt0_A m c t h0 (by omega)]; dsimp only; frame_out
theorem ddsk_next (h0 : ¬t.val % 32 = 0) : (outsAt0 m c t.val t.isLt).2.2.2.2.2.2.2.2.1
    = k0_pay50 k0_pay17 (dyV m c t) (k0_pay40 (iblk m c 2 t)) (outsAt0 m c (t.val - 1) (Nat.lt_of_le_of_lt (Nat.sub_le _ _) t.isLt)).2.2.2.2.2.2.2.2.1 := by
  by_cases h1 : t.val % 16 = 0
  · rw [outsAt0_C m c t h0 h1]; dsimp only; frame_out
  · rw [outsAt0_B m c t h0 h1]; dsimp only; frame_out

end Ssd.Points
end
-- ==== Proof.Body3.lean ====
module
public import proofs.«01_k».proof.Proof.Points2

/-! The gradient of the values: the eight heads' stores, read back as one block, and the block the point leaves. -/

@[expose] public section
set_option maxRecDepth 16384

noncomputable section
namespace Ssd
open Idealize.ShloMosaic Idealize.ShloMosaic.ValueIdx Cert.KernelIdeal Cert.KernelIdeal.Gen
open scoped BigOperators

/-- The gradient of the scaled values inside a block. -/
def dxk (A G Bk Ck : ℕ → ℕ → ℝ) (s q : ℕ) : ℝ :=
  ∑ r ∈ Finset.range 128, cbk Bk Ck r s * dcy A (q / 64) r s * G r q

variable {A G U Bk Ck H DH X T : ℕ → ℕ → ℝ} {v55 : FVec Ideal S128x128 .f32} {v203 : FVec Ideal S128x512 .bf16} {v283 : FVec Ideal S128x128 .f32}

theorem cb_real {x3 x4 : FVec Ideal S1x128x128 .f32} (h3 : R3 x3 Bk) (h4 : R3 x4 Ck) : R2 (k0_pay60 (k0_pay41 x3) (k0_pay42 x4)) (cbk Bk Ck) :=
  R2.dot11 (w := dot_S128x128_S128x128_S128x128_1_1_0_0_n_n.wf) ((R2.of3 h4 shapeCasts_S1x128x128_S128x128).trunc bitsLt_bf16_f32)
    ((R2.of3 h3 shapeCasts_S1x128x128_S128x128).trunc bitsLt_bf16_f32) none

theorem dxh_real (o : ℕ) {o1 : ℕ} (e1 : o1 = o * 64) {d : FVec Ideal S128x128 .f32} (hd : R2 d (dcy A o)) (hc : R2 v283 (cbk Bk Ck)) (hG : R2 v203 G) (w1) :
    R3 (shapeCast S1x128x64 (matmul dot_S128x128_S128x64_S128x64_0_0_1_1_n_n none (truncf .bf16 (mulf v283 d) bitsLt_bf16_f32)
      (extractStridedSlice S128x64 ![0, o1] v203 w1) (constant S128x64 .f32 0x00000000#32)) shapeCasts_S128x64_S1x128x64 : FVec Ideal S1x128x64 .f32)
      (fun s p => ∑ r ∈ Finset.range 128, cbk Bk Ck r s * dcy A o r s * G r (o1 + p)) :=
  R2.to3 ((R2.dot00 (w := dot_S128x128_S128x64_S128x64_0_0_1_1_n_n.wf) ((hc.mul hd).trunc bitsLt_bf16_f32) (hG.slice ![0, o1] w1) none).congr fun s p _ _ => by
    refine Finset.sum_congr rfl fun r _ => ?_
    show _ * G (0 + r) (o1 + p) = _
    rw [zero_add]) _

/-- A block as a function of its index. -/
def blk (g : ℕ → ℕ → ℝ) : S1x128x512.Idx → EReal := fun i => ((g (i 1).val (i 2).val : ℝ) : EReal)
theorem piece (o : ℕ) {o1 : ℕ} (e1 : o1 = o * 64) (inb) {w : FVec Ideal S1x128x64 .f32}
    (hw : R3 w (fun s p => ∑ r ∈ Finset.range 128, cbk Bk Ck r s * dcy A o r s * G r (o1 + p))) :
    ∀ x : (Rect.unit (s := S1x128x512) ![0, 0, o1] ![1, 128, 64] inb).shape.Idx, w x = blk (dxk A G Bk Ck) ((Rect.unit (s := S1x128x512) ![0, 0, o1] ![1, 128, 64] inb).emb x) := fun x => by
  have hx : (x 2).val < 64 := (x 2).isLt
  have ex : x = (ValueIdx.ix3 (x 0) (x 1) (x 2) : S1x128x64.Idx) := ValueIdx.eq_ix3 (n0 := 1) (n1 := 128) (n2 := 64) x
  rw [ex, hw (x 0) (x 1) (x 2)]
  show _ = ((dxk A G Bk Ck (0 + 1 * (x 1).val) (o1 + 1 * (x 2).val) : ℝ) : EReal)
  rw [zero_add, one_mul, one_mul, dxk, show (o1 + (x 2).val) / 64 = o by omega]

/-- The eight stores of the heads. -/
abbrev dxL (v55 v56 : FVec Ideal S128x128 .f32) (v142 : IVec S128x128 1) (v203 : FVec Ideal S128x512 .bf16) (v283 : FVec Ideal S128x128 .f32) :
    List (View.Piece (Elt Ideal) S1x128x512 .f32) :=
  [⟨Rect.unit ![0, 0, 448] ![1, 128, 64] inb_S1x128x512_S1x128x64_0_0_448, k0_pay122 v55 v56 v142 v203 v283⟩,
   ⟨Rect.unit ![0, 0, 384] ![1, 128, 64] inb_S1x128x512_S1x128x64_0_0_384, k0_pay113 v55 v56 v142 v203 v283⟩,
   ⟨Rect.unit ![0, 0, 320] ![1, 128, 64] inb_S1x128x512_S1x128x64_0_0_320, k0_pay106 v55 v56 v142 v203 v283⟩,
   ⟨Rect.unit ![0, 0, 256] ![1, 128, 64] inb_S1x128x512_S1x128x64_0_0_256, k0_pay100 v55 v56 v142 v203 v283⟩,
   ⟨Rect.unit ![0, 0, 192] ![1, 128, 64] inb_S1x128x512_S1x128x64_0_0_192, k0_pay92 (k0_pay91 v55 v56 v142 v203 v283)⟩,
   ⟨Rect.unit ![0, 0, 128] ![1, 128, 64] inb_S1x128x512_S1x128x64_0_0_128, k0_pay83 v203 (k0_pay81 v55 v56 v142 v283)⟩,
   ⟨Rect.unit ![0, 0, 64] ![1, 128, 64] inb_S1x128x512_S1x128x64_0_0_64, k0_pay74 v203 v283 (k0_pay73 v55 v56 v142)⟩,
   ⟨Rect.unit ![0, 0, 0] ![1, 128, 64] inb_S1x128x512_S1x128x64_0_0_0, k0_pay67 v142 v203 v283 (k0_pay64 v55 v56) k0_pay65⟩]

theorem covered {L : List (View.Piece (Elt Ideal) S1x128x512 .f32)} (y : S1x128x512.Idx) (o : ℕ) {o1 : ℕ} (e1 : o1 = o * 64) (inb) {w}
    (hm : (⟨Rect.unit ![0, 0, o1] ![1, 128, 64] inb, w⟩ : View.Piece (Elt Ideal) S1x128x512 .f32) ∈ L) (hy : (y 2).val / 64 = o) : ∃ p ∈ L, y ∈ p.1.set := by
  refine ⟨_, hm, (Rect.mem_set_unit (inb := inb)).mpr fun ax => ?_⟩
  have h0 : (y 0).val < 1 := (y 0).isLt
  have h1 : (y 1).val < 128 := (y 1).isLt
  match ax with
  | ⟨0, _⟩ => exact ⟨Nat.zero_le _, show (y 0).val < 0 + 1 by omega⟩
  | ⟨1, _⟩ => exact ⟨Nat.zero_le _, show (y 1).val < 0 + 128 by omega⟩
  | ⟨2, _⟩ => exact ⟨show o1 ≤ (y 2).val by omega, show (y 2).val < o1 + 64 by omega⟩

/-- The heads' stores, read back. -/
theorem dxL_real (hA : R2 v55 A) (hG : R2 v203 G) (hc : R2 v283 (cbk Bk Ck)) {sig : RefSig} {κ : Kind} {sp : Space} (v : View sig κ sp S1x128x512 .f32) (inb) :
    R3 (n := 128) (m := 512) (φ := .f32) (v.readCov (dxL v55 (transpose S128x128 [1, 0] v55 transposes_S128x128_p1_0_S128x128) (k0_pay24 colNo rowNo) v203 v283)
      (Rect.unit (s := S1x128x512) ![0, 0, 0] ![1, 128, 512] inb).toLoadRect : FVec Ideal S1x128x512 .f32) (dxk A G Bk Ck) := fun z s q => by
  rw [View.readCov_eq_canon']
  have hq : q.val < 512 := q.isLt
  have e2 : (((Rect.unit (s := S1x128x512) ![0, 0, 0] ![1, 128, 512] inb).toLoadRect.idx (ValueIdx.ix3 z s q)) 2).val = q.val := by
    show 0 + 1 * q.val = q.val
    omega
  have e1 : (((Rect.unit (s := S1x128x512) ![0, 0, 0] ![1, 128, 512] inb).toLoadRect.idx (ValueIdx.ix3 z s q)) 1).val = s.val := by
    show 0 + 1 * s.val = s.val
    omega
  refine (View.canon_apply_of_pieces (blk (dxk A G Bk Ck)) _ (fun p hp => ?_) _ ?_).trans ?_
  · simp only [List.mem_cons, List.not_mem_nil, or_false] at hp
    rcases hp with rfl | rfl | rfl | rfl | rfl | rfl | rfl | rfl
    · exact piece 7 (o1 := 448) rfl inb_S1x128x512_S1x128x64_0_0_448 (dxh_real 7 (o1 := 448) rfl (dcy_real 7 (o1 := 7) (o2 := 7) rfl rfl hA _ _ _ _) hc hG _)
    · exact piece 6 (o1 := 384) rfl inb_S1x128x512_S1x128x64_0_0_384 (dxh_real 6 (o1 := 384) rfl (dcy_real 6 (o1 := 6) (o2 := 6) rfl rfl hA _ _ _ _) hc hG _)
    · exact piece 5 (o1 := 320) rfl inb_S1x128x512_S1x128x64_0_0_320 (dxh_real 5 (o1 := 320) rfl (dcy_real 5 (o1 := 5) (o2 := 5) rfl rfl hA _ _ _ _) hc hG _)
    · exact piece 4 (o1 := 256) rfl inb_S1x128x512_S1x128x64_0_0_256 (dxh_real 4 (o1 := 256) rfl (dcy_real 4 (o1 := 4) (o2 := 4) rfl rfl hA _ _ _ _) hc hG _)
    · exact piece 3 (o1 := 192) rfl inb_S1x128x512_S1x128x64_0_0_192 (dxh_real 3 (o1 := 192) rfl (dcy_real 3 (o1 := 3) (o2 := 3) rfl rfl hA _ _ _ _) hc hG _)
    · exact piece 2 (o1 := 128) rfl inb_S1x128x512_S1x128x64_0_0_128 (dxh_real 2 (o1 := 128) rfl (dcy_real 2 (o1 := 2) (o2 := 2) rfl rfl hA _ _ _ _) hc hG _)
    · exact piece 1 (o1 := 64) rfl inb_S1x128x512_S1x128x64_0_0_64 (dxh_real 1 (o1 := 64) rfl (dcy_real 1 (o1 := 1) (o2 := 1) rfl rfl hA _ _ _ _) hc hG _)
    · exact piece 0 (o1 := 0) rfl inb_S1x128x512_S1x128x64_0_0_0 (dxh_real 0 (o1 := 0) rfl (dcy_real 0 (o1 := 0) (o2 := 0) rfl rfl hA _ _ _ _) hc hG _)
  · obtain h | h | h | h | h | h | h | h : q.val / 64 = 0 ∨ q.val / 64 = 1 ∨ q.val / 64 = 2 ∨ q.val / 64 = 3 ∨ q.val / 64 = 4 ∨ q.val / 64 = 5 ∨ q.val / 64 = 6 ∨ q.val / 64 = 7 := by omega
    · exact covered _ 0 (o1 := 0) rfl inb_S1x128x512_S1x128x64_0_0_0 (by simp only [List.mem_cons]; tauto) (by rw [e2]; exact h)
    · exact covered _ 1 (o1 := 64) rfl inb_S1x128x512_S1x128x64_0_0_64 (by simp only [List.mem_cons]; tauto) (by rw [e2]; exact h)
    · exact covered _ 2 (o1 := 128) rfl inb_S1x128x512_S1x128x64_0_0_128 (by simp only [List.mem_cons]; tauto) (by rw [e2]; exact h)
    · exact covered _ 3 (o1 := 192) rfl inb_S1x128x512_S1x128x64_0_0_192 (by simp only [List.mem_cons]; tauto) (by rw [e2]; exact h)
    · exact covered _ 4 (o1 := 256) rfl inb_S1x128x512_S1x128x64_0_0_256 (by simp only [List.mem_cons]; tauto) (by rw [e2]; exact h)
    · exact covered _ 5 (o1 := 320) rfl inb_S1x128x512_S1x128x64_0_0_320 (by simp only [List.mem_cons]; tauto) (by rw [e2]; exact h)
    · exact covered _ 6 (o1 := 384) rfl inb_S1x128x512_S1x128x64_0_0_384 (by simp only [List.mem_cons]; tauto) (by rw [e2]; exact h)
    · exact covered _ 7 (o1 := 448) rfl inb_S1x128x512_S1x128x64_0_0_448 (by simp only [List.mem_cons]; tauto) (by rw [e2]; exact h)
  · rw [blk, e1, e2]

/-- The gradient of the values. -/
theorem dxs_real {x3 : FVec Ideal S1x128x128 .f32} {sc v202 v140 v128 : FVec Ideal S128x512 .f32} {v141 x10 : FVec Ideal S1x512 .f32} {E K : ℕ → ℝ}
    (h3 : R3 x3 Bk) (hs : R2 sc DH) (hdy : R2 v202 G) (hdt : R2 v128 T) (hax : R2 v140 X) (he : R2 v141 (fun _ q => E q)) (h10 : R2 x10 (fun _ q => K q))
    {v626 : FVec Ideal S1x128x512 .f32} {D : ℕ → ℕ → ℝ} (hD : R3 v626 D) :
    R3 (k0_pay131 v128 v202 (k0_pay56 (k0_pay41 x3) (k0_pay45 sc) (k0_pay48 v140 v141)) v626 x10)
      (fun s q => G s q * K q + ((∑ n ∈ Finset.range 128, Bk s n * DH n q) * Real.exp (E q - X s q) + D s q) * T s q) :=
  R2.to3 ((hdy.mul ((R2.self h10 shapeCasts_S1x512_S1x512).brow broadcasts_S1x512_S128x512)).add
    ((((R2.dot10 (w := dot_S128x128_S128x512_S128x512_1_0_0_1_n_n.wf) ((R2.of3 h3 shapeCasts_S1x128x128_S128x128).trunc bitsLt_bf16_f32) (hs.trunc bitsLt_bf16_f32) none).mul
      ((he.brow broadcasts_S1x512_S128x512).sub hax).exp).add (R2.of3 hD shapeCasts_S1x128x512_S128x512)).mul hdt)) _

end Ssd
end
-- ==== Proof.Scan.lean ====
module
public import proofs.«01_k».proof.Proof.Spec2
public import proofs.«01_k».proof.Proof.Body2
public import proofs.«01_k».proof.Proof.Body3

/-! The chunked form of the layer's gradients, over the real numbers: a sum over all times is the part before a chunk,
    the chunk, and the part after it, and the two outer parts pass through a state. -/

@[expose] public section

noncomputable section
namespace Ssd.Args
open scoped BigOperators

variable (a : Args) (b g : ℕ)

/-- The decay's logarithm summed over the times before `n`. -/
def S (n H : ℕ) : ℝ := ∑ u ∈ Finset.range n, a.dt b u H * a.rate H
/-- The sum within the block that begins at `E`, on the lanes of the heads. -/
def Ab (E r j : ℕ) : ℝ := if j < 8 then a.S b (E + (r + 1)) (g * 8 + j) - a.S b E (g * 8 + j) else 0
/-- The values scaled by the step, by column of a group. -/
def Ub (s q : ℕ) : ℝ := a.X b s (g * 512 + q) * a.dt b s (g * 8 + q / 64)
/-- The gradient of the state at the time `E`, from the later times. -/
def DD (E n q : ℕ) : ℝ := ∑ t ∈ Finset.range 2048,
  if E ≤ t then a.C b t g n * a.dYb b g t q * Real.exp (a.cs b t (g * 8 + q / 64) - a.S b E (g * 8 + q / 64)) else 0
/-- The state at the time `E`, from the earlier times. -/
def H0 (E n q : ℕ) : ℝ := ∑ s ∈ Finset.range 2048,
  (if s < E then Real.exp ((a.cs b E (g * 8 + q / 64) - a.dt b E (g * 8 + q / 64) * a.rate (g * 8 + q / 64)) - a.cs b s (g * 8 + q / 64)) else 0)
    * a.xdt b s g (q / 64) (q % 64) * a.B b s g n

theorem cs_S (t H : ℕ) : a.cs b t H = a.S b (t + 1) H := rfl
theorem dt_nonneg (t H : ℕ) : 0 ≤ a.dt b t H :=
  add_nonneg (le_max_right _ _) (Real.log_nonneg (by have := Real.exp_pos (-|a.pre b t H|); linarith))
theorem rate_neg (H : ℕ) : a.rate H ≤ 0 := by
  have := Real.exp_pos (a.AL H)
  unfold rate
  linarith
theorem S_anti (H : ℕ) {n n' : ℕ} (h : n ≤ n') : a.S b n' H ≤ a.S b n H := by
  obtain ⟨k, rfl⟩ := Nat.exists_eq_add_of_le h
  rw [S, S, Finset.sum_range_add]
  have : ∑ x ∈ Finset.range k, a.dt b (n + x) H * a.rate H ≤ 0 :=
    Finset.sum_nonpos fun x _ => mul_nonpos_of_nonneg_of_nonpos (a.dt_nonneg b _ _) (a.rate_neg _)
  linarith
theorem cs_dt (E H : ℕ) : a.cs b E H - a.dt b E H * a.rate H = a.S b E H := by
  rw [cs, S, Finset.sum_range_succ]
  ring
theorem Ub_xdt (s q : ℕ) : a.Ub b g s q = a.xdt b s g (q / 64) (q % 64) := by
  rw [Ub, xdt, xh, show (g * 8 + q / 64) * 64 + q % 64 = g * 512 + q by omega]

/-- A sum over all times by the chunk that begins at `E`. -/
theorem sum_split (f : ℕ → ℝ) (E : ℕ) (hE : E + 128 ≤ 2048) : ∑ s ∈ Finset.range 2048, f s
    = ∑ s ∈ Finset.range 2048, (if s < E then f s else 0) + ∑ k ∈ Finset.range 128, f (E + k)
      + ∑ s ∈ Finset.range 2048, (if E + 128 ≤ s then f s else 0) := by
  have e : ∑ k ∈ Finset.range 128, f (E + k) = ∑ s ∈ Finset.range 2048, if E ≤ s ∧ s < E + 128 then f s else 0 := by
    rw [← Finset.sum_filter]
    refine Finset.sum_nbij' (fun k => E + k) (fun s => s - E) ?_ ?_ ?_ ?_ ?_ <;> simp only [Finset.mem_filter, Finset.mem_range] <;> intro k hk
    · omega
    · omega
    · omega
    · omega
    · trivial
  rw [e, ← Finset.sum_add_distrib, ← Finset.sum_add_distrib]
  refine Finset.sum_congr rfl fun s _ => ?_
  by_cases h1 : s < E
  · rw [if_pos h1, if_neg (by omega), if_neg (by omega)]; ring
  · by_cases h2 : s < E + 128
    · rw [if_neg h1, if_pos (by omega), if_neg (by omega)]; ring
    · rw [if_neg h1, if_neg (by omega), if_pos (by omega)]; ring

/-- A sum over the columns of a group by head and place. -/
theorem sum_cols (f : ℕ → ℝ) : ∑ q ∈ Finset.range 512, f q = ∑ h ∈ Finset.range 8, ∑ p ∈ Finset.range 64, f (h * 64 + p) := by
  rw [← Finset.sum_product']
  refine Finset.sum_nbij' (fun q => (q / 64, q % 64)) (fun x => x.1 * 64 + x.2) ?_ ?_ ?_ ?_ ?_ <;>
    simp only [Finset.mem_product, Finset.mem_range]
  · intro q hq; omega
  · rintro ⟨h, p⟩ hq; simp only at hq ⊢; omega
  · intro q hq; omega
  · rintro ⟨h, p⟩ hq; simp only at hq; simp only [Prod.mk.injEq]; omega
  · intro q hq; rw [show q / 64 * 64 + q % 64 = q by omega]

/-- The gradient of the product of a query row and a key row, by column. -/
theorem dCB_cols (t s : ℕ) : a.dCB b t s g = ∑ q ∈ Finset.range 512, a.dYb b g t q * a.Ub b g s q * a.dec b t s g (q / 64) := by
  rw [sum_cols, dCB]
  refine Finset.sum_congr rfl fun h _ => ?_
  rw [dS, Finset.sum_mul]
  refine Finset.sum_congr rfl fun p hp => ?_
  have hp := Finset.mem_range.mp hp
  rw [Ub_xdt, dY5, show (h * 64 + p) / 64 = h by omega, show (h * 64 + p) % 64 = p by omega]

/-- The decay within a block. -/
theorem dcy_dec (E : ℕ) {r s h : ℕ} (hh : h < 8) : dcy (a.Ab b g E) h r s = a.dec b (E + r) (E + s) g h := by
  unfold dcy dec Ab
  by_cases hc : s ≤ r
  · rw [if_pos hc, if_pos hh, if_pos hh, if_pos (by omega : E + s ≤ E + r), cs_S, cs_S]
    have := a.S_anti b (g * 8 + h) (show E + s + 1 ≤ E + r + 1 by omega)
    rw [min_eq_left (by rw [show E + (r + 1) = E + r + 1 by ring, show E + (s + 1) = E + s + 1 by ring]; linarith)]
    refine congrArg _ ?_
    rw [show E + (r + 1) = E + r + 1 by ring, show E + (s + 1) = E + s + 1 by ring]
    ring
  · rw [if_neg hc, if_neg (by omega)]

/-- The gradient of the product of a query row and a key row of a block. -/
theorem dcbk_dCB (E r s : ℕ) : dcbk (a.Ab b g E) (fun r q => a.dYb b g (E + r) q) (fun s q => a.Ub b g (E + s) q) r s
    = a.dCB b (E + r) (E + s) g := by
  unfold dcbk dCB
  refine Finset.sum_congr rfl fun h hh => ?_
  rw [a.dcy_dec b g E (Finset.mem_range.mp hh), dmk, dS]
  refine congrArg (· * _) (Finset.sum_congr rfl fun p hp => ?_)
  have hp := Finset.mem_range.mp hp
  simp only [Ub_xdt, dY5]
  rw [show (h * 64 + p) / 64 = h by omega, show (h * 64 + p) % 64 = p by omega]

/-- The gradient of the query rows of a block. -/
theorem dC_block (E : ℕ) (hE : E + 128 ≤ 2048) (r n : ℕ) (hr : r < 128) :
    (∑ q ∈ Finset.range 512, a.dYb b g (E + r) q * Real.exp (a.Ab b g E r (q / 64)) * a.H0 b g E n q)
      + ∑ s ∈ Finset.range 128, dcbk (a.Ab b g E) (fun r q => a.dYb b g (E + r) q) (fun s q => a.Ub b g (E + s) q) r s * a.B b (E + s) g n
    = a.dC b (E + r) g n := by
  unfold dC
  rw [sum_split _ E hE]
  have e3 : ∑ s ∈ Finset.range 2048, (if E + 128 ≤ s then a.dCB b (E + r) s g * a.B b s g n else 0) = 0 :=
    Finset.sum_eq_zero fun s _ => by
      split
      · rw [dCB_cols, Finset.sum_eq_zero, zero_mul]
        intro q _
        rw [dec, if_neg (by omega), mul_zero]
      · rfl
  rw [e3, add_zero]
  refine congrArg₂ (· + ·) ?_ (Finset.sum_congr rfl fun s _ => by rw [dcbk_dCB])
  simp only [H0, Finset.mul_sum]
  rw [Finset.sum_comm]
  refine Finset.sum_congr rfl fun s _ => ?_
  by_cases hs : s < E
  · rw [if_pos hs, dCB_cols, Finset.sum_mul]
    refine Finset.sum_congr rfl fun q hq => ?_
    have hq := Finset.mem_range.mp hq
    rw [if_pos hs, cs_dt, dec, if_pos (by omega), Ub_xdt, Ab, if_pos (by omega), cs_S, cs_S, show E + (r + 1) = E + r + 1 by ring]
    have : Real.exp (a.S b (E + r + 1) (g * 8 + q / 64) - a.S b (s + 1) (g * 8 + q / 64))
        = Real.exp (a.S b (E + r + 1) (g * 8 + q / 64) - a.S b E (g * 8 + q / 64)) * Real.exp (a.S b E (g * 8 + q / 64) - a.S b (s + 1) (g * 8 + q / 64)) := by
      rw [← Real.exp_add]
      congr 1
      ring
    rw [this]
    ring
  · rw [if_neg hs]
    exact Finset.sum_eq_zero fun q _ => by rw [if_neg hs]; ring

/-- The decay from the block that begins at `E` to a time after it. -/
theorem exp_after (E s t j : ℕ) (hj : j < 8) : Real.exp (a.Ab b g E 127 j - a.Ab b g E s j) * Real.exp (a.cs b t (g * 8 + j) - a.S b (E + 128) (g * 8 + j))
    = Real.exp (a.cs b t (g * 8 + j) - a.cs b (E + s) (g * 8 + j)) := by
  rw [← Real.exp_add, Ab, Ab, if_pos hj, if_pos hj, cs_S, cs_S, show E + (s + 1) = E + s + 1 by ring, show E + (127 + 1) = E + 128 by ring]
  congr 1
  ring

/-- The gradient of the key rows of a block. -/
theorem dB_block (E : ℕ) (hE : E + 128 ≤ 2048) (s n : ℕ) (hs : s < 128) :
    (∑ q ∈ Finset.range 512, a.Ub b g (E + s) q * Real.exp (a.Ab b g E 127 (q / 64) - a.Ab b g E s (q / 64)) * a.DD b g (E + 128) n q)
      + ∑ r ∈ Finset.range 128, dcbk (a.Ab b g E) (fun r q => a.dYb b g (E + r) q) (fun s q => a.Ub b g (E + s) q) r s * a.C b (E + r) g n
    = a.dB b (E + s) g n := by
  unfold dB
  rw [sum_split _ E hE]
  have e1 : ∑ t ∈ Finset.range 2048, (if t < E then a.dCB b t (E + s) g * a.C b t g n else 0) = 0 :=
    Finset.sum_eq_zero fun t _ => by
      split
      · rw [dCB_cols, Finset.sum_eq_zero, zero_mul]
        intro q _
        rw [dec, if_neg (by omega), mul_zero]
      · rfl
  rw [e1, zero_add, add_comm]
  refine congrArg₂ (· + ·) (Finset.sum_congr rfl fun r _ => by rw [dcbk_dCB]) ?_
  simp only [DD, Finset.mul_sum]
  rw [Finset.sum_comm]
  refine Finset.sum_congr rfl fun t _ => ?_
  by_cases ht : E + 128 ≤ t
  · rw [if_pos ht, dCB_cols, Finset.sum_mul]
    refine Finset.sum_congr rfl fun q hq => ?_
    have hq := Finset.mem_range.mp hq
    rw [if_pos ht, dec, if_pos (by omega), ← a.exp_after b g E s t (q / 64) (by omega)]
    ring
  · rw [if_neg ht]
    exact Finset.sum_eq_zero fun q _ => by rw [if_neg ht, mul_zero]

/-- The gradient of the scaled values of a block. -/
theorem dXdt_block (E : ℕ) (hE : E + 128 ≤ 2048) (s q : ℕ) (hs : s < 128) (hq : q < 512) :
    (∑ n ∈ Finset.range 128, a.B b (E + s) g n * a.DD b g (E + 128) n q) * Real.exp (a.Ab b g E 127 (q / 64) - a.Ab b g E s (q / 64))
      + dxk (a.Ab b g E) (fun r q => a.dYb b g (E + r) q) (fun s n => a.B b (E + s) g n) (fun r n => a.C b (E + r) g n) s q
    = a.dXdt b (E + s) g (q / 64) (q % 64) := by
  unfold dXdt
  rw [sum_split _ E hE]
  have e1 : ∑ t ∈ Finset.range 2048, (if t < E then a.dY5 b t g (q / 64) (q % 64) * (a.cb b t (E + s) g * a.dec b t (E + s) g (q / 64)) else 0) = 0 :=
    Finset.sum_eq_zero fun t _ => by
      split
      · rw [dec, if_neg (by omega), mul_zero, mul_zero]
      · rfl
  have ey : ∀ t, a.dY5 b t g (q / 64) (q % 64) = a.dYb b g t q := fun t => by rw [dY5, show q / 64 * 64 + q % 64 = q by omega]
  rw [e1, zero_add, add_comm]
  refine congrArg₂ (· + ·) ?_ ?_
  · unfold dxk
    refine Finset.sum_congr rfl fun r _ => ?_
    rw [a.dcy_dec b g E (show q / 64 < 8 by omega), ey, cbk, cb]
    simp only [mul_comm (a.C b (E + r) g _)]
    ring
  · simp only [DD, Finset.mul_sum, Finset.sum_mul]
    rw [Finset.sum_comm]
    refine Finset.sum_congr rfl fun t _ => ?_
    by_cases ht : E + 128 ≤ t
    · rw [if_pos ht, dec, if_pos (by omega), ← a.exp_after b g E s t (q / 64) (by omega), ey, cb, Finset.sum_mul, Finset.mul_sum]
      refine Finset.sum_congr rfl fun n _ => ?_
      rw [if_pos ht]
      ring
    · rw [if_neg ht]
      exact Finset.sum_eq_zero fun n _ => by rw [if_neg ht]; ring

/-- The state's gradient one block earlier. -/
theorem DD_block (E : ℕ) (hE : E + 128 ≤ 2048) (n q : ℕ) (hq : q < 512) :
    a.DD b g (E + 128) n q * Real.exp (a.Ab b g E 127 (q / 64))
      + ∑ r ∈ Finset.range 128, a.C b (E + r) g n * (a.dYb b g (E + r) q * Real.exp (a.Ab b g E r (q / 64)))
    = a.DD b g E n q := by
  have h8 : q / 64 < 8 := by omega
  conv_rhs => rw [DD, sum_split _ E hE]
  rw [DD]
  have e1 : ∑ t ∈ Finset.range 2048, (if t < E then (if E ≤ t then a.C b t g n * a.dYb b g t q
      * Real.exp (a.cs b t (g * 8 + q / 64) - a.S b E (g * 8 + q / 64)) else 0) else 0) = 0 :=
    Finset.sum_eq_zero fun t _ => by
      split
      · rw [if_neg (by omega)]
      · rfl
  rw [e1, zero_add, add_comm]
  refine congrArg₂ (· + ·) (Finset.sum_congr rfl fun r _ => ?_) ?_
  · rw [if_pos (by omega), Ab, if_pos h8, cs_S, show E + (r + 1) = E + r + 1 by ring]
    ring
  · rw [Finset.sum_mul]
    refine Finset.sum_congr rfl fun t _ => ?_
    by_cases ht : E + 128 ≤ t
    · rw [if_pos ht, if_pos ht, if_pos (by omega), Ab, if_pos h8, show E + (127 + 1) = E + 128 by ring, mul_assoc, ← Real.exp_add]
      congr 2
      ring
    · rw [if_neg ht, if_neg ht, zero_mul]

/-- After the last time there is nothing. -/
theorem DD_last (n q : ℕ) : a.DD b g 2048 n q = 0 :=
  Finset.sum_eq_zero fun t ht => if_neg (by have := Finset.mem_range.mp ht; omega)

end Ssd.Args
end
-- ==== Proof.Blocks.lean ====
module
public import proofs.«01_k».proof.Proof.Ops
public import proofs.«01_k».proof.Proof.Gen.KernelIdeal.Frame
public import Idealize.ShloMosaic.Lib.Pipeline.ValueKit

/-! The blocks the body reads at a grid point, in real numbers, from what the operands hold. -/

@[expose] public section
set_option maxRecDepth 16384

noncomputable section
namespace Ssd.Blocks
open Idealize.ShloMosaic Idealize.ShloMosaic.ValueIdx Idealize.ShloMosaic.TcCoe Cert.KernelIdeal Cert.KernelIdeal.Gen

/-- The group of a grid point. -/
def gr (t : ℕ) : ℕ := t / 32
/-- The batch row of a grid point. -/
def ba (t : ℕ) : ℕ := t / 16 % 2
/-- The chunk of a grid point: the chunks run from the last to the first. -/
def ch (t : ℕ) : ℕ := 15 - t % 16

theorem i0 : ∀ t : Fin cfg0.N, win0_0.index t = ![ba t.val, ch t.val, gr t.val] := (by decide +kernel : ∀ t : Fin grid0.N, _)
theorem i1 : ∀ t : Fin cfg0.N, win0_1.index t = ![ba t.val, ch t.val, gr t.val] := (by decide +kernel : ∀ t : Fin grid0.N, _)
theorem i2 : ∀ t : Fin cfg0.N, win0_2.index t = ![ba t.val, ch t.val, gr t.val] := (by decide +kernel : ∀ t : Fin grid0.N, _)
theorem i3 : ∀ t : Fin cfg0.N, win0_3.index t = ![ba t.val, ch t.val, 16 + gr t.val] := (by decide +kernel : ∀ t : Fin grid0.N, _)
theorem i4 : ∀ t : Fin cfg0.N, win0_4.index t = ![ba t.val, ch t.val, 20 + gr t.val] := (by decide +kernel : ∀ t : Fin grid0.N, _)
theorem i5 : ∀ t : Fin cfg0.N, win0_5.index t = ![ba t.val, ch t.val, 8 + gr t.val] := (by decide +kernel : ∀ t : Fin grid0.N, _)
theorem i6 : ∀ t : Fin cfg0.N, win0_6.index t = ![ba t.val, ch t.val, gr t.val, 0, 0] := (by decide +kernel : ∀ t : Fin grid0.N, _)
theorem i7 : ∀ t : Fin cfg0.N, win0_7.index t = ![ba t.val, gr t.val, ch t.val, 0] := (by decide +kernel : ∀ t : Fin grid0.N, _)
theorem i8 : ∀ t : Fin cfg0.N, win0_8.index t = ![gr t.val, 0, 0] := (by decide +kernel : ∀ t : Fin grid0.N, _)
theorem i9 : ∀ t : Fin cfg0.N, win0_9.index t = ![gr t.val, 0, 0] := (by decide +kernel : ∀ t : Fin grid0.N, _)
theorem i10 : ∀ t : Fin cfg0.N, win0_10.index t = ![0, gr t.val] := (by decide +kernel : ∀ t : Fin grid0.N, _)
theorem i11 : ∀ t : Fin cfg0.N, win0_11.index t = ![0, gr t.val] := (by decide +kernel : ∀ t : Fin grid0.N, _)

variable (m : (ℓ : Loc nD τ sig) → Buf (Elt Ideal) ℓ) (c : Dev nD) (t : Fin cfg0.N)

theorem b0 {f : ℕ → ℕ → ℕ → ℝ} (h : ∀ i : S2x2048x2048.Idx, V m c main_arg0 i = ((f (i 0).val (i 1).val (i 2).val : ℝ) : EReal)) :
    R3 (n := 128) (m := 512) (φ := .f32) (iblk m c 0 t) (fun r q => f (ba t) (ch t * 128 + r) (gr t * 512 + q)) := fun z r q => by
  have hz : z.val = 0 := by omega
  refine (h (((cfg0.win 0).blk t).view.emb (ValueIdx.ix3 z r q))).trans ?_
  blk_simp [i0]

theorem b1 {f : ℕ → ℕ → ℕ → ℝ} (h : ∀ i : S2x2048x2048.Idx, V m c main_v55 i = ((f (i 0).val (i 1).val (i 2).val : ℝ) : EReal)) :
    R3 (n := 128) (m := 512) (φ := .f32) (iblk m c 1 t) (fun r q => f (ba t) (ch t * 128 + r) (gr t * 512 + q)) := fun z r q => by
  have hz : z.val = 0 := by omega
  refine (h (((cfg0.win 1).blk t).view.emb (ValueIdx.ix3 z r q))).trans ?_
  blk_simp [i1]

theorem b2 {f : ℕ → ℕ → ℕ → ℝ} (h : ∀ i : S2x2048x3072.Idx, V m c main_arg1 i = ((f (i 0).val (i 1).val (i 2).val : ℝ) : EReal)) :
    R3 (n := 128) (m := 512) (φ := .f32) (iblk m c 2 t) (fun r q => f (ba t) (ch t * 128 + r) (gr t * 512 + q)) := fun z r q => by
  have hz : z.val = 0 := by omega
  refine (h (((cfg0.win 2).blk t).view.emb (ValueIdx.ix3 z r q))).trans ?_
  blk_simp [i2]

theorem b3 {f : ℕ → ℕ → ℕ → ℝ} (h : ∀ i : S2x2048x3072.Idx, V m c main_arg1 i = ((f (i 0).val (i 1).val (i 2).val : ℝ) : EReal)) :
    R3 (n := 128) (m := 128) (φ := .f32) (iblk m c 3 t) (fun r q => f (ba t) (ch t * 128 + r) ((16 + gr t) * 128 + q)) := fun z r q => by
  have hz : z.val = 0 := by omega
  refine (h (((cfg0.win 3).blk t).view.emb (ValueIdx.ix3 z r q))).trans ?_
  blk_simp [i3]

theorem b4 {f : ℕ → ℕ → ℕ → ℝ} (h : ∀ i : S2x2048x3072.Idx, V m c main_arg1 i = ((f (i 0).val (i 1).val (i 2).val : ℝ) : EReal)) :
    R3 (n := 128) (m := 128) (φ := .f32) (iblk m c 4 t) (fun r q => f (ba t) (ch t * 128 + r) ((20 + gr t) * 128 + q)) := fun z r q => by
  have hz : z.val = 0 := by omega
  refine (h (((cfg0.win 4).blk t).view.emb (ValueIdx.ix3 z r q))).trans ?_
  blk_simp [i4]

theorem b5 {f : ℕ → ℕ → ℕ → ℝ} (h : ∀ i : S2x2048x11520.Idx, V m c main_arg2 i = ((f (i 0).val (i 1).val (i 2).val : ℝ) : EReal)) :
    R3 (n := 128) (m := 512) (φ := .f32) (X0_5 m c t) (fun r q => f (ba t) (ch t * 128 + r) ((8 + gr t) * 512 + q)) := fun z r q => by
  have hz : z.val = 0 := by omega
  unfold X0_5 Pipeline.Window.fill
  refine (dif_pos (moved0_5 t (ValueIdx.ix3 z r q))).trans ?_
  refine (h (((cfg0.win 5).blk t).view.emb _)).trans ?_
  blk_simp [i5]
  rfl

/-- Window 6's block of an array. -/
theorem r6 {f : ℕ → ℕ → ℕ → ℕ → ℕ → ℝ} (G : FVec Ideal S2x16x4x128x512 .f32)
    (h : ∀ i, G i = ((f (i 0).val (i 1).val (i 2).val (i 3).val (i 4).val : ℝ) : EReal)) :
    R5 (n := 128) (m := 512) (φ := .f32) (((cfg0.win 6).blk t).view.read (Elt Ideal) G) (fun r q => f (ba t) (ch t) (gr t) r q) := fun z z' z'' r q => by
  have hz : z.val = 0 := by omega
  have hz' : z'.val = 0 := by omega
  have hz'' : z''.val = 0 := by omega
  have e : ((cfg0.win 6).blk t).view.emb (ValueIdx.ix5 z z' z'' r q)
      = ValueIdx.ix5 (⟨ba t.val, by unfold ba; omega⟩ : Fin 2) (⟨ch t.val, by unfold ch; omega⟩ : Fin 16)
        (⟨gr t.val, by have := t.isLt; have hN : cfg0.N = 128 := N_0; unfold gr; omega⟩ : Fin 4) r q := by
    have e0 := congrFun (i6 t) (0 : Fin 5); have e1 := congrFun (i6 t) (1 : Fin 5); have e2 := congrFun (i6 t) (2 : Fin 5)
    have e3 := congrFun (i6 t) (3 : Fin 5); have e4 := congrFun (i6 t) (4 : Fin 5)
    funext ax; apply Fin.ext
    match ax with
    | ⟨0, _⟩ => show win0_6.index t (0 : Fin 5) * 1 + 1 * z.val = ba t.val; rw [e0, hz]; exact mul_one _
    | ⟨1, _⟩ => show win0_6.index t (1 : Fin 5) * 1 + 1 * z'.val = ch t.val; rw [e1, hz']; exact mul_one _
    | ⟨2, _⟩ => show win0_6.index t (2 : Fin 5) * 1 + 1 * z''.val = gr t.val; rw [e2, hz'']; exact mul_one _
    | ⟨3, _⟩ => show win0_6.index t (3 : Fin 5) * 128 + 1 * r.val = r.val; rw [e3]; show 0 * 128 + 1 * r.val = r.val; omega
    | ⟨4, _⟩ => show win0_6.index t (4 : Fin 5) * 512 + 1 * q.val = q.val; rw [e4]; show 0 * 512 + 1 * q.val = q.val; omega
  show G (((cfg0.win 6).blk t).view.emb (ValueIdx.ix5 z z' z'' r q)) = _
  rw [e]
  exact h _

theorem b6 {f : ℕ → ℕ → ℕ → ℕ → ℕ → ℝ} (h : ∀ i : S2x16x4x128x512.Idx,
    V m c main_v103 i = ((f (i 0).val (i 1).val (i 2).val (i 3).val (i 4).val : ℝ) : EReal)) :
    R5 (n := 128) (m := 512) (φ := .f32) (iblk m c 6 t) (fun r q => f (ba t) (ch t) (gr t) r q) := by
  unfold iblk
  exact r6 t (V m c main_v103) h

theorem b7 {f : ℕ → ℕ → ℕ → ℕ → ℝ} (h : ∀ i : S2x4x2048x128.Idx,
    V m c main_v67 i = ((f (i 0).val (i 1).val (i 2).val (i 3).val : ℝ) : EReal)) :
    R4 (n := 128) (m := 128) (φ := .f32) (iblk m c 7 t) (fun r q => f (ba t) (gr t) (ch t * 128 + r) q) := fun z z' r q => by
  have hz : z.val = 0 := by omega
  have hz' : z'.val = 0 := by omega
  refine (h (((cfg0.win 7).blk t).view.emb (ValueIdx.ix4 z z' r q))).trans ?_
  blk_simp [i7]

theorem b8 {f : ℕ → ℕ → ℝ} (h : ∀ i : S4x1x128.Idx, V m c main_v58 i = ((f (i 0).val (i 2).val : ℝ) : EReal)) :
    R3 (n := 1) (m := 128) (φ := .f32) (iblk m c 8 t) (fun _ q => f (gr t) q) := fun z r q => by
  have hz : z.val = 0 := by omega
  refine (h (((cfg0.win 8).blk t).view.emb (ValueIdx.ix3 z r q))).trans ?_
  blk_simp [i8]

theorem b9 {f : ℕ → ℕ → ℝ} (h : ∀ i : S4x1x128.Idx, V m c main_v61 i = ((f (i 0).val (i 2).val : ℝ) : EReal)) :
    R3 (n := 1) (m := 128) (φ := .f32) (iblk m c 9 t) (fun _ q => f (gr t) q) := fun z r q => by
  have hz : z.val = 0 := by omega
  refine (h (((cfg0.win 9).blk t).view.emb (ValueIdx.ix3 z r q))).trans ?_
  blk_simp [i9]

theorem b10 {f : ℕ → ℝ} (h : ∀ i : S1x2048.Idx, V m c main_v63 i = ((f (i 1).val : ℝ) : EReal)) :
    R2 (n := 1) (m := 512) (φ := .f32) (iblk m c 10 t) (fun _ q => f (gr t * 512 + q)) := fun r q => by
  refine (h (((cfg0.win 10).blk t).view.emb (ValueIdx.ix2 r q))).trans ?_
  blk_simp [i10]

theorem b11 {f : ℕ → ℝ} (h : ∀ i : S1x2048.Idx, V m c main_arg6 i = ((f (i 1).val : ℝ) : EReal)) :
    R2 (n := 1) (m := 512) (φ := .f32) (iblk m c 11 t) (fun _ q => f (gr t * 512 + q)) := fun r q => by
  refine (h (((cfg0.win 11).blk t).view.emb (ValueIdx.ix2 r q))).trans ?_
  blk_simp [i11]

end Ssd.Blocks
end
-- ==== Proof.Recur.lean ====
module
public import proofs.«01_k».proof.Proof.Blocks
public import proofs.«01_k».proof.Proof.Spec

/-! Sums over the grid points of one group: the running sum a block holds from point to point, and the whole sum by batch
    row and time. -/

@[expose] public section

noncomputable section
namespace Ssd
open Idealize.ShloMosaic Idealize.ShloMosaic.ValueIdx Ssd.Blocks
open scoped BigOperators

theorem R3.congr {n m : ℕ} {φ : FTy} {v : FVec Ideal ⟨3, ![1, n, m]⟩ φ} {f g : ℕ → ℕ → ℝ} (h : R3 v f)
    (e : ∀ r c, r < n → c < m → f r c = g r c) : R3 v g := fun z r c => by rw [h z r c, e r c r.isLt c.isLt]

theorem R3.at {n m : ℕ} {φ : FTy} {v : FVec Ideal ⟨3, ![1, n, m]⟩ φ} {f : ℕ → ℕ → ℝ} (h : R3 v f) (y : (⟨3, ![1, n, m]⟩ : Shape).Idx) :
    v y = ((f (y 1).val (y 2).val : ℝ) : EReal) := by
  rw [ValueIdx.eq_ix3 y]
  exact h _ _ _

/-- A block that starts anew at the first point of a group and adds at every further point holds the sum so far. -/
theorem accum {N w : ℕ} {φ : FTy} (X : (n : ℕ) → n < N → FVec Ideal ⟨3, ![1, 1, w]⟩ φ) (D : ℕ → ℕ → ℝ)
    (h0 : ∀ n hn, n % 32 = 0 → R3 (X n hn) (fun _ q => D n q))
    (h1 : ∀ n hn, n % 32 ≠ 0 → ∀ A : ℕ → ℝ, R3 (X (n - 1) (by omega)) (fun _ q => A q) → R3 (X n hn) (fun _ q => A q + D n q)) :
    ∀ n hn, R3 (X n hn) (fun _ q => ∑ k ∈ Finset.range (n % 32 + 1), D (n / 32 * 32 + k) q) := by
  intro n
  induction n with
  | zero => exact fun hn => (h0 0 hn rfl).congr fun r q _ _ => by simp
  | succ n ih =>
    intro hn
    by_cases hm : (n + 1) % 32 = 0
    · refine (h0 _ hn hm).congr fun r q _ _ => ?_
      rw [hm, Finset.sum_range_one, show (n + 1) / 32 * 32 + 0 = n + 1 by omega]
    · refine (h1 (n + 1) hn hm _ (ih (by omega))).congr fun r q _ _ => ?_
      rw [show (n + 1) % 32 + 1 = (n % 32 + 1) + 1 by omega, Finset.sum_range_succ _ (n % 32 + 1), show (n + 1) / 32 * 32 = n / 32 * 32 by omega,
        show n / 32 * 32 + (n % 32 + 1) = n + 1 by omega]

/-- The sum over the thirty-two points of a group and the rows of a chunk is the sum over batch rows and times. -/
theorem sum_points (g : ℕ) (f : ℕ → ℕ → ℝ) :
    (∑ k ∈ Finset.range 32, ∑ r ∈ Finset.range 128, f (ba (g * 32 + k)) (ch (g * 32 + k) * 128 + r))
      = ∑ b ∈ Finset.range 2, ∑ t ∈ Finset.range 2048, f b t := by
  rw [← Finset.sum_product', ← Finset.sum_product']
  refine Finset.sum_nbij' (fun p => (p.1 / 16, (15 - p.1 % 16) * 128 + p.2)) (fun p => (p.1 * 16 + (15 - p.2 / 128), p.2 % 128)) ?_ ?_ ?_ ?_ ?_
  · rintro ⟨k, r⟩ hp
    simp only [Finset.mem_product, Finset.mem_range] at hp ⊢
    omega
  · rintro ⟨k, r⟩ hp
    simp only [Finset.mem_product, Finset.mem_range] at hp ⊢
    omega
  · rintro ⟨k, r⟩ hp
    simp only [Finset.mem_product, Finset.mem_range] at hp
    simp only [Prod.mk.injEq]
    omega
  · rintro ⟨k, r⟩ hp
    simp only [Finset.mem_product, Finset.mem_range] at hp
    simp only [Prod.mk.injEq]
    omega
  · rintro ⟨k, r⟩ hp
    simp only [Finset.mem_product, Finset.mem_range] at hp
    simp only [ba, ch]
    rw [show (g * 32 + k) / 16 % 2 = k / 16 by omega, show (g * 32 + k) % 16 = k % 16 by omega]

/-- The norm weight's gradient, point by point. -/
theorem Args.sum_dW (a : Args) (g q : ℕ) :
    (∑ k ∈ Finset.range 32, ∑ r ∈ Finset.range 128, a.Db (ba (g * 32 + k)) g (ch (g * 32 + k) * 128 + r) q
      * y2h (a.Yb (ba (g * 32 + k)) g) (a.Zb (ba (g * 32 + k)) g) (ch (g * 32 + k) * 128 + r) q) = a.dW g q :=
  sum_points g fun b t => a.Db b g t q * y2h (a.Yb b g) (a.Zb b g) t q

end Ssd
end
-- ==== Proof.Points1.lean ====
module
public import proofs.«01_k».proof.Proof.Gen.KernelIdeal.Frame
public import Idealize.ShloMosaic.Lib.Pipeline.ValueKit

/-! What a grid point leaves in the block of the gate's gradient and in the running sum of the norm weight's gradient:
    the printed payloads of the blocks it reads. -/

@[expose] public section
set_option maxRecDepth 16384

noncomputable section
namespace Ssd.Points
open Idealize.ShloMosaic Idealize.ShloMosaic.TcCoe Cert.KernelIdeal Cert.KernelIdeal.Gen
variable {F : FTy → Type} [FloatOps F]
variable (m : (ℓ : Loc nD τ sig) → Buf (Elt F) ℓ) (c : Dev nD) (t : Fin cfg0.N)

theorem dz_eq : (outsAt0 m c t.val t.isLt).2.2.2.1
    = k0_pay37 (k0_pay25 (iblk m c 1 t)) (k0_pay26 (X0_5 m c t)) (k0_pay27 (X0_5 m c t)) (k0_pay30 (iblk m c 1 t) (X0_5 m c t))
        (k0_pay31 (iblk m c 1 t) (X0_5 m c t)) (k0_pay32 (iblk m c 0 t)) (iblk m c 11 t) := by
  by_cases h1 : t.val % 16 = 0
  · by_cases h0 : t.val % 32 = 0
    · rw [outsAt0_A m c t h0 h1]; dsimp only; frame_out
    · rw [outsAt0_C m c t h0 h1]; dsimp only; frame_out
  · have h0 : ¬t.val % 32 = 0 := by omega
    rw [outsAt0_B m c t h0 h1]; dsimp only; frame_out

theorem dsnw_first (h0 : t.val % 32 = 0) : (outsAt0 m c t.val t.isLt).2.2.2.2.2.1
    = k0_pay35 (k0_pay33 k0_pay2) (k0_pay34 (iblk m c 1 t) (X0_5 m c t) (iblk m c 0 t)) := by
  rw [outsAt0_A m c t h0 (by omega)]; dsimp only; frame_out

theorem dsnw_next (h0 : ¬t.val % 32 = 0) : (outsAt0 m c t.val t.isLt).2.2.2.2.2.1
    = k0_pay35 (k0_pay33 (outsAt0 m c (t.val - 1) (Nat.lt_of_le_of_lt (Nat.sub_le _ _) t.isLt)).2.2.2.2.2.1)
        (k0_pay34 (iblk m c 1 t) (X0_5 m c t) (iblk m c 0 t)) := by
  by_cases h1 : t.val % 16 = 0
  · rw [outsAt0_C m c t h0 h1]; dsimp only; frame_out
  · rw [outsAt0_B m c t h0 h1]; dsimp only; frame_out

end Ssd.Points
end
-- ==== Proof.Ref2.lean ====
module
public import proofs.«01_k».proof.Proof.Ref

/-! The reference's arrays from the gate on: the normalized rows, and the gradients of the layer's output, of the gate
    and of the norm's weight. -/

@[expose] public section
set_option maxRecDepth 16384

noncomputable section
namespace Ssd.Ref
open Idealize.ShloMosaic Idealize.ShloMosaic.ValueIdx Cert.ReferenceIdeal Cert.ReferenceIdeal.Gen Cert.ReferenceIdeal.Read
open scoped BigOperators

theorem rsqrt_real {φ : FTy} {x : Ideal φ} {r : ℝ} (hx : x = (r : EReal)) (hr : 0 < r) :
    FloatOps.hostUnary .rsqrt x = (((Real.sqrt r)⁻¹ : ℝ) : EReal) := by
  rw [hx]
  show Ideal.rsqrt (r : EReal) = _
  rw [Ideal.rsqrt_coe, if_neg (not_lt.2 hr.le), if_neg hr.ne']
theorem half_f32 : Ideal.ofBits .f32 0xBF000000#32 = ((-(1 / 2) : ℝ) : EReal) := by
  simp [Ideal.ofBits, Ideal.ieee, -EReal.coe_mul]; norm_num

/-- The gradient through the norm, with both halves of the square's derivative, is the product form of it. -/
theorem norm_grad (d w y s m : ℝ) (hm : 0 < m) :
    (d * w) * (Real.sqrt m)⁻¹ + y * ((s * (-(1 / 2) * ((Real.sqrt m)⁻¹ / m))) / 512) + ((s * (-(1 / 2) * ((Real.sqrt m)⁻¹ / m))) / 512) * y
      = (Real.sqrt m)⁻¹ * (d * w - y * (Real.sqrt m)⁻¹ * ((s * (Real.sqrt m)⁻¹) / 512)) := by
  have e : (Real.sqrt m)⁻¹ * (Real.sqrt m)⁻¹ = m⁻¹ := by rw [← mul_inv, Real.mul_self_sqrt hm.le]
  rw [div_eq_mul_inv (Real.sqrt m)⁻¹ m, ← e]
  ring

variable {a : Args} {x0 : FVec Ideal ⟨3, ![2, 2048, 2048]⟩ .f32} {x1 : FVec Ideal ⟨3, ![2, 2048, 3072]⟩ .f32}
    {x2 : FVec Ideal ⟨3, ![2, 2048, 11520]⟩ .f32} {x3 x4 x5 : FVec Ideal ⟨2, ![1, 32]⟩ .f32}
    {x6 : FVec Ideal ⟨2, ![1, 2048]⟩ .f32} (h : a.Of x0 x1 x2 x3 x4 x5 x6)
include h

theorem s3 (i : S2x2048x2048.Idx) : val_main_v3 (F := Ideal) x2 i
    = ((a.Zb (i 0).val ((i 2).val / 512) (i 1).val ((i 2).val % 512) : ℝ) : EReal) := by
  have h2 : (i 2).val < 2048 := (i 2).isLt
  rw [val_main_v3_apply, p h]
  refine congrArg _ (?_ : a.P _ _ (4096 + (i 2).val) = a.P _ _ _)
  congr 1; omega

theorem s58_2 (i : S2x2048x2048.Idx) : val_main_v58_2 (F := Ideal) x2 i
    = ((sig (a.Zb (i 0).val ((i 2).val / 512) (i 1).val ((i 2).val % 512)) : ℝ) : EReal) := by
  rw [val_main_v58_2_apply, val_main_call3_v4_apply, val_main_call3_v3_apply, val_main_call3_v2_apply, val_main_call3_v1_apply,
    val_main_call3_v0_apply]
  refine (div_real one_f32 (addf_real one_f32 (exp_real (negf_real (s3 h i)))) (by positivity)).trans ?_
  rw [sig, zero_sub]

theorem s58_1 (i : S2x2048x2048.Idx) : val_main_v58_1 (F := Ideal) x2 i
    = ((sig (a.Zb (i 0).val ((i 2).val / 512) (i 1).val ((i 2).val % 512))
      * (1 - sig (a.Zb (i 0).val ((i 2).val / 512) (i 1).val ((i 2).val % 512))) : ℝ) : EReal) := by
  rw [val_main_v58_1_apply, val_main_call3_v7_apply, val_main_call3_v6_apply]
  exact mulf_real (s58_2 h i) (subf_real one_f32 (s58_2 h i))

theorem s58_0 (i : S2x2048x2048.Idx) : val_main_v58_0 (F := Ideal) x2 i
    = ((a.Zb (i 0).val ((i 2).val / 512) (i 1).val ((i 2).val % 512)
      * sig (a.Zb (i 0).val ((i 2).val / 512) (i 1).val ((i 2).val % 512)) : ℝ) : EReal) := by
  rw [val_main_v58_0_apply]
  exact mulf_real (s3 h i) (s58_2 h i)

theorem s60 (i : S2x2048x4x512.Idx) : val_main_v60 (F := Ideal) x1 x2 x3 x4 x5 i
    = ((y2 (a.Yb (i 0).val (i 2).val) (a.Zb (i 0).val (i 2).val) (i 1).val (i 3).val : ℝ) : EReal) := by
  have h0 : (i 0).val < 2 := (i 0).isLt; have h1 : (i 1).val < 2048 := (i 1).isLt; have h2 : (i 2).val < 4 := (i 2).isLt
  have h3 : (i 3).val < 512 := (i 3).isLt
  rw [val_main_v60_apply, val_main_v59_apply]
  refine cast_real (mulf_real (s57 h _) (s58_0 h _)) ?_
  have e0 : ((idx_main_v60 i) 0).val = (i 0).val := by
    show ((((i 0).val * 2048 + (i 1).val) * 4 + (i 2).val) * 512 + (i 3).val) / 4194304 = _; omega
  have e1 : ((idx_main_v60 i) 1).val = (i 1).val := by
    show ((((i 0).val * 2048 + (i 1).val) * 4 + (i 2).val) * 512 + (i 3).val) / 2048 % 2048 = _; omega
  have e2 : ((idx_main_v60 i) 2).val = (i 2).val * 512 + (i 3).val := by
    show ((((i 0).val * 2048 + (i 1).val) * 4 + (i 2).val) * 512 + (i 3).val) % 2048 = _; omega
  rw [e0, e1, e2, show ((i 2).val * 512 + (i 3).val) / 512 = (i 2).val by omega,
    show ((i 2).val * 512 + (i 3).val) % 512 = (i 3).val by omega]
  rfl

theorem s67 (i : S2x2048x4x1.Idx) : val_main_v67 (F := Ideal) x1 x2 x3 x4 x5 i
    = ((((∑ c ∈ Finset.range 512, y2 (a.Yb (i 0).val (i 2).val) (a.Zb (i 0).val (i 2).val) (i 1).val c
      * y2 (a.Yb (i 0).val (i 2).val) (a.Zb (i 0).val (i 2).val) (i 1).val c) / 512 + eps : ℝ)) : EReal) := by
  rw [val_main_v67_apply, val_main_v65_apply, val_main_v63_apply, val_main_v62_apply, val_main_v64_apply, val_main_v66_apply]
  refine addf_real (div_real (sum_real (f := fun c => y2 (a.Yb (i 0).val (i 2).val) (a.Zb (i 0).val (i 2).val) (i 1).val c
      * y2 (a.Yb (i 0).val (i 2).val) (a.Zb (i 0).val (i 2).val) (i 1).val c) zero_f32 fun k => ?_) c512_f32 (by norm_num)) eps_f32
  rw [val_main_v61_apply]
  exact mulf_real (s60 h _) (s60 h _)

theorem s68 (i : S2x2048x4x1.Idx) : val_main_v68 (F := Ideal) x1 x2 x3 x4 x5 i
    = ((rstd (a.Yb (i 0).val (i 2).val) (a.Zb (i 0).val (i 2).val) (i 1).val : ℝ) : EReal) := by
  rw [val_main_v68_apply]
  exact rsqrt_real (s67 h i) (ms_pos _ _ _)

theorem s73 (i : S2x2048x4x512.Idx) : val_main_v73 (F := Ideal) x1 x2 x3 x4 x5 i
    = ((y2h (a.Yb (i 0).val (i 2).val) (a.Zb (i 0).val (i 2).val) (i 1).val (i 3).val : ℝ) : EReal) := by
  rw [val_main_v73_apply, val_main_v72_apply]
  exact mulf_real (s60 h i) (s68 h _)

theorem s74 (i : S2x2048x2048.Idx) : val_main_v74 (F := Ideal) x1 x2 x3 x4 x5 i
    = ((y2h (a.Yb (i 0).val ((i 2).val / 512)) (a.Zb (i 0).val ((i 2).val / 512)) (i 1).val ((i 2).val % 512) : ℝ) : EReal) := by
  have h0 : (i 0).val < 2 := (i 0).isLt; have h1 : (i 1).val < 2048 := (i 1).isLt; have h2 : (i 2).val < 2048 := (i 2).isLt
  rw [val_main_v74_apply, s73 h]
  have e0 : ((idx_main_v74 i) 0).val = (i 0).val := by
    show (((i 0).val * 2048 + (i 1).val) * 2048 + (i 2).val) / 4194304 = _; omega
  have e1 : ((idx_main_v74 i) 1).val = (i 1).val := by
    show (((i 0).val * 2048 + (i 1).val) * 2048 + (i 2).val) / 2048 % 2048 = _; omega
  have e2 : ((idx_main_v74 i) 2).val = (i 2).val / 512 := by
    show (((i 0).val * 2048 + (i 1).val) * 2048 + (i 2).val) / 512 % 4 = _; omega
  have e3 : ((idx_main_v74 i) 3).val = (i 2).val % 512 := by
    show (((i 0).val * 2048 + (i 1).val) * 2048 + (i 2).val) % 512 = _; omega
  rw [e0, e1, e2, e3]

/-- The gradient of the norm's weight. -/
theorem s79 (i : S2048.Idx) : val_main_v79 (F := Ideal) x0 x1 x2 x3 x4 x5 i
    = ((a.dW ((i 0).val / 512) ((i 0).val % 512) : ℝ) : EReal) := by
  have e78 : ∀ j, val_main_v78 (F := Ideal) x0 x1 x2 x3 x4 x5 j = ((y2h (a.Yb (j 0).val ((j 2).val / 512)) (a.Zb (j 0).val ((j 2).val / 512))
      (j 1).val ((j 2).val % 512) * a.CT (j 0).val (j 1).val (j 2).val : ℝ) : EReal) := fun j => by
    rw [val_main_v78_apply]
    exact mulf_real (s74 h j) (ct h j)
  unfold val_main_v79
  generalize val_main_v78 (F := Ideal) x0 x1 x2 x3 x4 x5 = v at e78 ⊢
  refine (sum01 _ _ v _ (fun _ => zero_f32) (f := fun b t q => y2h (a.Yb b (q / 512)) (a.Zb b (q / 512)) t (q % 512) * a.CT b t q)
    e78 i).trans ?_
  have e : ∀ b t, y2h (a.Yb b ((i 0).val / 512)) (a.Zb b ((i 0).val / 512)) t ((i 0).val % 512) * a.CT b t (i 0).val
      = a.Db b ((i 0).val / 512) t ((i 0).val % 512) * y2h (a.Yb b ((i 0).val / 512)) (a.Zb b ((i 0).val / 512)) t ((i 0).val % 512) := fun b t => by
    rw [mul_comm, Args.Db, show (i 0).val / 512 * 512 + (i 0).val % 512 = (i 0).val by omega]
  simp only [e, Args.dW]

theorem s172 (i : S4x1x512.Idx) : val_main_v172 (F := Ideal) x0 x1 x2 x3 x4 x5 i
    = ((a.dW (i 0).val (i 2).val : ℝ) : EReal) := by
  have h0 : (i 0).val < 4 := (i 0).isLt; have h1 : (i 1).val < 1 := (i 1).isLt; have h2 : (i 2).val < 512 := (i 2).isLt
  rw [val_main_v172_apply]
  have e80 : ∀ j : S1x1x2048.Idx, val_main_v80 (F := Ideal) x0 x1 x2 x3 x4 x5 j
      = ((a.dW ((((j 0).val * 1 + (j 1).val) * 2048 + (j 2).val) / 512) ((((j 0).val * 1 + (j 1).val) * 2048 + (j 2).val) % 512) : ℝ) : EReal) :=
    fun j => by
      have e : ((idx_main_v80 j) 0).val = ((j 0).val * 1 + (j 1).val) * 2048 + (j 2).val := rfl
      rw [val_main_v80_apply, s79 h, e]
  unfold val_main_v83
  generalize val_main_v80 (F := Ideal) x0 x1 x2 x3 x4 x5 = v at e80 ⊢
  refine (sum01 _ _ v _ (fun _ => zero_f32) (f := fun b t q => a.dW (((b * 1 + t) * 2048 + q) / 512) (((b * 1 + t) * 2048 + q) % 512))
    e80 _).trans ?_
  have ej : ((idx_main_v172 i) 0).val = (i 0).val * 512 + (i 2).val := by
    show ((i 0).val * 1 + (i 1).val) * 512 + (i 2).val = _; omega
  rw [Finset.sum_range_one, Finset.sum_range_one, ej,
    show ((0 * 1 + 0) * 2048 + ((i 0).val * 512 + (i 2).val)) / 512 = (i 0).val by omega,
    show ((0 * 1 + 0) * 2048 + ((i 0).val * 512 + (i 2).val)) % 512 = (i 2).val by omega]

theorem s84 (i : S2x2048x4x512.Idx) : val_main_v84 (F := Ideal) x0 x6 i
    = ((a.Db (i 0).val (i 2).val (i 1).val (i 3).val * a.Wg (i 2).val (i 3).val : ℝ) : EReal) := by
  have h0 : (i 0).val < 2 := (i 0).isLt; have h1 : (i 1).val < 2048 := (i 1).isLt; have h2 : (i 2).val < 4 := (i 2).isLt
  have h3 : (i 3).val < 512 := (i 3).isLt
  rw [val_main_v84_apply, val_main_v82_apply, val_main_v81_apply, val_main_v75_apply, val_main_v8_apply]
  refine cast_real (mulf_real (ct h _) (w h _)) ?_
  have e0 : ((idx_main_v84 i) 0).val = (i 0).val := by
    show ((((i 0).val * 2048 + (i 1).val) * 4 + (i 2).val) * 512 + (i 3).val) / 4194304 = _; omega
  have e1 : ((idx_main_v84 i) 1).val = (i 1).val := by
    show ((((i 0).val * 2048 + (i 1).val) * 4 + (i 2).val) * 512 + (i 3).val) / 2048 % 2048 = _; omega
  have e2 : ((idx_main_v84 i) 2).val = (i 2).val * 512 + (i 3).val := by
    show ((((i 0).val * 2048 + (i 1).val) * 4 + (i 2).val) * 512 + (i 3).val) % 2048 = _; omega
  rw [e0, e1, e2, Args.Db, Args.Wg]
  refine congrArg (a.CT _ _ _ * ·) (congrArg a.W ?_)
  show (((((i 0).val * 2048 + (i 1).val) * 4 + (i 2).val) * 512 + (i 3).val) % 2048) % 2048 = _
  omega

/-- The gradient of the gated output. -/
theorem s98 (i : S2x2048x4x512.Idx) : val_main_v98 (F := Ideal) x0 x1 x2 x3 x4 x5 x6 i
    = ((dy2 (a.Yb (i 0).val (i 2).val) (a.Zb (i 0).val (i 2).val) (a.Db (i 0).val (i 2).val) (a.Wg (i 2).val) (i 1).val (i 3).val : ℝ) : EReal) := by
  have h0 : (i 0).val < 2 := (i 0).isLt; have h1 : (i 1).val < 2048 := (i 1).isLt; have h2 : (i 2).val < 4 := (i 2).isLt
  have e71 : ∀ j : S2x2048x4x1.Idx, val_main_v71 (F := Ideal) x1 x2 x3 x4 x5 j = _ := fun j =>
    mulf_real (half_f32) (div_real (s68 h j) (s67 h j) (ms_pos _ _ _).ne')
  have e86 : ∀ j : S2x2048x4.Idx, val_main_v86 (F := Ideal) x0 x1 x2 x3 x4 x5 x6 j
      = ((∑ c ∈ Finset.range 512, y2 (a.Yb (j 0).val (j 2).val) (a.Zb (j 0).val (j 2).val) (j 1).val c
        * (a.Db (j 0).val (j 2).val (j 1).val c * a.Wg (j 2).val c) : ℝ) : EReal) := fun j => by
    rw [val_main_v86_apply]
    exact sum_real (f := fun c => y2 (a.Yb (j 0).val (j 2).val) (a.Zb (j 0).val (j 2).val) (j 1).val c
      * (a.Db (j 0).val (j 2).val (j 1).val c * a.Wg (j 2).val c)) zero_f32 fun k => mulf_real (s60 h _) (s84 h _)
  have e94 : val_main_v94 (F := Ideal) x0 x1 x2 x3 x4 x5 x6 i
      = ((∑ _k ∈ Finset.range 1, (∑ c ∈ Finset.range 512, y2 (a.Yb (i 0).val (i 2).val) (a.Zb (i 0).val (i 2).val) (i 1).val c
        * (a.Db (i 0).val (i 2).val (i 1).val c * a.Wg (i 2).val c)) * (-(1 / 2) * (rstd (a.Yb (i 0).val (i 2).val) (a.Zb (i 0).val (i 2).val) (i 1).val
          / ((∑ c ∈ Finset.range 512, y2 (a.Yb (i 0).val (i 2).val) (a.Zb (i 0).val (i 2).val) (i 1).val c
      * y2 (a.Yb (i 0).val (i 2).val) (a.Zb (i 0).val (i 2).val) (i 1).val c) / 512 + eps))) / 512 : ℝ) : EReal) := by
    rw [val_main_v94_apply, val_main_v93_apply]
    refine sum_real zero_f32 fun k => ?_
    rw [val_main_v92_apply, val_main_v90_apply, val_main_v91_apply, val_main_v87_apply]
    have e : idx_main_v87 (idx_main_v93 (idx_main_v94 i) k) = ix3 (i 0) (i 1) (i 2) := by
      have hk : k.val < 1 := k.isLt
      funext ax; apply Fin.ext
      match ax with
      | ⟨0, _⟩ => show ((((i 0).val * 2048 + (i 1).val) * 4 + (i 2).val) * 1 + k.val) / 8192 = (i 0).val; omega
      | ⟨1, _⟩ => show ((((i 0).val * 2048 + (i 1).val) * 4 + (i 2).val) * 1 + k.val) / 4 % 2048 = (i 1).val; omega
      | ⟨2, _⟩ => show ((((i 0).val * 2048 + (i 1).val) * 4 + (i 2).val) * 1 + k.val) % 4 = (i 2).val; omega
    rw [e]
    exact div_real (mulf_real (e86 _) (e71 _)) c512_f32 (by norm_num)
  rw [val_main_v98_apply, val_main_v96_apply, val_main_v89_apply, val_main_v88_apply, val_main_v95_apply, val_main_v97_apply]
  refine cast_real (addf_real (addf_real (mulf_real (s84 h i) (s68 h _)) (mulf_real (s60 h i) e94)) (mulf_real e94 (s60 h i))) ?_
  simp only [Finset.sum_range_one]
  refine (norm_grad _ _ _ _ _ (ms_pos (a.Yb (i 0).val (i 2).val) (a.Zb (i 0).val (i 2).val) (i 1).val)).trans ?_
  rw [dy2, y2h, Finset.sum_mul]
  refine congrArg (fun s => _ * (_ - _ * (s / 512))) (Finset.sum_congr rfl fun j _ => ?_)
  rw [y2h, rstd]
  ring

theorem s99 (i : S2x2048x2048.Idx) : val_main_v99 (F := Ideal) x0 x1 x2 x3 x4 x5 x6 i
    = ((dy2 (a.Yb (i 0).val ((i 2).val / 512)) (a.Zb (i 0).val ((i 2).val / 512)) (a.Db (i 0).val ((i 2).val / 512)) (a.Wg ((i 2).val / 512))
      (i 1).val ((i 2).val % 512) : ℝ) : EReal) := by
  have h0 : (i 0).val < 2 := (i 0).isLt; have h1 : (i 1).val < 2048 := (i 1).isLt; have h2 : (i 2).val < 2048 := (i 2).isLt
  rw [val_main_v99_apply, s98 h]
  have e0 : ((idx_main_v99 i) 0).val = (i 0).val := by
    show (((i 0).val * 2048 + (i 1).val) * 2048 + (i 2).val) / 4194304 = _; omega
  have e1 : ((idx_main_v99 i) 1).val = (i 1).val := by
    show (((i 0).val * 2048 + (i 1).val) * 2048 + (i 2).val) / 2048 % 2048 = _; omega
  have e2 : ((idx_main_v99 i) 2).val = (i 2).val / 512 := by
    show (((i 0).val * 2048 + (i 1).val) * 2048 + (i 2).val) / 512 % 4 = _; omega
  have e3 : ((idx_main_v99 i) 3).val = (i 2).val % 512 := by
    show (((i 0).val * 2048 + (i 1).val) * 2048 + (i 2).val) % 512 = _; omega
  rw [e0, e1, e2, e3]

/-- The gradient of the layer's output. -/
theorem s101 (i : S2x2048x2048.Idx) : val_main_v101 (F := Ideal) x0 x1 x2 x3 x4 x5 x6 i
    = ((a.dYb (i 0).val ((i 2).val / 512) (i 1).val ((i 2).val % 512) : ℝ) : EReal) := by
  rw [val_main_v101_apply]
  exact mulf_real (s99 h i) (s58_0 h i)

/-- The gradient of the gate. -/
theorem s102 (i : S2x2048x2048.Idx) : val_main_v102 (F := Ideal) x0 x1 x2 x3 x4 x5 x6 i
    = ((a.dZb (i 0).val ((i 2).val / 512) (i 1).val ((i 2).val % 512) : ℝ) : EReal) := by
  rw [val_main_v102_apply, val_main_call4_v2_apply, val_main_call4_v0_apply, val_main_call4_v1_apply, val_main_v100_apply]
  have e100 := mulf_real (φ := .f32) (s57 h i) (s99 h i)
  refine cast_real (addf_real (mulf_real e100 (s58_2 h i)) (mulf_real (mulf_real (s3 h i) e100) (s58_1 h i))) ?_
  rw [Args.dZb, Ssd.dz]
  ring

omit h in
/-- The array of the projection's gradient outside the gate's columns. -/
theorem s168_out (x7 : FVec Ideal ⟨3, ![2, 2048, 11520]⟩ .bf16) (i : S2x2048x11520.Idx) (hi : (i 2).val < 4096 ∨ 6144 ≤ (i 2).val) :
    val_main_v168 (F := Ideal) x0 x1 x2 x3 x4 x5 x6 x7 i = x7 i := by
  have h2 : (i 2).val < 11520 := (i 2).isLt
  unfold val_main_v168
  rcases hi with hi | hi
  · refine (concatenate_apply_piece _ _ _ i 0 (by simp) S2x2048x4096 _ rfl rfl 0 rfl
      (ix3 (i 0) (i 1) (⟨(i 2).val, hi⟩ : Fin 4096)) ?_ ?_).trans ?_
    · intro b hb
      match b with
      | ⟨0, _⟩ => rfl
      | ⟨1, _⟩ => rfl
      | ⟨2, _⟩ => exact absurd rfl hb
    · exact Nat.zero_add _
    · rw [val_main_v165_apply]
      refine congrArg x7 (funext fun ax => Fin.ext ?_)
      match ax with
      | ⟨0, _⟩ => rfl
      | ⟨1, _⟩ => rfl
      | ⟨2, _⟩ => rfl
  · refine (concatenate_apply_piece _ _ _ i 2 (by simp) S2x2048x5376 _ rfl rfl 6144 rfl
      (ix3 (i 0) (i 1) (⟨(i 2).val - 6144, by omega⟩ : Fin 5376)) ?_ ?_).trans ?_
    · intro b hb
      match b with
      | ⟨0, _⟩ => rfl
      | ⟨1, _⟩ => rfl
      | ⟨2, _⟩ => exact absurd rfl hb
    · show 6144 + ((i 2).val - 6144) = (i 2).val; omega
    · rw [val_main_v167_apply]
      refine congrArg x7 (funext fun ax => Fin.ext ?_)
      match ax with
      | ⟨0, _⟩ => rfl
      | ⟨1, _⟩ => rfl
      | ⟨2, _⟩ => show 6144 + ((i 2).val - 6144) = (i 2).val; omega

/-- The gate's columns of the projection's gradient. -/
theorem s168_in (x7 : FVec Ideal ⟨3, ![2, 2048, 11520]⟩ .bf16) (i : S2x2048x11520.Idx) (h4 : 4096 ≤ (i 2).val) (h6 : (i 2).val < 6144) :
    val_main_v168 (F := Ideal) x0 x1 x2 x3 x4 x5 x6 x7 i
      = ((a.dZb (i 0).val (((i 2).val - 4096) / 512) (i 1).val (((i 2).val - 4096) % 512) : ℝ) : EReal) := by
  unfold val_main_v168
  refine (concatenate_apply_piece _ _ _ i 1 (by simp) S2x2048x2048 _ rfl rfl 4096 rfl
    (ix3 (i 0) (i 1) (⟨(i 2).val - 4096, by omega⟩ : Fin 2048)) ?_ ?_).trans ?_
  · intro b hb
    match b with
    | ⟨0, _⟩ => rfl
    | ⟨1, _⟩ => rfl
    | ⟨2, _⟩ => exact absurd rfl hb
  · show 4096 + ((i 2).val - 4096) = (i 2).val; omega
  · exact s102 h _

end Ssd.Ref
end
-- ==== Proof.Arr1.lean ====
module
public import proofs.«01_k».proof.Proof.Recur
public import proofs.«01_k».proof.Proof.Points1
public import proofs.«01_k».proof.Proof.Host
public import proofs.«01_k».proof.Proof.Ref2
public import proofs.«01_k».proof.Proof.Gen.KernelIdeal.Value

/-! The kernel's array of the projection's gradient and its array of the norm weight's gradient hold what the
    reference's hold. -/

@[expose] public section
set_option maxRecDepth 16384

noncomputable section
namespace Ssd.Kern
open Idealize.ShloMosaic Idealize.ShloMosaic.ValueIdx Idealize.ShloMosaic.TcCoe Cert.KernelIdeal Cert.KernelIdeal.Gen Ssd.Blocks
open scoped BigOperators

variable {m : (ℓ : Loc nD τ Cert.KernelIdeal.sig) → Buf (Elt Ideal) ℓ} {c : Dev nD} {a : Args}

/-- The arguments of a device hold the real numbers of `a`. -/
abbrev Holds (m : (ℓ : Loc nD τ Cert.KernelIdeal.sig) → Buf (Elt Ideal) ℓ) (c : Dev nD) (a : Args) : Prop :=
  a.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable (h : Holds m c a) (t : Fin cfg0.N)
include h

theorem x0 : R3 (n := 128) (m := 512) (φ := .f32) (iblk m c 0 t) (fun r q => a.Db (ba t) (gr t) (ch t * 128 + r) q) :=
  b0 m c t (f := a.CT) fun i => (congrFun (V_main_arg0 m c) i).trans (Ref.ct h i)
theorem x1 : R3 (n := 128) (m := 512) (φ := .f32) (iblk m c 1 t) (fun r q => a.Yb (ba t) (gr t) (ch t * 128 + r) q) :=
  (b1 m c t (f := fun b t q => a.Yb b (q / 512) t (q % 512)) fun i => (congrFun (Cert.KernelIdeal.Host.y_eq m c) i).trans (Ref.s57 h i)).congr
    fun r q _ hq => by
      rw [show (gr t * 512 + q) / 512 = gr t by omega, show (gr t * 512 + q) % 512 = q by omega]
theorem x5 : R3 (n := 128) (m := 512) (φ := .f32) (X0_5 m c t) (fun r q => a.Zb (ba t) (gr t) (ch t * 128 + r) q) :=
  (b5 m c t (f := a.P) fun i => (congrFun (V_main_arg2 m c) i).trans (Ref.p h i)).congr fun r q _ _ => by
    rw [Args.Zb, show (8 + gr t) * 512 + q = 4096 + (gr t * 512 + q) by ring]
theorem x11 : R2 (n := 1) (m := 512) (φ := .f32) (iblk m c 11 t) (fun _ q => a.Wg (gr t) q) :=
  b11 m c t (f := a.W) fun i => (congrFun (V_main_arg6 m c) i).trans (Ref.w h i)

/-- What a point leaves in the block of the gate's gradient. -/
theorem dz_at : R3 (n := 128) (m := 512) (φ := .bf16) (outsAt0 m c t.val t.isLt).2.2.2.1 (fun r q => a.dZb (ba t) (gr t) (ch t * 128 + r) q) := by
  rw [Points.dz_eq]
  exact dz_real (x0 h t) (x1 h t) (x5 h t) (x11 h t)

/-- What a point adds to the gradient of the norm's weight. -/
def dwAt (a : Args) (t q : ℕ) : ℝ :=
  ∑ r ∈ Finset.range 128, a.Db (ba t) (gr t) (ch t * 128 + r) q * y2h (a.Yb (ba t) (gr t)) (a.Zb (ba t) (gr t)) (ch t * 128 + r) q

theorem dsnw_at (n : ℕ) (hn : n < cfg0.N) : R3 (n := 1) (m := 512) (φ := .f32) (outsAt0 m c n hn).2.2.2.2.2.1
    (fun _ q => ∑ k ∈ Finset.range (n % 32 + 1), dwAt a (n / 32 * 32 + k) q) := by
  refine accum (fun n hn => (outsAt0 m c n hn).2.2.2.2.2.1) (dwAt a) ?_ ?_ n hn
  · intro n hn h0
    show R3 (n := 1) (m := 512) (φ := .f32) (outsAt0 m c n hn).2.2.2.2.2.1 _
    rw [Points.dsnw_first m c ⟨n, hn⟩ h0]
    exact (dsnw_real (A := fun _ => 0) (x0 h ⟨n, hn⟩) (x1 h ⟨n, hn⟩) (x5 h ⟨n, hn⟩) (fun _ _ _ => zero_f32)).congr fun r q _ _ => zero_add _
  · intro n hn h0 A hA
    show R3 (n := 1) (m := 512) (φ := .f32) (outsAt0 m c n hn).2.2.2.2.2.1 _
    rw [Points.dsnw_next m c ⟨n, hn⟩ h0]
    exact dsnw_real (x0 h ⟨n, hn⟩) (x1 h ⟨n, hn⟩) (x5 h ⟨n, hn⟩) hA

omit h in
theorem i15 : ∀ t : Fin cfg0.N, win0_15.index t = ![ba t.val, ch t.val, 8 + gr t.val] := (by decide +kernel : ∀ t : Fin grid0.N, _)
omit h in
theorem i17 : ∀ t : Fin cfg0.N, win0_17.index t = ![gr t.val, 0, 0] := (by decide +kernel : ∀ t : Fin grid0.N, _)

/-- The gradient of the norm's weight, as the array the kernel returns. -/
def dwArr (a : Args) : FVec Ideal S4x1x512 .f32 := fun i => ((a.dW (i 0).val (i 2).val : ℝ) : EReal)

/-- The kernel's array of the norm weight's gradient. -/
theorem dsnw_arr (i : S4x1x512.Idx) : (dats m 0 c).arrAt 17 cfg0.N i = ((a.dW (i 0).val (i 2).val : ℝ) : EReal) := by
  refine congrFun ((dats m 0 c).arrAt_eq_of_covers 17 (dwArr a) (by decide +kernel) fun t hf y => ?_) i
  have ht : t.val % 32 = 31 := (flush0_17 t).mp hf
  blk_simp [i17]
  rw [after0_17]
  have e := (dsnw_at h t.val t.isLt).at y
  have hw : ∀ q, ∑ k ∈ Finset.range (t.val % 32 + 1), dwAt a (t.val / 32 * 32 + k) q = a.dW (gr t.val) q := fun q => by
    rw [ht, show t.val / 32 = gr t.val from rfl, ← Args.sum_dW]
    refine Finset.sum_congr rfl fun k hk => ?_
    rw [dwAt, show gr (gr t.val * 32 + k) = gr t.val by have := Finset.mem_range.mp hk; simp only [gr]; omega]
  rw [hw] at e
  have e0 : ((((cfg0.win 17).blk t).view.emb y) 0).val = gr t.val := by blk_simp [i17]
  have e2 : ((((cfg0.win 17).blk t).view.emb y) 2).val = (y 2).val := by blk_simp [i17]
  exact e.trans (by rw [dwArr]; exact congrArg _ (by rw [e0, e2]))

/-- The kernel's array of the projection's gradient. -/
theorem dproj_arr (i : S2x2048x11520.Idx) : (dats m 0 c).arrAt 15 cfg0.N i
    = Cert.ReferenceIdeal.Read.val_main_v168 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) i := by
  refine congrFun ((dats m 0 c).arrAt_eq_of_coversWhere_of_agree 15 _ (fun β => 8 ≤ β (2 : Fin _) ∧ β (2 : Fin _) < 12) (by decide +kernel)
    (fun t hf y => ?_) (fun j hj => ?_)) i
  · blk_simp [i15]
    rw [after0_15]
    have e0 : ((((cfg0.win 15).blk t).view.emb y) 0).val = ba t.val := by
      have b0 : (y 0).val < 1 := ((cfg0.win 15).xinj (cfg0.grid.coords t) y 0).isLt
      blk_simp [i15]
      omega
    have e1 : ((((cfg0.win 15).blk t).view.emb y) 1).val = ch t.val * 128 + (y 1).val := by blk_simp [i15]
    have e2 : ((((cfg0.win 15).blk t).view.emb y) 2).val = (8 + gr t.val) * 512 + (y 2).val := by blk_simp [i15]
    have b2 : (y 2).val < 512 := ((cfg0.win 15).xinj (cfg0.grid.coords t) y 2).isLt
    have bg : gr t.val < 4 := by have := lt_of_lt_of_eq t.isLt N_0; simp only [gr]; omega
    refine ((dz_at h t).at ((cfg0.win 15).xinj (cfg0.grid.coords t) y)).trans ?_
    have eq : (8 + gr t.val) * 512 + (y 2).val - 4096 = gr t.val * 512 + (y 2).val := by omega
    have ed : (gr t.val * 512 + (y 2).val) / 512 = gr t.val := by omega
    have em : (gr t.val * 512 + (y 2).val) % 512 = (y 2).val := by omega
    rw [Ref.s168_in h _ _ (le_of_le_of_eq (by omega) e2.symm) (lt_of_eq_of_lt e2 (by omega)), e0, e1, e2, eq, ed, em]
  · blk_simp [Pipeline.Window.cell_apply] at hj
    rw [Ref.s168_out _ _ (by
      show (j 2).val < 4096 ∨ 6144 ≤ (j 2).val
      omega)]
    exact congrFun (Cert.KernelIdeal.Host.dproj_eq m c) j

end Ssd.Kern
end
-- ==== Proof.Ref3.lean ====
module
public import proofs.«01_k».proof.Proof.Ref2
public import proofs.«01_k».proof.Proof.Spec2
public import Idealize.ShloMosaic.Lib.KernelVsHost

/-! The reference's gradients of the values, the key rows, the query rows and the skip weight, in real numbers. -/

@[expose] public section
set_option maxRecDepth 16384

noncomputable section
namespace Ssd.Ref
open Idealize.ShloMosaic Idealize.ShloMosaic.ValueIdx Cert.ReferenceIdeal Cert.ReferenceIdeal.Read
open scoped BigOperators

variable {a : Args} {x0 : FVec Ideal ⟨3, ![2, 2048, 2048]⟩ .f32} {x1 : FVec Ideal ⟨3, ![2, 2048, 3072]⟩ .f32}
    {x2 : FVec Ideal ⟨3, ![2, 2048, 11520]⟩ .f32} {x3 x4 x5 : FVec Ideal ⟨2, ![1, 32]⟩ .f32}
    {x6 : FVec Ideal ⟨2, ![1, 2048]⟩ .f32} (h : a.Of x0 x1 x2 x3 x4 x5 x6)
include h

theorem s103 (i : S2x2048x4x8x64.Idx) : val_main_v103 (F := Ideal) x0 x1 x2 x3 x4 x5 x6 i
    = ((a.dY5 (i 0).val (i 1).val (i 2).val (i 3).val (i 4).val : ℝ) : EReal) := by
  have h0 : (i 0).val < 2 := (i 0).isLt; have h1 : (i 1).val < 2048 := (i 1).isLt; have h2 : (i 2).val < 4 := (i 2).isLt
  have h3 : (i 3).val < 8 := (i 3).isLt; have h4 : (i 4).val < 64 := (i 4).isLt
  rw [val_main_v103_apply, s101 h]
  refine congrArg _ (?_ : a.dYb (_ / 4194304) (_ % 2048 / 512) (_ / 2048 % 2048) (_ % 2048 % 512) = a.dYb _ _ _ _)
  congr 1 <;> omega

theorem s104 (i : S2x2048x4x8x64.Idx) : val_main_v104 (F := Ideal) x0 x1 x2 x3 x4 x5 x6 i
    = ((a.xh (i 0).val (i 1).val (i 2).val (i 3).val (i 4).val * a.dY5 (i 0).val (i 1).val (i 2).val (i 3).val (i 4).val : ℝ) : EReal) := by
  rw [val_main_v104_apply]
  exact mulf_real (s22 h i) (s103 h i)

theorem s105 (i : S4x8.Idx) : val_main_v105 (F := Ideal) x0 x1 x2 x3 x4 x5 x6 i = ((a.dSK (i 0).val (i 1).val : ℝ) : EReal) := by
  have e := s104 h
  unfold val_main_v105
  generalize val_main_v104 (F := Ideal) x0 x1 x2 x3 x4 x5 x6 = v at e ⊢
  exact sum014 _ _ v _ (fun _ => zero_f32) (f := fun b t g h p => a.xh b t g h p * a.dY5 b t g h p) e i

theorem s112 (i : S32.Idx) : val_main_v112 (F := Ideal) x0 x1 x2 x3 x4 x5 x6 i = ((a.dSK ((i 0).val / 8) ((i 0).val % 8) : ℝ) : EReal) := by
  have e106 : ∀ j : S1x1x4x8x1.Idx, val_main_v106 (F := Ideal) x0 x1 x2 x3 x4 x5 x6 j = ((a.dSK (j 2).val (j 3).val : ℝ) : EReal) := fun j => by
    have h0 : (j 0).val < 1 := (j 0).isLt; have h1 : (j 1).val < 1 := (j 1).isLt; have h2 : (j 2).val < 4 := (j 2).isLt
    have h3 : (j 3).val < 8 := (j 3).isLt; have h4 : (j 4).val < 1 := (j 4).isLt
    rw [val_main_v106_apply, s105 h]
    refine congrArg _ (?_ : a.dSK (_ / 8) (_ % 8) = a.dSK _ _)
    congr 1 <;> omega
  have e109 : ∀ j : S4x8.Idx, val_main_v109 (F := Ideal) x0 x1 x2 x3 x4 x5 x6 j = ((a.dSK (j 0).val (j 1).val : ℝ) : EReal) := fun j => by
    unfold val_main_v109
    generalize val_main_v106 (F := Ideal) x0 x1 x2 x3 x4 x5 x6 = v at e106 ⊢
    refine (sum014 _ _ v _ (fun _ => zero_f32) (f := fun _ _ g h _ => a.dSK g h) e106 j).trans ?_
    simp
  rw [val_main_v112_apply, val_main_v111_apply]
  refine cast_real (sum_real zero_f32 (f := fun _ => a.dSK ((i 0).val / 8) ((i 0).val % 8)) fun k => ?_) (by simp)
  rw [val_main_v110_apply, e109]

/-- The gradient of the skip weight, padded to a row of lanes. -/
theorem s178 (i : S4x1x128.Idx) : val_main_v178 (F := Ideal) x0 x1 x2 x3 x4 x5 x6 i
    = (((if (i 2).val < 8 then a.dSK (i 0).val (i 2).val else 0 : ℝ)) : EReal) := by
  have h0 : (i 0).val < 4 := (i 0).isLt; have h1 : (i 1).val < 1 := (i 1).isLt
  unfold val_main_v178
  by_cases h2 : (i 2).val < 8
  · have e : ∀ j : S4x1x8.Idx, val_main_v177 (F := Ideal) x0 x1 x2 x3 x4 x5 x6 j = ((a.dSK (j 0).val (j 2).val : ℝ) : EReal) := fun j => by
      have h0 : (j 0).val < 4 := (j 0).isLt; have h1 : (j 1).val < 1 := (j 1).isLt; have h2 : (j 2).val < 8 := (j 2).isLt
      rw [val_main_v177_apply, s112 h]
      refine congrArg _ (?_ : a.dSK (((_ * 1 + _) * 8 + _) / 8) (((_ * 1 + _) * 8 + _) % 8) = a.dSK _ _)
      congr 1 <;> omega
    rw [if_pos h2]
    refine (pad_apply_of_inside _ _ _ _ _ _ _ _ ((ValueIdx.ix3 (i 0) (i 1) (⟨(i 2).val, h2⟩ : Fin 8) : S4x1x8.Idx)) ?_).trans (e _)
    intro d
    match d with
    | ⟨0, _⟩ => simp
    | ⟨1, _⟩ => simp
    | ⟨2, _⟩ => simp
  · rw [if_neg h2]
    refine (pad_apply_of_not_inside _ _ _ _ _ _ _ _ (2 : Fin 3) ?_).trans ?_
    · simp; omega
    · show (((0#32 : BitVec 32).toInt : ℝ) : EReal) = _
      simp

theorem s115 (i : S2x2048x2048x4x8.Idx) : val_main_v115 (F := Ideal) x0 x1 x2 x3 x4 x5 x6 i
    = ((a.dS (i 0).val (i 1).val (i 2).val (i 3).val (i 4).val : ℝ) : EReal) := by
  rw [val_main_v115_apply, val_main_v114_apply]
  exact dot_real (fun k => by rw [val_main_v113_apply]; exact s103 h _) (fun k => s29 h _)

theorem s123 (i : S2x2048x2048x4.Idx) : val_main_v123 (F := Ideal) x0 x1 x2 x3 x4 x5 x6 i
    = ((a.dCB (i 0).val (i 1).val (i 2).val (i 3).val : ℝ) : EReal) := by
  have e121 : ∀ j, val_main_v121 (F := Ideal) x0 x1 x2 x3 x4 x5 x6 j = ((a.dCB (j 0).val (j 1).val (j 2).val (j 3).val : ℝ) : EReal) := fun j => by
    rw [val_main_v121_apply]
    refine sum_real zero_f32 fun k => ?_
    rw [val_main_v120_apply]
    exact mulf_real (s115 h _) (s43 h _)
  have e122 : ∀ j, val_main_v122 (F := Ideal) x0 x1 x2 x3 x4 x5 x6 j = ((a.dCB (j 0).val (j 1).val (j 2).val (j 3).val : ℝ) : EReal) := fun j => by
    have h0 : (j 0).val < 2 := (j 0).isLt; have h1 : (j 1).val < 2048 := (j 1).isLt; have h2 : (j 2).val < 2048 := (j 2).isLt
    have h3 : (j 3).val < 4 := (j 3).isLt; have h4 : (j 4).val < 1 := (j 4).isLt
    rw [val_main_v122_apply, e121]
    refine congrArg _ (?_ : a.dCB (_ / 16777216) (_ / 8192 % 2048) (_ / 4 % 2048) (_ % 4) = a.dCB _ _ _ _)
    congr 1 <;> omega
  rw [val_main_v123_apply]
  exact cast_real (sum_real zero_f32 (f := fun _ => a.dCB (i 0).val (i 1).val (i 2).val (i 3).val) fun k => e122 _) (by simp)

theorem s124 (i : S2x4x2048x2048.Idx) : val_main_v124 (F := Ideal) x0 x1 x2 x3 x4 x5 x6 i
    = ((a.dCB (i 0).val (i 3).val (i 2).val (i 1).val : ℝ) : EReal) := by
  rw [val_main_v124_apply]
  exact s123 h _

/-- The gradient of the query rows. -/
theorem s148 (i : S2x2048x512.Idx) : val_main_v148 (F := Ideal) x0 x1 x2 x3 x4 x5 x6 i
    = ((a.dC (i 0).val (i 1).val ((i 2).val / 128) ((i 2).val % 128) : ℝ) : EReal) := by
  have h0 : (i 0).val < 2 := (i 0).isLt; have h1 : (i 1).val < 2048 := (i 1).isLt; have h2 : (i 2).val < 512 := (i 2).isLt
  have e : ∀ j, val_main_v126 (F := Ideal) x0 x1 x2 x3 x4 x5 x6 j = ((a.dC (j 0).val (j 1).val (j 2).val (j 3).val : ℝ) : EReal) := fun j => by
    rw [val_main_v126_apply, val_main_v125_apply]
    exact dot_real (fun k => s124 h _) (fun k => s23 h _)
  rw [val_main_v148_apply, e]
  refine congrArg _ (?_ : a.dC (_ / 1048576) (_ / 512 % 2048) (_ / 128 % 4) (_ % 128) = a.dC _ _ _ _)
  congr 1 <;> omega

/-- The gradient of the key rows. -/
theorem s149 (i : S2x2048x512.Idx) : val_main_v149 (F := Ideal) x0 x1 x2 x3 x4 x5 x6 i
    = ((a.dB (i 0).val (i 1).val ((i 2).val / 128) ((i 2).val % 128) : ℝ) : EReal) := by
  have h0 : (i 0).val < 2 := (i 0).isLt; have h1 : (i 1).val < 2048 := (i 1).isLt; have h2 : (i 2).val < 512 := (i 2).isLt
  have e : ∀ j, val_main_v128 (F := Ideal) x0 x1 x2 x3 x4 x5 x6 j = ((a.dB (j 0).val (j 1).val (j 2).val (j 3).val : ℝ) : EReal) := fun j => by
    rw [val_main_v128_apply, val_main_v127_apply]
    exact dot_real (fun k => s124 h _) (fun k => s24 h _)
  rw [val_main_v149_apply, e]
  refine congrArg _ (?_ : a.dB (_ / 1048576) (_ / 512 % 2048) (_ / 128 % 4) (_ % 128) = a.dB _ _ _ _)
  congr 1 <;> omega

/-- The gradient of the values. -/
theorem s150 (i : S2x2048x2048.Idx) : val_main_v150 (F := Ideal) x0 x1 x2 x3 x4 x5 x6 i
    = ((a.dX (i 0).val (i 1).val ((i 2).val / 512) ((i 2).val / 64 % 8) ((i 2).val % 64) : ℝ) : EReal) := by
  have h0 : (i 0).val < 2 := (i 0).isLt; have h1 : (i 1).val < 2048 := (i 1).isLt; have h2 : (i 2).val < 2048 := (i 2).isLt
  have e : ∀ j, val_main_v144 (F := Ideal) x0 x1 x2 x3 x4 x5 x6 j
      = ((a.dX (j 0).val (j 1).val (j 2).val (j 3).val (j 4).val : ℝ) : EReal) := fun j => by
    rw [val_main_v144_apply]
    refine addf_real ?_ ?_
    · rw [val_main_v108_apply]
      refine mulf_real (s103 h j) ?_
      rw [val_main_v107_apply]
      exact s54 h j
    · rw [val_main_v143_apply]
      refine mulf_real ?_ ?_
      · rw [val_main_v117_apply, val_main_v116_apply]
        exact dot_real (fun k => by rw [val_main_v113_apply]; exact s103 h _) (fun k => s48 h _)
      · rw [val_main_v142_apply, val_main_v27_apply]
        exact s26 h _
  rw [val_main_v150_apply, e]
  refine congrArg _ (?_ : a.dX (_ / 4194304) (_ / 2048 % 2048) (_ / 512 % 4) (_ / 64 % 8) (_ % 64) = a.dX _ _ _ _ _)
  congr 1 <;> omega

end Ssd.Ref
end
-- ==== Proof.Arr2.lean ====
module
public import proofs.«01_k».proof.Proof.Arr1
public import proofs.«01_k».proof.Proof.Points2
public import proofs.«01_k».proof.Proof.Ref3

/-! The kernel's array of the skip weight's gradient holds what the reference's holds. -/

@[expose] public section
set_option maxRecDepth 16384

noncomputable section
namespace Ssd.Kern
open Idealize.ShloMosaic Idealize.ShloMosaic.ValueIdx Idealize.ShloMosaic.TcCoe Cert.KernelIdeal Cert.KernelIdeal.Gen Ssd.Blocks
open scoped BigOperators

/-- A sum over the columns of a group that keeps the columns of one head. -/
theorem sum_lane (F : ℕ → ℝ) (j : ℕ) : ∑ q ∈ Finset.range 512, F q * (if q / 64 = j then (1 : ℝ) else 0)
    = if j < 8 then ∑ p ∈ Finset.range 64, F (j * 64 + p) else 0 := by
  simp only [mul_ite, mul_one, mul_zero]
  rw [← Finset.sum_filter]
  split
  · refine Finset.sum_nbij' (fun q => q - j * 64) (fun p => j * 64 + p) ?_ ?_ ?_ ?_ ?_ <;>
      simp only [Finset.mem_filter, Finset.mem_range] <;> intro q hq
    · omega
    · omega
    · omega
    · omega
    · rw [show j * 64 + (q - j * 64) = q by omega]
  · refine Finset.sum_eq_zero fun q hq => ?_
    simp only [Finset.mem_filter, Finset.mem_range] at hq
    omega

variable {m : (ℓ : Loc nD τ Cert.KernelIdeal.sig) → Buf (Elt Ideal) ℓ} {c : Dev nD} {a : Args}
variable (h : Holds m c a) (t : Fin cfg0.N)
include h

theorem x2 : R3 (n := 128) (m := 512) (φ := .f32) (iblk m c 2 t) (fun r q => a.X (ba t) (ch t * 128 + r) (gr t * 512 + q)) :=
  b2 m c t (f := a.X) fun i => (congrFun (V_main_arg1 m c) i).trans (Ref.x h i)

/-- The gradient of the layer's output at a point. -/
theorem dyV_real : R2 (Points.dyV m c t) (fun r q => a.dYb (ba t) (gr t) (ch t * 128 + r) q) :=
  dy_real (x0 h t) (x1 h t) (x5 h t) (x11 h t)

/-- What a point adds to the gradient of the skip weight. -/
def dskAt (a : Args) (t j : ℕ) : ℝ :=
  ∑ q ∈ Finset.range 512, (∑ r ∈ Finset.range 128, a.dYb (ba t) (gr t) (ch t * 128 + r) q * a.X (ba t) (ch t * 128 + r) (gr t * 512 + q))
    * (if q / 64 = j then 1 else 0)

theorem ddsk_at (n : ℕ) (hn : n < cfg0.N) : R3 (n := 1) (m := 128) (φ := .f32) (outsAt0 m c n hn).2.2.2.2.2.2.2.2.1
    (fun _ q => ∑ k ∈ Finset.range (n % 32 + 1), dskAt a (n / 32 * 32 + k) q) := by
  refine accum (fun n hn => (outsAt0 m c n hn).2.2.2.2.2.2.2.2.1) (dskAt a) ?_ ?_ n hn
  · intro n hn h0
    show R3 (n := 1) (m := 128) (φ := .f32) (outsAt0 m c n hn).2.2.2.2.2.2.2.2.1 _
    rw [Points.ddsk_first m c ⟨n, hn⟩ h0]
    exact (ddsk_real (D := fun _ => 0) (x2 h ⟨n, hn⟩) (dyV_real h ⟨n, hn⟩) (fun _ _ _ => zero_f32)).congr fun r q _ _ => zero_add _
  · intro n hn h0 A hA
    show R3 (n := 1) (m := 128) (φ := .f32) (outsAt0 m c n hn).2.2.2.2.2.2.2.2.1 _
    rw [Points.ddsk_next m c ⟨n, hn⟩ h0]
    exact ddsk_real (x2 h ⟨n, hn⟩) (dyV_real h ⟨n, hn⟩) hA

omit h in
theorem i20 : ∀ t : Fin cfg0.N, win0_20.index t = ![gr t.val, 0, 0] := (by decide +kernel : ∀ t : Fin grid0.N, _)

omit h in
/-- The sum of a group's points. -/
theorem sum_dsk (g j : ℕ) : ∑ k ∈ Finset.range 32, dskAt a (g * 32 + k) j = if j < 8 then a.dSK g j else 0 := by
  have e : ∀ k ∈ Finset.range 32, dskAt a (g * 32 + k) j = if j < 8 then ∑ r ∈ Finset.range 128, ∑ p ∈ Finset.range 64,
      a.xh (ba (g * 32 + k)) (ch (g * 32 + k) * 128 + r) g j p * a.dY5 (ba (g * 32 + k)) (ch (g * 32 + k) * 128 + r) g j p else 0 := fun k hk => by
    rw [dskAt, sum_lane, show gr (g * 32 + k) = g by have := Finset.mem_range.mp hk; simp only [gr]; omega]
    refine if_congr Iff.rfl ?_ rfl
    rw [Finset.sum_comm]
    refine Finset.sum_congr rfl fun r _ => Finset.sum_congr rfl fun p _ => ?_
    rw [Args.xh, Args.dY5, mul_comm, show (g * 8 + j) * 64 + p = g * 512 + (j * 64 + p) by ring]
  rw [Finset.sum_congr rfl e]
  by_cases hj : j < 8
  · simp only [if_pos hj]
    exact sum_points g fun b t => ∑ p ∈ Finset.range 64, a.xh b t g j p * a.dY5 b t g j p
  · simp only [if_neg hj, Finset.sum_const_zero]

/-- The gradient of the skip weight, as the array the kernel returns. -/
def dskArr (a : Args) : FVec Ideal S4x1x128 .f32 := fun i => ((if (i 2).val < 8 then a.dSK (i 0).val (i 2).val else 0 : ℝ) : EReal)

/-- The kernel's array of the skip weight's gradient. -/
theorem dskip_arr (i : S4x1x128.Idx) : (dats m 0 c).arrAt 20 cfg0.N i = ((if (i 2).val < 8 then a.dSK (i 0).val (i 2).val else 0 : ℝ) : EReal) := by
  refine congrFun ((dats m 0 c).arrAt_eq_of_covers 20 (dskArr a) (by decide +kernel) fun t hf y => ?_) i
  have ht : t.val % 32 = 31 := (flush0_20 t).mp hf
  blk_simp [i20]
  rw [after0_20]
  have e := (ddsk_at h t.val t.isLt).at y
  have hw : ∀ q, ∑ k ∈ Finset.range (t.val % 32 + 1), dskAt a (t.val / 32 * 32 + k) q = if q < 8 then a.dSK (gr t.val) q else 0 := fun q => by
    rw [ht, show t.val / 32 = gr t.val from rfl, ← sum_dsk]
  rw [hw] at e
  have e0 : ((((cfg0.win 20).blk t).view.emb y) 0).val = gr t.val := by blk_simp [i20]
  have e2 : ((((cfg0.win 20).blk t).view.emb y) 2).val = (y 2).val := by blk_simp [i20]
  exact e.trans (by rw [dskArr]; exact congrArg _ (by rw [e0, e2]))

end Ssd.Kern
end
-- ==== Proof.Lanes.lean ====
module
public import proofs.«01_k».proof.Proof.Host2
public import proofs.«01_k».proof.Proof.State2
public import proofs.«01_k».proof.Proof.Scan
public import proofs.«01_k».proof.Proof.Arr2

/-! The operands of the kernel that the host lays out or computes, in real numbers, and the blocks of them at a grid point. -/

@[expose] public section
set_option maxRecDepth 16384

noncomputable section
namespace Ssd.Kern
open Idealize.ShloMosaic Idealize.ShloMosaic.ValueIdx Idealize.ShloMosaic.TcCoe Cert.KernelIdeal Cert.KernelIdeal.Gen Ssd.Blocks
open scoped BigOperators

/-- One number per head, laid out by group on the first eight lanes of a row. -/
theorem lanes2 (v : FVec Ideal S1x32 .f32) (f : ℕ → ℝ) (hv : ∀ i, v i = ((f (i 1).val : ℝ) : EReal)) (i : S4x128.Idx) :
    pad S4x128 ![0, 0] ![0, 120] ![0, 0] (shapeCast S4x8 v shapeCasts_S1x32_S4x8) (sitofp .f32 (constantI S_ 32 0#32) : FVec Ideal S_ .f32)
      pads_S4x8_S4x128_000_01200 h_S_ i
    = ((if (i 1).val < 8 then f ((i 0).val * 8 + (i 1).val) else 0 : ℝ) : EReal) := by
  have h0 : (i 0).val < 4 := (i 0).isLt; have h2 : (i 1).val < 128 := (i 1).isLt
  by_cases h8 : (i 1).val < 8
  · rw [if_pos h8]
    refine (pad_apply_of_inside _ _ _ _ _ _ _ _ (ValueIdx.ix2 (⟨(i 0).val, h0⟩ : Fin 4) (⟨(i 1).val, h8⟩ : Fin 8)) ?_).trans ?_
    · intro d
      match d with
      | ⟨0, _⟩ => simp
      | ⟨1, _⟩ => simp
    refine (shapeCast_apply v shapeCasts_S1x32_S4x8 _ (ValueIdx.ix2 (0 : Fin 1) (⟨(i 0).val * 8 + (i 1).val, by omega⟩ : Fin 32)) (by
      rewrite [Shape.rowMajor_val_two, Shape.rowMajor_val_two]
      show 0 * 32 + ((i 0).val * 8 + (i 1).val) = (i 0).val * 8 + (i 1).val
      omega)).trans ?_
    exact hv _
  · rw [if_neg h8]
    refine (pad_apply_of_not_inside _ _ _ _ _ _ _ _ (1 : Fin 2) ?_).trans ?_
    · simp; omega
    · show (((0#32 : BitVec 32).toInt : ℝ) : EReal) = _
      simp
/-- The same, with a row between. -/
theorem lanes (v : FVec Ideal S1x32 .f32) (f : ℕ → ℝ) (hv : ∀ i, v i = ((f (i 1).val : ℝ) : EReal)) (i : S4x1x128.Idx) :
    shapeCast S4x1x128 (pad S4x128 ![0, 0] ![0, 120] ![0, 0] (shapeCast S4x8 v shapeCasts_S1x32_S4x8) (sitofp .f32 (constantI S_ 32 0#32) : FVec Ideal S_ .f32)
      pads_S4x8_S4x128_000_01200 h_S_) shapeCasts_S4x128_S4x1x128 i
    = ((if (i 2).val < 8 then f ((i 0).val * 8 + (i 2).val) else 0 : ℝ) : EReal) := by
  have h0 : (i 0).val < 4 := (i 0).isLt; have h1 : (i 1).val < 1 := (i 1).isLt; have h2 : (i 2).val < 128 := (i 2).isLt
  exact (shapeCast_apply _ shapeCasts_S4x128_S4x1x128 i (ValueIdx.ix2 (⟨(i 0).val, h0⟩ : Fin 4) (⟨(i 2).val, h2⟩ : Fin 128)) (by
    rewrite [Shape.rowMajor_val_two, Shape.rowMajor_val_three]
    show (i 0).val * 128 + (i 2).val = ((i 0).val * 1 + (i 1).val) * 128 + (i 2).val
    omega)).trans (lanes2 v f hv _)

variable {m : (ℓ : Loc nD τ Cert.KernelIdeal.sig) → Buf (Elt Ideal) ℓ} {c : Dev nD} {a : Args}
variable (h : Holds m c a) (t : Fin cfg0.N)
include h

theorem tb_op (i : S4x1x128.Idx) : V m c main_v58 i = ((if (i 2).val < 8 then a.TB ((i 0).val * 8 + (i 2).val) else 0 : ℝ) : EReal) :=
  (congrFun (Cert.KernelIdeal.Host.dtb_eq m c) i).trans (lanes _ a.TB (Ref.tb h) i)
theorem al_op (i : S4x1x128.Idx) : V m c main_v61 i = ((if (i 2).val < 8 then a.AL ((i 0).val * 8 + (i 2).val) else 0 : ℝ) : EReal) :=
  (congrFun (Cert.KernelIdeal.Host.alog_eq m c) i).trans (lanes _ a.AL (Ref.al h) i)
theorem sk_op (i : S1x2048.Idx) : V m c main_v63 i = ((a.SK ((i 1).val / 64) : ℝ) : EReal) := by
  have h0 : (i 0).val < 1 := (i 0).isLt; have h1 : (i 1).val < 2048 := (i 1).isLt
  refine (congrFun (Cert.KernelIdeal.Host.dsk_eq m c) i).trans ?_
  refine (shapeCast_apply _ shapeCasts_S1x32x64_S1x2048 i (ValueIdx.ix3 (0 : Fin 1) (⟨(i 1).val / 64, by omega⟩ : Fin 32) (⟨(i 1).val % 64, by omega⟩ : Fin 64)) (by
    rewrite [Shape.rowMajor_val_two, Shape.rowMajor_val_three]
    show (0 * 32 + (i 1).val / 64) * 64 + (i 1).val % 64 = (i 0).val * 2048 + (i 1).val
    omega)).trans ?_
  exact (broadcastInDim_apply _ bcast_S1x32_S1x32x64_0_1 _ _ (ValueIdx.ix2 (0 : Fin 1) (⟨(i 1).val / 64, by omega⟩ : Fin 32)) (fun a => match a with
    | ⟨0, _⟩ => rfl | ⟨1, _⟩ => rfl)).trans (Ref.sk h _)
theorem dt_op (i : S2x4x2048x128.Idx) : V m c main_v67 i
    = ((if (i 3).val < 8 then a.P (i 0).val (i 2).val (11264 + ((i 1).val * 8 + (i 3).val)) else 0 : ℝ) : EReal) := by
  have h0 : (i 0).val < 2 := (i 0).isLt; have h1 : (i 1).val < 4 := (i 1).isLt; have h2 : (i 2).val < 2048 := (i 2).isLt
  refine (congrFun (Cert.KernelIdeal.Host.dtr_eq m c) i).trans ?_
  by_cases h8 : (i 3).val < 8
  · rw [if_pos h8]
    refine (pad_apply_of_inside _ _ _ _ _ _ _ _ (ValueIdx.ix4 (⟨(i 0).val, h0⟩ : Fin 2) (⟨(i 1).val, h1⟩ : Fin 4) (⟨(i 2).val, h2⟩ : Fin 2048) (⟨(i 3).val, h8⟩ : Fin 8)) ?_).trans ?_
    · intro d
      match d with
      | ⟨0, _⟩ => simp
      | ⟨1, _⟩ => simp
      | ⟨2, _⟩ => simp
      | ⟨3, _⟩ => simp
    refine (transpose_apply _ _ transposes_S2x2048x4x8_S2x4x2048x8_0_2_1_3 _ (ValueIdx.ix4 (⟨(i 0).val, h0⟩ : Fin 2) (⟨(i 2).val, h2⟩ : Fin 2048) (⟨(i 1).val, h1⟩ : Fin 4) (⟨(i 3).val, h8⟩ : Fin 8)) (fun a => match a with
      | ⟨0, _⟩ => rfl | ⟨1, _⟩ => rfl | ⟨2, _⟩ => rfl | ⟨3, _⟩ => rfl)).trans ?_
    refine (shapeCast_apply _ shapeCasts_S2x2048x32_S2x2048x4x8 _ (ValueIdx.ix3 (⟨(i 0).val, h0⟩ : Fin 2) (⟨(i 2).val, h2⟩ : Fin 2048) (⟨(i 1).val * 8 + (i 3).val, by omega⟩ : Fin 32)) (by
      rewrite [Shape.rowMajor_val_three, Shape.rowMajor_val_four]
      show ((i 0).val * 2048 + (i 2).val) * 32 + ((i 1).val * 8 + (i 3).val) = (((i 0).val * 2048 + (i 2).val) * 4 + (i 1).val) * 8 + (i 3).val
      omega)).trans ?_
    refine (extractStridedSlice_apply _ _ slices_S2x2048x11520_S2x2048x32_0_0_11264 _ (ValueIdx.ix3 (⟨(i 0).val, h0⟩ : Fin 2) (⟨(i 2).val, h2⟩ : Fin 2048) (⟨11264 + ((i 1).val * 8 + (i 3).val), by omega⟩ : Fin 11520)) (fun a => match a with
      | ⟨0, _⟩ => (Nat.zero_add _).symm | ⟨1, _⟩ => (Nat.zero_add _).symm | ⟨2, _⟩ => rfl)).trans ?_
    exact Ref.p h _
  · rw [if_neg h8]
    refine (pad_apply_of_not_inside _ _ _ _ _ _ _ _ (3 : Fin 4) ?_).trans ?_
    · simp; omega
    · show (((0#32 : BitVec 32).toInt : ℝ) : EReal) = _
      simp
theorem hst_op (i : S2x16x4x128x512.Idx) : V m c main_v103 i
    = ((a.H0 (i 0).val (i 2).val ((i 1).val * 128) (i 3).val (i 4).val : ℝ) : EReal) := by
  rw [State.hst_eq m c]
  refine (congrArg _ (ValueIdx.eq_ix5 i)).trans ?_
  refine (State.laid_read _ _ _ _ _ _).trans ?_
  refine (State.product_read _ _ _ _ _ _ _ _).trans ?_
  refine dot_real (fun k => ?_) (fun k => Ref.s23 h _)
  exact State.decayed_real _ _ _ _ _ _ (State.decay_real (fc := a.cs) (fd := fun b t H => a.dt b t H * a.rate H) (Ref.s21 h) (Ref.s20 h) _ _ _ _ _) (Ref.s29 h _)

theorem x3 : R3 (n := 128) (m := 128) (φ := .f32) (iblk m c 3 t) (fun r n => a.B (ba t) (ch t * 128 + r) (gr t) n) :=
  (b3 m c t (f := a.X) fun i => (congrFun (V_main_arg1 m c) i).trans (Ref.x h i)).congr fun r q _ _ => by
    rw [Args.B, show (16 + gr t) * 128 + q = 2048 + (gr t * 128 + q) by ring]
theorem x4 : R3 (n := 128) (m := 128) (φ := .f32) (iblk m c 4 t) (fun r n => a.C (ba t) (ch t * 128 + r) (gr t) n) :=
  (b4 m c t (f := a.X) fun i => (congrFun (V_main_arg1 m c) i).trans (Ref.x h i)).congr fun r q _ _ => by
    rw [Args.C, show (20 + gr t) * 128 + q = 2560 + (gr t * 128 + q) by ring]
theorem x6 : R5 (n := 128) (m := 512) (φ := .f32) (iblk m c 6 t) (fun n q => a.H0 (ba t) (gr t) (ch t * 128) n q) :=
  b6 m c t (f := fun b c g n q => a.H0 b g (c * 128) n q) (hst_op h)
theorem x7 : R4 (n := 128) (m := 128) (φ := .f32) (iblk m c 7 t)
    (fun r j => if j < 8 then a.P (ba t) (ch t * 128 + r) (11264 + (gr t * 8 + j)) else 0) :=
  b7 m c t (f := fun b g t j => if j < 8 then a.P b t (11264 + (g * 8 + j)) else 0) (dt_op h)
theorem x8 : R3 (n := 1) (m := 128) (φ := .f32) (iblk m c 8 t) (fun _ j => if j < 8 then a.TB (gr t * 8 + j) else 0) :=
  b8 m c t (f := fun g j => if j < 8 then a.TB (g * 8 + j) else 0) (tb_op h)
theorem x9 : R3 (n := 1) (m := 128) (φ := .f32) (iblk m c 9 t) (fun _ j => if j < 8 then a.AL (gr t * 8 + j) else 0) :=
  b9 m c t (f := fun g j => if j < 8 then a.AL (g * 8 + j) else 0) (al_op h)
theorem x10 : R2 (n := 1) (m := 512) (φ := .f32) (iblk m c 10 t) (fun _ q => a.SK (gr t * 8 + q / 64)) :=
  (b10 m c t (f := fun q => a.SK (q / 64)) (sk_op h)).congr fun r q _ _ => by
    rw [show (gr t * 512 + q) / 64 = gr t * 8 + q / 64 by omega]

omit h in
theorem ch_le : ch t * 128 + 128 ≤ 2048 := by unfold ch; omega

/-- The steps of a point. -/
theorem dtV_real : R2 (Points.dtV m c t) (fun r j => if j < 8 then a.dt (ba t) (ch t * 128 + r) (gr t * 8 + j) else 0) :=
  (stp_real (x7 h t) (x8 h t)).congr fun r j _ _ => by
    unfold stp
    split
    · simp only [if_pos ‹j < 8›]
      rw [Args.dt, Args.pre, zero_sub]
    · rfl
/-- The running sums of a point. -/
theorem acsV_real : R2 (Points.acsV m c t) (a.Ab (ba t) (gr t) (ch t * 128)) :=
  (acs_real (x7 h t) (x8 h t) (x9 h t)).congr fun r j hr _ => by
    unfold acs Args.Ab
    by_cases hj : j < 8
    · rw [if_pos hj, Args.S, Finset.sum_range_add, Args.S, add_sub_cancel_left]
      have e : ∀ k, (if k ≤ r then (1 : ℝ) else 0) * (stp (fun r j => if j < 8 then a.P (ba t) (ch t * 128 + r) (11264 + (gr t * 8 + j)) else 0)
          (fun j => if j < 8 then a.TB (gr t * 8 + j) else 0) k j * rte (fun j => if j < 8 then a.AL (gr t * 8 + j) else 0) j)
          = if k < r + 1 then a.dt (ba t) (ch t * 128 + k) (gr t * 8 + j) * a.rate (gr t * 8 + j) else 0 := fun k => by
        unfold stp rte
        simp only [if_pos hj]
        rw [Args.dt, Args.pre, Args.rate, zero_sub, zero_sub]
        by_cases hk : k ≤ r
        · rw [if_pos hk, if_pos (by omega), one_mul]
        · rw [if_neg hk, if_neg (by omega), zero_mul]
      rw [Finset.sum_congr rfl fun k _ => e k, ← Finset.sum_filter]
      refine Finset.sum_congr ?_ fun k _ => rfl
      ext k
      simp only [Finset.mem_filter, Finset.mem_range]
      omega
    · rw [if_neg hj]
      refine Finset.sum_eq_zero fun k _ => ?_
      unfold stp
      rw [if_neg hj, zero_mul, mul_zero]
theorem acsX_real : R2 (Points.acsX m c t) (fun r q => a.Ab (ba t) (gr t) (ch t * 128) r (q / 64)) := acsx_real (acsV_real h t)
theorem endX_real : R2 (Points.endX m c t) (fun _ q => a.Ab (ba t) (gr t) (ch t * 128) 127 (q / 64)) := endx_real (acsV_real h t)
theorem dtX_real : R2 (Points.dtX m c t) (fun r q => a.dt (ba t) (ch t * 128 + r) (gr t * 8 + q / 64)) :=
  (stpx_real (dtV_real h t)).congr fun r q _ hq => by rw [if_pos (by omega)]
theorem uB_real : R2 (k0_pay47 (Points.dtX m c t) (k0_pay40 (iblk m c 2 t))) (fun s q => a.Ub (ba t) (gr t) (ch t * 128 + s) q) :=
  ((R2.of3 (x2 h t) shapeCasts_S1x128x512_S128x512).mul (dtX_real h t)).trunc bitsLt_bf16_f32
theorem dyB_real : R2 (Points.dyB m c t) (fun r q => a.dYb (ba t) (gr t) (ch t * 128 + r) q) := (dyV_real h t).trunc bitsLt_bf16_f32
theorem dcbP_real : R2 (Points.dcbP m c t) (dcbk (a.Ab (ba t) (gr t) (ch t * 128)) (fun r q => a.dYb (ba t) (gr t) (ch t * 128 + r) q)
    (fun s q => a.Ub (ba t) (gr t) (ch t * 128 + s) q)) := dcb_real (acsV_real h t) (dyB_real h t) (uB_real h t)

end Ssd.Kern
end
-- ==== Proof.Points3.lean ====
module
public import proofs.«01_k».proof.Proof.Points2
public import proofs.«01_k».proof.Proof.Body3

/-! What a grid point leaves in the block of the values' gradient, in real numbers. -/

@[expose] public section
set_option maxRecDepth 16384

noncomputable section
namespace Ssd.Points
open Idealize.ShloMosaic Idealize.ShloMosaic.TcCoe Cert.KernelIdeal Cert.KernelIdeal.Gen
variable (m : (ℓ : Loc nD τ Cert.KernelIdeal.sig) → Buf (Elt Ideal) ℓ) (c : Dev nD) (t : Fin cfg0.N)
variable {A G Bk Ck DH T X : ℕ → ℕ → ℝ} {E K : ℕ → ℝ}

/-- The values' gradient at a point, from the state's gradient after the point's chunk. -/
theorem dxs_at (hA : R2 (acsV m c t) A) (hG : R2 (dyV m c t) G) (h3 : R3 (n := 128) (m := 128) (φ := .f32) (iblk m c 3 t) Bk)
    (h4 : R3 (n := 128) (m := 128) (φ := .f32) (iblk m c 4 t) Ck) (hT : R2 (dtX m c t) T) (hX : R2 (acsX m c t) X) (he : R2 (endX m c t) (fun _ q => E q))
    (h10 : R2 (n := 1) (m := 512) (φ := .f32) (iblk m c 10 t) (fun _ q => K q))
    (hs0 : t.val % 16 = 0 → ∀ n q : ℕ, DH n q = 0)
    (hs1 : t.val % 16 ≠ 0 → R2 (n := 128) (m := 512) (φ := .f32) (outsAt0 m c (t.val - 1) (Nat.lt_of_le_of_lt (Nat.sub_le _ _) t.isLt)).2.2.2.2.2.2.2.2.2 DH) :
    R3 (n := 128) (m := 512) (φ := .f32) (outsAt0 m c t.val t.isLt).1
      (fun s q => G s q * K q + ((∑ n ∈ Finset.range 128, Bk s n * DH n q) * Real.exp (E q - X s q) + dxk A G Bk Ck s q) * T s q) := by
  have hB : R2 (dyB m c t) G := hG.trunc bitsLt_bf16_f32
  have hz : t.val % 16 = 0 → R2 (k0_pay6 (F := Ideal)) DH := fun h1 r q => by
    rw [hs0 h1 r.val q.val]
    exact zero_f32
  by_cases h1 : t.val % 16 = 0
  · by_cases h0 : t.val % 32 = 0
    · rw [outsAt0_A m c t h0 h1]; dsimp only; frame_out
      exact dxs_real h3 (hz h1) hG hT hX he h10 (dxL_real hA hB (cb_real h3 h4) _ _)
    · rw [outsAt0_C m c t h0 h1]; dsimp only; frame_out
      exact dxs_real h3 (hz h1) hG hT hX he h10 (dxL_real hA hB (cb_real h3 h4) _ _)
  · rw [outsAt0_B m c t (by omega) h1]; dsimp only; frame_out
    refine dxs_real h3 ?_ hG hT hX he h10 (dxL_real hA hB (cb_real h3 h4) _ _)
    refine fun r q => (congrFun (Memref.IsWhole.read_unread _ _) _).trans (hs1 h1 r q)

end Ssd.Points
end
-- ==== Proof.Arr3.lean ====
module
public import proofs.«01_k».proof.Proof.Lanes
public import proofs.«01_k».proof.Proof.Points3

/-! The kernel's arrays of the gradients of the query rows, the key rows and the values hold what the reference's hold. -/

@[expose] public section
set_option maxRecDepth 16384

noncomputable section
namespace Ssd.Kern
open Idealize.ShloMosaic Idealize.ShloMosaic.ValueIdx Idealize.ShloMosaic.TcCoe Cert.KernelIdeal Cert.KernelIdeal.Gen Ssd.Blocks
open scoped BigOperators

variable {m : (ℓ : Loc nD τ Cert.KernelIdeal.sig) → Buf (Elt Ideal) ℓ} {c : Dev nD} {a : Args}
variable (h : Holds m c a) (t : Fin cfg0.N)
include h

omit h in
/-- At the first point of a group's batch row there is nothing after the chunk. -/
theorem dd_first (h1 : t.val % 16 = 0) (n q : ℕ) : a.DD (ba t) (gr t) (ch t * 128 + 128) n q = 0 := by
  rw [show ch t * 128 + 128 = 2048 by unfold ch; omega]
  exact a.DD_last _ _ n q
omit h in
theorem zero_state (h1 : t.val % 16 = 0) : R2 (k0_pay6 (F := Ideal)) (fun n q => a.DD (ba t) (gr t) (ch t * 128 + 128) n q) := fun r q => by
  refine Eq.trans zero_f32 ?_
  show (0 : EReal) = ((a.DD (ba t) (gr t) (ch t * 128 + 128) r.val q.val : ℝ) : EReal)
  rw [dd_first t h1, EReal.coe_zero]

/-- The state's gradient a point leaves. -/
theorem dh_at (n : ℕ) (hn : n < cfg0.N) : R2 (n := 128) (m := 512) (φ := .f32) (outsAt0 m c n hn).2.2.2.2.2.2.2.2.2
    (fun k q => a.DD (ba n) (gr n) (ch n * 128) k q) := by
  induction n with
  | zero =>
    rw [Points.dh_first m c ⟨0, hn⟩ rfl]
    exact (dh_real (x4 h _) (zero_state (a := a) ⟨0, hn⟩ rfl) (dyV_real h _) (acsX_real h _) (endX_real h _)).congr fun n q _ hq =>
      a.DD_block _ _ _ (ch_le ⟨0, hn⟩) n q hq
  | succ n ih =>
    by_cases h1 : (n + 1) % 16 = 0
    · rw [Points.dh_first m c ⟨n + 1, hn⟩ h1]
      exact (dh_real (x4 h _) (zero_state (a := a) ⟨n + 1, hn⟩ h1) (dyV_real h _) (acsX_real h _) (endX_real h _)).congr fun k q _ hq =>
        a.DD_block _ _ _ (ch_le ⟨n + 1, hn⟩) k q hq
    · rw [Points.dh_next m c ⟨n + 1, hn⟩ h1]
      have hs : R2 (n := 128) (m := 512) (φ := .f32) (outsAt0 m c n (by omega)).2.2.2.2.2.2.2.2.2 (fun k q => a.DD (ba (n + 1)) (gr (n + 1)) (ch (n + 1) * 128 + 128) k q) :=
        (ih (by omega)).congr fun k q _ _ => by
          rw [show ba n = ba (n + 1) by unfold ba; omega, show gr n = gr (n + 1) by unfold gr; omega, show ch n * 128 = ch (n + 1) * 128 + 128 by unfold ch; omega]
      exact (dh_real (x4 h _) hs (dyV_real h _) (acsX_real h _) (endX_real h _)).congr fun k q _ hq =>
        a.DD_block _ _ _ (ch_le ⟨n + 1, hn⟩) k q hq

/-- The state's gradient a point finds. -/
theorem dh_before (h1 : t.val % 16 ≠ 0) : R2 (n := 128) (m := 512) (φ := .f32) (outsAt0 m c (t.val - 1) (Nat.lt_of_le_of_lt (Nat.sub_le _ _) t.isLt)).2.2.2.2.2.2.2.2.2
    (fun k q => a.DD (ba t) (gr t) (ch t * 128 + 128) k q) :=
  (dh_at h _ _).congr fun k q _ _ => by
    rw [show ba (t.val - 1) = ba t.val by unfold ba; omega, show gr (t.val - 1) = gr t.val by unfold gr; omega,
      show ch (t.val - 1) * 128 = ch t.val * 128 + 128 by unfold ch; omega]

/-- The gradient of the query rows at a point. -/
theorem dcm_at : R3 (n := 128) (m := 128) (φ := .f32) (outsAt0 m c t.val t.isLt).2.2.1 (fun r n => a.dC (ba t) (ch t * 128 + r) (gr t) n) := by
  rw [Points.dcm_eq]
  exact (dcm_real (x3 h t) (x6 h t) (dyV_real h t) (acsX_real h t) (dcbP_real h t)).congr fun r n hr _ =>
    a.dC_block _ _ _ (ch_le t) r n hr

/-- The gradient of the key rows at a point. -/
theorem dbm_at : R3 (n := 128) (m := 128) (φ := .f32) (outsAt0 m c t.val t.isLt).2.1 (fun s n => a.dB (ba t) (ch t * 128 + s) (gr t) n) := by
  by_cases h1 : t.val % 16 = 0
  · rw [Points.dbm_first m c t h1]
    exact (dbm_real (x2 h t) (x4 h t) (zero_state (a := a) t h1) (dtX_real h t) (acsX_real h t) (endX_real h t) (dcbP_real h t)).congr fun s n hs _ =>
      a.dB_block _ _ _ (ch_le t) s n hs
  · rw [Points.dbm_next m c t h1]
    exact (dbm_real (x2 h t) (x4 h t) (dh_before h t h1) (dtX_real h t) (acsX_real h t) (endX_real h t) (dcbP_real h t)).congr fun s n hs _ =>
      a.dB_block _ _ _ (ch_le t) s n hs

/-- The gradient of the values at a point. -/
theorem dxs_at : R3 (n := 128) (m := 512) (φ := .f32) (outsAt0 m c t.val t.isLt).1
    (fun s q => a.dX (ba t) (ch t * 128 + s) (gr t) (q / 64) (q % 64)) :=
  (Points.dxs_at m c t (acsV_real h t) (dyV_real h t) (x3 h t) (x4 h t) (dtX_real h t) (acsX_real h t) (endX_real h t) (x10 h t)
    (dd_first t) (dh_before h t)).congr fun s q hs hq => by
      rw [Args.dX, ← a.dXdt_block _ _ _ (ch_le t) s q hs hq, Args.dY5, show q / 64 * 64 + q % 64 = q by omega]

omit h in
theorem i12 : ∀ t : Fin cfg0.N, win0_12.index t = ![ba t.val, ch t.val, gr t.val] := (by decide +kernel : ∀ t : Fin grid0.N, _)
omit h in
theorem i13 : ∀ t : Fin cfg0.N, win0_13.index t = ![ba t.val, ch t.val, gr t.val] := (by decide +kernel : ∀ t : Fin grid0.N, _)
omit h in
theorem i14 : ∀ t : Fin cfg0.N, win0_14.index t = ![ba t.val, ch t.val, gr t.val] := (by decide +kernel : ∀ t : Fin grid0.N, _)

def dxArr (a : Args) : FVec Ideal S2x2048x2048 .f32 := fun i => ((a.dX (i 0).val (i 1).val ((i 2).val / 512) ((i 2).val / 64 % 8) ((i 2).val % 64) : ℝ) : EReal)
def dbArr (a : Args) : FVec Ideal S2x2048x512 .f32 := fun i => ((a.dB (i 0).val (i 1).val ((i 2).val / 128) ((i 2).val % 128) : ℝ) : EReal)
def dcArr (a : Args) : FVec Ideal S2x2048x512 .f32 := fun i => ((a.dC (i 0).val (i 1).val ((i 2).val / 128) ((i 2).val % 128) : ℝ) : EReal)

/-- The kernel's array of the values' gradient. -/
theorem dxs_arr (i : S2x2048x2048.Idx) : (dats m 0 c).arrAt 12 cfg0.N i = dxArr a i := by
  refine congrFun ((dats m 0 c).arrAt_eq_of_covers 12 (dxArr a) (by decide +kernel) fun t hf y => ?_) i
  blk_simp [i12]
  rw [after0_12]
  have e := (dxs_at h t).at y
  have b2 : (y 2).val < 512 := (y 2).isLt
  have b0 : (y 0).val < 1 := (y 0).isLt
  have e0 : ((((cfg0.win 12).blk t).view.emb y) 0).val = ba t.val := by blk_simp [i12]
  have e1 : ((((cfg0.win 12).blk t).view.emb y) 1).val = ch t.val * 128 + (y 1).val := by blk_simp [i12]
  have e2 : ((((cfg0.win 12).blk t).view.emb y) 2).val = gr t.val * 512 + (y 2).val := by blk_simp [i12]
  refine e.trans ?_
  rw [dxArr]
  refine congrArg _ ?_
  rw [e0, e1, e2, show (gr t.val * 512 + (y 2).val) / 512 = gr t.val by omega, show (gr t.val * 512 + (y 2).val) / 64 % 8 = (y 2).val / 64 by omega,
    show (gr t.val * 512 + (y 2).val) % 64 = (y 2).val % 64 by omega]

/-- The kernel's array of the key rows' gradient. -/
theorem dbm_arr (i : S2x2048x512.Idx) : (dats m 0 c).arrAt 13 cfg0.N i = dbArr a i := by
  refine congrFun ((dats m 0 c).arrAt_eq_of_covers 13 (dbArr a) (by decide +kernel) fun t hf y => ?_) i
  blk_simp [i13]
  rw [after0_13]
  have e := (dbm_at h t).at y
  have b2 : (y 2).val < 128 := (y 2).isLt
  have b0 : (y 0).val < 1 := (y 0).isLt
  have e0 : ((((cfg0.win 13).blk t).view.emb y) 0).val = ba t.val := by blk_simp [i13]
  have e1 : ((((cfg0.win 13).blk t).view.emb y) 1).val = ch t.val * 128 + (y 1).val := by blk_simp [i13]
  have e2 : ((((cfg0.win 13).blk t).view.emb y) 2).val = gr t.val * 128 + (y 2).val := by blk_simp [i13]
  refine e.trans ?_
  rw [dbArr]
  refine congrArg _ ?_
  rw [e0, e1, e2, show (gr t.val * 128 + (y 2).val) / 128 = gr t.val by omega, show (gr t.val * 128 + (y 2).val) % 128 = (y 2).val by omega]

/-- The kernel's array of the query rows' gradient. -/
theorem dcm_arr (i : S2x2048x512.Idx) : (dats m 0 c).arrAt 14 cfg0.N i = dcArr a i := by
  refine congrFun ((dats m 0 c).arrAt_eq_of_covers 14 (dcArr a) (by decide +kernel) fun t hf y => ?_) i
  blk_simp [i14]
  rw [after0_14]
  have e := (dcm_at h t).at y
  have b2 : (y 2).val < 128 := (y 2).isLt
  have b0 : (y 0).val < 1 := (y 0).isLt
  have e0 : ((((cfg0.win 14).blk t).view.emb y) 0).val = ba t.val := by blk_simp [i14]
  have e1 : ((((cfg0.win 14).blk t).view.emb y) 1).val = ch t.val * 128 + (y 1).val := by blk_simp [i14]
  have e2 : ((((cfg0.win 14).blk t).view.emb y) 2).val = gr t.val * 128 + (y 2).val := by blk_simp [i14]
  refine e.trans ?_
  rw [dcArr]
  refine congrArg _ ?_
  rw [e0, e1, e2, show (gr t.val * 128 + (y 2).val) / 128 = gr t.val by omega, show (gr t.val * 128 + (y 2).val) % 128 = (y 2).val by omega]

end Ssd.Kern
end
-- ==== Proof.Body4.lean ====
module
public import proofs.«01_k».proof.Proof.Body3

/-! The gradients of the decays and of the steps in the body, in real numbers. -/

@[expose] public section
set_option maxRecDepth 16384

noncomputable section
namespace Ssd
open Idealize.ShloMosaic Idealize.ShloMosaic.ValueIdx Cert.KernelIdeal Cert.KernelIdeal.Gen
open scoped BigOperators

/-- What two rows of a block give in one head. -/
def nk (A G U Bk Ck : ℕ → ℕ → ℝ) (h r s : ℕ) : ℝ := dmk G U h r s * dcy A h r s * cbk Bk Ck r s
/-- The gradient of a block's running sums from inside the block: row sums less column sums. -/
def dack (A G U Bk Ck : ℕ → ℕ → ℝ) (r j : ℕ) : ℝ :=
  if j < 8 then ∑ s ∈ Finset.range 128, nk A G U Bk Ck j r s - ∑ s ∈ Finset.range 128, nk A G U Bk Ck j s r else 0
/-- What the times after the block give to a row. -/
def elk (Bk DH U X : ℕ → ℕ → ℝ) (E : ℕ → ℝ) (r q : ℕ) : ℝ := (∑ n ∈ Finset.range 128, Bk r n * DH n q) * U r q * Real.exp (E q - X r q)
/-- The gradient of a block's running sums from outside it, by column. -/
def daxk (G Bk Ck H DH U X : ℕ → ℕ → ℝ) (E : ℕ → ℝ) (r q : ℕ) : ℝ :=
  G r q * Real.exp (X r q) * (∑ n ∈ Finset.range 128, Ck r n * H n q) - elk Bk DH U X E r q
    + (if r = 127 then ∑ s ∈ Finset.range 128, elk Bk DH U X E s q + (∑ n ∈ Finset.range 128, DH n q * H n q) * Real.exp (E q) else 0)
/-- The sum of those from a row on, by head. -/
def rck (D W : ℕ → ℕ → ℝ) (r j : ℕ) : ℝ :=
  ∑ i ∈ Finset.range 128, (if r ≤ i then (1 : ℝ) else 0) * (D i j + ∑ q ∈ Finset.range 512, W i q * (if q / 64 = j then 1 else 0))

variable {A G U Bk Ck H DH X T : ℕ → ℕ → ℝ} {v55 : FVec Ideal S128x128 .f32} {v203 v218 : FVec Ideal S128x512 .bf16} {v283 acc N : FVec Ideal S128x128 .f32}
  {f n : ℕ → ℕ → ℝ}

theorem m_col (o : ℕ) (ho : o < 128) : M2 (cmpi .eq colNo (broadcast S128x128 (BitVec.ofNat 32 o))) (fun _ j => j = o) := fun r c => by
  show IntOp.cmpi .eq (BitVec.ofNat 32 (0 * 128 + c.val)) (BitVec.ofNat 32 o) = 1#1 ↔ c.val = o
  rw [ofNat_eq (by omega) (by omega)]
  omega
theorem m_row (o : ℕ) (ho : o < 128) : M2 (cmpi .eq rowNo (broadcast S128x128 (BitVec.ofNat 32 o))) (fun r _ => r = o) := fun r c => by
  show IntOp.cmpi .eq (BitVec.ofNat 32 (0 * 128 + r.val)) (BitVec.ofNat 32 o) = 1#1 ↔ r.val = o
  rw [ofNat_eq (by omega) (by omega)]
  omega
theorem m_last : M2 (cmpi .eq rowNoX (broadcast S128x512 127#32)) (fun r _ => r = 127) := fun r c => by
  show IntOp.cmpi .eq (BitVec.ofNat 32 (0 * 128 + r.val)) (BitVec.ofNat 32 127) = 1#1 ↔ r.val = 127
  rw [ofNat_eq (by omega) (by omega)]
  omega
theorem m_rev : M2 (cmpi .sle rowNo colNo) (fun r s => r ≤ s) := fun r c => by
  show IntOp.cmpi .sle (BitVec.ofNat 32 (0 * 128 + r.val)) (BitVec.ofNat 32 (0 * 128 + c.val)) = 1#1 ↔ r.val ≤ c.val
  revert r c
  decide +kernel

/-- One head's row sums go to its lane. -/
theorem lane_line (o : ℕ) (ho : o < 128) (hN : R2 N n) (w1 w2 w3 w4 w5 w6) :
    R2 (select (cmpi .eq colNo (broadcast S128x128 (BitVec.ofNat 32 o))) (broadcastTo S128x128 (shapeCast S128x1 (shapeCast S128x1
      (multiReduction .add [1] S128 N 0x00000000#32 w1 w2 w3) w4) w5) w6) (broadcast S128x128 (Scalar.ofBits .f32 0x00000000#32)) : FVec Ideal S128x128 .f32)
      (fun r j => if j = o then ∑ s ∈ Finset.range 128, n r s else 0) :=
  R2.select (m_col o ho) ((R2.self ((hN.sumCols 0x00000000#32 w1 w2 w3).col w4) w5).bcol w6) (R2.broadcast zero_f32)
/-- One head's column sums go to its row. -/
theorem row_line (o : ℕ) (ho : o < 128) (hN : R2 N n) (w1 w2 w3 w4 w5 w6) :
    R2 (select (cmpi .eq rowNo (broadcast S128x128 (BitVec.ofNat 32 o))) (broadcastTo S128x128 (shapeCast S1x128 (shapeCast S1x128
      (multiReduction .add [0] S128 N 0x00000000#32 w1 w2 w3) w4) w5) w6) (broadcast S128x128 (Scalar.ofBits .f32 0x00000000#32)) : FVec Ideal S128x128 .f32)
      (fun r j => if r = o then ∑ s ∈ Finset.range 128, n s j else 0) :=
  R2.select (m_row o ho) ((R2.self ((hN.sumRows 0x00000000#32 w1 w2 w3).row w4) w5).brow w6) (R2.broadcast zero_f32)

/-- The lanes of the row sums. -/
abbrev lanV (v55 v56 : FVec Ideal S128x128 .f32) (v142 : IVec S128x128 1) (v203 v218 : FVec Ideal S128x512 .bf16) (v283 : FVec Ideal S128x128 .f32) : FVec Ideal S128x128 .f32 :=
  k0_pay119 (k0_pay110 colNo (k0_pay103 colNo v283 (k0_pay96 colNo v283 (k0_pay87 colNo v283 (k0_pay78 colNo v203 v218 v283
      (k0_pay71 colNo v142 v203 v218 v283 k0_pay62 (k0_pay64 v55 v56) k0_pay65) (k0_pay73 v55 v56 v142)) (k0_pay80 v55 v56 v142) (k0_pay82 v203 v218))
      (k0_pay89 v55 v56 v142) (k0_pay90 v203 v218)) (k0_pay98 v55 v56 v142) (k0_pay99 v203 v218)) (k0_pay109 v55 v56 v142 v203 v218 v283) 5#32)
    (k0_pay117 colNo) (k0_pay118 v55 v56 v142 v203 v218 v283)
/-- The rows of the column sums. -/
abbrev rowV (v55 v56 : FVec Ideal S128x128 .f32) (v142 : IVec S128x128 1) (v203 v218 : FVec Ideal S128x512 .bf16) (v283 : FVec Ideal S128x128 .f32) : FVec Ideal S128x128 .f32 :=
  k0_pay120 rowNo (k0_pay111 rowNo (k0_pay104 rowNo v283 (k0_pay97 rowNo v283 (k0_pay88 rowNo v283 (k0_pay79 rowNo v203 v218 v283
      (k0_pay72 rowNo v142 v203 v218 v283 k0_pay63 (k0_pay64 v55 v56) k0_pay65) (k0_pay73 v55 v56 v142)) (k0_pay80 v55 v56 v142) (k0_pay82 v203 v218))
      (k0_pay89 v55 v56 v142) (k0_pay90 v203 v218)) (k0_pay98 v55 v56 v142) (k0_pay99 v203 v218)) (k0_pay109 v55 v56 v142 v203 v218 v283))
    (k0_pay116 v55 v56 v142 v203 v218 v283)
/-- Their difference. -/
abbrev dacV (v55 v56 : FVec Ideal S128x128 .f32) (v142 : IVec S128x128 1) (v203 v218 : FVec Ideal S128x512 .bf16) (v283 : FVec Ideal S128x128 .f32) : FVec Ideal S128x128 .f32 :=
  k0_pay132 rowNo (lanV v55 v56 v142 v203 v218 v283) (rowV v55 v56 v142 v203 v218 v283) (k0_pay125 v55 v56 v142 v203 v218 v283)
    (k0_pay126 colNo v55 v56 v142 v203 v218 v283)

theorem nk_real (o : ℕ) {o1 : ℕ} (e1 : o1 = o * 64) (hG : R2 v203 G) (hU : R2 v218 U) (hc : R2 v283 (cbk Bk Ck)) {d : FVec Ideal S128x128 .f32} (hd : R2 d (dcy A o)) (w1 w2) :
    R2 (mulf (mulf (matmul dot_S128x64_S128x64_S128x128_1_1_0_0_n_n none (extractStridedSlice S128x64 ![0, o1] v203 w1) (extractStridedSlice S128x64 ![0, o1] v218 w2)
      (constant S128x128 .f32 0x00000000#32)) d) v283 : FVec Ideal S128x128 .f32) (nk A G U Bk Ck o) :=
  ((dmk_real o e1 hG hU w1 w2).mul hd).mul hc

/-- The gradient of the running sums from inside the block. -/
theorem dac_real (hA : R2 v55 A) (hG : R2 v203 G) (hU : R2 v218 U) (hc : R2 v283 (cbk Bk Ck)) :
    R2 (dacV v55 (transpose S128x128 [1, 0] v55 transposes_S128x128_p1_0_S128x128) (k0_pay24 colNo rowNo) v203 v218 v283) (dack A G U Bk Ck) :=
  have n0 := nk_real 0 (o1 := 0) rfl hG hU hc (dcy_real 0 (o1 := 0) (o2 := 0) rfl rfl hA slices_S128x128_o0_0_S128x1 broadcasts_S128x1_S128x128 slices_S128x128_o0_0_S1x128 broadcasts_S1x128_S128x128) slices_S128x512_o0_0_S128x64 slices_S128x512_o0_0_S128x64
  have n1 := nk_real 1 (o1 := 64) rfl hG hU hc (dcy_real 1 (o1 := 1) (o2 := 1) rfl rfl hA slices_S128x128_o0_1_S128x1 broadcasts_S128x1_S128x128 slices_S128x128_o1_0_S1x128 broadcasts_S1x128_S128x128) slices_S128x512_o0_64_S128x64 slices_S128x512_o0_64_S128x64
  have n2 := nk_real 2 (o1 := 128) rfl hG hU hc (dcy_real 2 (o1 := 2) (o2 := 2) rfl rfl hA slices_S128x128_o0_2_S128x1 broadcasts_S128x1_S128x128 slices_S128x128_o2_0_S1x128 broadcasts_S1x128_S128x128) slices_S128x512_o0_128_S128x64 slices_S128x512_o0_128_S128x64
  have n3 := nk_real 3 (o1 := 192) rfl hG hU hc (dcy_real 3 (o1 := 3) (o2 := 3) rfl rfl hA slices_S128x128_o0_3_S128x1 broadcasts_S128x1_S128x128 slices_S128x128_o3_0_S1x128 broadcasts_S1x128_S128x128) slices_S128x512_o0_192_S128x64 slices_S128x512_o0_192_S128x64
  have n4 := nk_real 4 (o1 := 256) rfl hG hU hc (dcy_real 4 (o1 := 4) (o2 := 4) rfl rfl hA slices_S128x128_o0_4_S128x1 broadcasts_S128x1_S128x128 slices_S128x128_o4_0_S1x128 broadcasts_S1x128_S128x128) slices_S128x512_o0_256_S128x64 slices_S128x512_o0_256_S128x64
  have n5 := nk_real 5 (o1 := 320) rfl hG hU hc (dcy_real 5 (o1 := 5) (o2 := 5) rfl rfl hA slices_S128x128_o0_5_S128x1 broadcasts_S128x1_S128x128 slices_S128x128_o5_0_S1x128 broadcasts_S1x128_S128x128) slices_S128x512_o0_320_S128x64 slices_S128x512_o0_320_S128x64
  have n6 := nk_real 6 (o1 := 384) rfl hG hU hc (dcy_real 6 (o1 := 6) (o2 := 6) rfl rfl hA slices_S128x128_o0_6_S128x1 broadcasts_S128x1_S128x128 slices_S128x128_o6_0_S1x128 broadcasts_S1x128_S128x128) slices_S128x512_o0_384_S128x64 slices_S128x512_o0_384_S128x64
  have n7 := nk_real 7 (o1 := 448) rfl hG hU hc (dcy_real 7 (o1 := 7) (o2 := 7) rfl rfl hA slices_S128x128_o0_7_S128x1 broadcasts_S128x1_S128x128 slices_S128x128_o7_0_S1x128 broadcasts_S1x128_S128x128) slices_S128x512_o0_448_S128x64 slices_S128x512_o0_448_S128x64
  ((((((((((R2.broadcast zero_f32).add (lane_line 0 (by omega) n0 _ _ _ _ _ _)).add (lane_line 1 (by omega) n1 _ _ _ _ _ _)).add (lane_line 2 (by omega) n2 _ _ _ _ _ _)).add
    (lane_line 3 (by omega) n3 _ _ _ _ _ _)).add (lane_line 4 (by omega) n4 _ _ _ _ _ _)).add (lane_line 5 (by omega) n5 _ _ _ _ _ _)).add (lane_line 6 (by omega) n6 _ _ _ _ _ _)).add
    (lane_line 7 (by omega) n7 _ _ _ _ _ _)).sub
  (((((((((R2.broadcast zero_f32).add (row_line 0 (by omega) n0 _ _ _ _ _ _)).add (row_line 1 (by omega) n1 _ _ _ _ _ _)).add (row_line 2 (by omega) n2 _ _ _ _ _ _)).add
    (row_line 3 (by omega) n3 _ _ _ _ _ _)).add (row_line 4 (by omega) n4 _ _ _ _ _ _)).add (row_line 5 (by omega) n5 _ _ _ _ _ _)).add (row_line 6 (by omega) n6 _ _ _ _ _ _)).add
    (row_line 7 (by omega) n7 _ _ _ _ _ _) |>.transp transposes_S128x128_p1_0_S128x128)).congr fun r j _ _ => by
      have e : ∀ F : ℕ → ℝ, 0 + (if j = 0 then F 0 else 0) + (if j = 1 then F 1 else 0) + (if j = 2 then F 2 else 0) + (if j = 3 then F 3 else 0) + (if j = 4 then F 4 else 0)
          + (if j = 5 then F 5 else 0) + (if j = 6 then F 6 else 0) + (if j = 7 then F 7 else 0) = if j < 8 then F j else 0 := fun F => by
        by_cases hj : j < 8
        · interval_cases j <;> simp
        · rw [if_neg hj, if_neg (by omega), if_neg (by omega), if_neg (by omega), if_neg (by omega), if_neg (by omega), if_neg (by omega), if_neg (by omega), if_neg (by omega)]
          simp
      rw [e fun h => ∑ s ∈ Finset.range 128, nk A G U Bk Ck h r s, e fun h => ∑ s ∈ Finset.range 128, nk A G U Bk Ck h s r, dack]
      split <;> simp

variable {x2 : FVec Ideal S1x128x512 .f32} {x3 x4 : FVec Ideal S1x128x128 .f32} {x6 : FVec Ideal S1x1x1x128x512 .f32} {sc v202 v140 v128 : FVec Ideal S128x512 .f32}
  {v141 : FVec Ideal S1x512 .f32} {E : ℕ → ℝ}

/-- The gradient of the running sums from outside the block. -/
theorem dax_real (h2 : R3 x2 U) (h3 : R3 x3 Bk) (h4 : R3 x4 Ck) (h6 : R5 x6 H) (hs : R2 sc DH) (hdt : R2 v128 T) (hdy : R2 v202 G) (hax : R2 v140 X) (he : R2 v141 (fun _ q => E q)) :
    R2 (k0_pay59 v141 (k0_pay41 x3) (k0_pay42 x4) (k0_pay43 x6) (k0_pay44 x6) sc (k0_pay45 sc) (k0_pay46 v128 (k0_pay40 x2)) (k0_pay48 v140 v141) (k0_pay51 v140 v202))
      (daxk G Bk Ck H DH (fun r q => U r q * T r q) X E) :=
  have hH := R2.of5 h6 shapeCasts_S1x1x1x128x512_S128x512
  have hel : R2 _ (elk Bk DH (fun r q => U r q * T r q) X E) :=
    ((R2.dot10 (w := dot_S128x128_S128x512_S128x512_1_0_0_1_n_n.wf) ((R2.of3 h3 shapeCasts_S1x128x128_S128x128).trunc bitsLt_bf16_f32) (hs.trunc bitsLt_bf16_f32) none).mul
      ((R2.of3 h2 shapeCasts_S1x128x512_S128x512).mul hdt)).mul ((he.brow broadcasts_S1x512_S128x512).sub hax).exp
  (((hdy.mul hax.exp).mul (R2.dot10 (w := dot_S128x128_S128x512_S128x512_1_0_0_1_n_n.wf) ((R2.of3 h4 shapeCasts_S1x128x128_S128x128).trunc bitsLt_bf16_f32) (hH.trunc bitsLt_bf16_f32) none)).sub hel).add
    (R2.select m_last ((R2.self (((hel.sumRows 0x00000000#32 reduces_S128x512_S512 (.inl rfl) rfl).row shapeCasts_S512_S1x512).add
      ((((hs.mul hH).sumRows 0x00000000#32 reduces_S128x512_S512 (.inl rfl) rfl).row shapeCasts_S512_S1x512).mul he.exp)) shapeCasts_S1x512_S1x512).brow broadcasts_S1x512_S128x512)
      (R2.broadcast zero_f32))

variable {v639 v29 v17 v684 : FVec Ideal S128x128 .f32} {v282 : FVec Ideal S128x512 .f32} {D W S V : ℕ → ℕ → ℝ} {L a : ℕ → ℝ} {v37 : FVec Ideal S1x128 .f32}

/-- The sums from a row on. -/
theorem rc_real (hD : R2 v639 D) (hW : R2 v282 W) : R2 (k0_pay135 colNo rowNo k0_pay17 v639 (k0_pay133 v282) (k0_pay134 v282)) (rck D W) :=
  have hs := hD.add (R2.dot3 (w := dot_S128x512_S512x128_S128x128_1_0_0_1_n_n.wf) (hW.trunc bitsLt_bf16_f32) ((hW.sub hW).trunc bitsLt_bf16_f32)
    (((hW.sub hW).sub (hW.sub hW)).trunc bitsLt_bf16_f32) collect_real none none none)
  R2.dot3' (w := dot_S128x128_S128x128_S128x128_1_0_0_1_n_n.wf) (hs.trunc bitsLt_bf16_f32) ((hs.sub hs).trunc bitsLt_bf16_f32) (((hs.sub hs).sub (hs.sub hs)).trunc bitsLt_bf16_f32)
    (R2.ofMask (φ := .f32) m_rev natLt_1_32) none none none

/-- The gradient of the steps. -/
theorem ddt_real (h2 : R3 x2 U) (h3 : R3 x3 Bk) (hs : R2 sc DH) (hax : R2 v140 X) (he : R2 v141 (fun _ q => E q)) {v626 : FVec Ideal S1x128x512 .f32} {K : ℕ → ℕ → ℝ} (hK : R3 v626 K)
    (h37 : R2 v37 (fun _ j => a j)) (hD : R2 v639 D) (hW : R2 v282 W) :
    R2 (k0_pay136 colNo rowNo v37 k0_pay17 (k0_pay40 x2) (k0_pay130 (k0_pay56 (k0_pay41 x3) (k0_pay45 sc) (k0_pay48 v140 v141)) v626) v639 (k0_pay133 v282) (k0_pay134 v282))
      (fun r j => ∑ q ∈ Finset.range 512, (((∑ n ∈ Finset.range 128, Bk r n * DH n q) * Real.exp (E q - X r q) + K r q) * U r q) * (if q / 64 = j then 1 else 0) + a j * rck D W r j) :=
  have hp := (((R2.dot10 (w := dot_S128x128_S128x512_S128x512_1_0_0_1_n_n.wf) ((R2.of3 h3 shapeCasts_S1x128x128_S128x128).trunc bitsLt_bf16_f32) (hs.trunc bitsLt_bf16_f32) none).mul
      ((he.brow broadcasts_S1x512_S128x512).sub hax).exp).add (R2.of3 hK shapeCasts_S1x128x512_S128x512)).mul (R2.of3 h2 shapeCasts_S1x128x512_S128x512)
  (R2.dot3 (w := dot_S128x512_S512x128_S128x128_1_0_0_1_n_n.wf) (hp.trunc bitsLt_bf16_f32) ((hp.sub hp).trunc bitsLt_bf16_f32)
    (((hp.sub hp).sub (hp.sub hp)).trunc bitsLt_bf16_f32) collect_real none none none).add ((h37.brow broadcasts_S1x128_S128x128).mul (rc_real hD hW))

/-- The running sum of the decay rate's gradient. -/
theorem dal_real {x18 : FVec Ideal S1x1x128 .f32} (h18 : R3 x18 (fun _ j => L j)) (h29 : R2 v29 S) (h37 : R2 v37 (fun _ j => a j)) (hD : R2 v639 D) (hW : R2 v282 W) :
    R3 (k0_pay139 v37 (k0_pay137 x18) (k0_pay138 colNo rowNo v29 k0_pay17 v639 (k0_pay133 v282) (k0_pay134 v282)))
      (fun _ j => L j + (∑ r ∈ Finset.range 128, S r j * rck D W r j) * a j) :=
  R2.to3 ((R2.of3 h18 shapeCasts_S1x1x128_S1x128).add ((((h29.mul (rc_real hD hW)).sumRows 0x00000000#32 reduces_S128x128_S128_2 (.inl rfl) rfl).row shapeCasts_S128_S1x128).mul h37)) _

/-- The gradient before the softplus, in the lanes of the heads. -/
def dprk (V S : ℕ → ℕ → ℝ) (r j : ℕ) : ℝ := if j < 8 then V r j * (1 / (1 + Real.exp (0 - S r j))) else 0
theorem dpr_real (hV : R2 v684 V) (h17 : R2 v17 S) : R2 (k0_pay140 k0_pay7 v17 v684) (dprk V S) :=
  R2.select m_lane (hV.mul ((R2.broadcast one_f32).div ((R2.broadcast one_f32).add ((R2.broadcast zero_f32).sub h17).exp) fun _ _ _ _ => by positivity)) (R2.broadcast zero_f32)
theorem dpr4_real (hV : R2 v684 V) (h17 : R2 v17 S) : R4 (k0_pay141 k0_pay7 v17 v684) (dprk V S) := R2.to4 (dpr_real hV h17) _
/-- The running sum of the step bias's gradient. -/
theorem dtb_real {x19 : FVec Ideal S1x1x128 .f32} (h19 : R3 x19 (fun _ j => L j)) (hV : R2 v684 V) (h17 : R2 v17 S) :
    R3 (k0_pay1 (k0_pay142 k0_pay7 v17 v684 x19)) (fun _ j => L j + ∑ r ∈ Finset.range 128, dprk V S r j) :=
  R2.to3 ((R2.of3 h19 shapeCasts_S1x1x128_S1x128).add (((dpr_real hV h17).sumRows 0x00000000#32 reduces_S128x128_S128_2 (.inl rfl) rfl).row shapeCasts_S128_S1x128)) _

end Ssd
end
-- ==== Proof.Points4.lean ====
module
public import proofs.«01_k».proof.Proof.Points3
public import proofs.«01_k».proof.Proof.Body4

/-! What a grid point leaves in the blocks of the gradients of the steps, of the decay rates and of the step bias, in real
    numbers. -/

@[expose] public section
set_option maxRecDepth 16384

noncomputable section
namespace Ssd.Points
open Idealize.ShloMosaic Idealize.ShloMosaic.TcCoe Cert.KernelIdeal Cert.KernelIdeal.Gen
variable (m : (ℓ : Loc nD τ Cert.KernelIdeal.sig) → Buf (Elt Ideal) ℓ) (c : Dev nD) (t : Fin cfg0.N)
variable {A G U Bk Ck H DH T X Pk S : ℕ → ℕ → ℝ} {E TB AL L : ℕ → ℝ}

/-- The sums of the running sums' gradients from a row on, of a point's blocks. -/
def rcP (A G U Bk Ck H DH T X : ℕ → ℕ → ℝ) (E : ℕ → ℝ) : ℕ → ℕ → ℝ :=
  rck (dack A G (fun r q => U r q * T r q) Bk Ck) (daxk G Bk Ck H DH (fun r q => U r q * T r q) X E)
/-- The gradient of the steps, of a point's blocks. -/
def dtP (A G U Bk Ck H DH T X : ℕ → ℕ → ℝ) (E AL : ℕ → ℝ) (r j : ℕ) : ℝ :=
  ∑ q ∈ Finset.range 512, (((∑ n ∈ Finset.range 128, Bk r n * DH n q) * Real.exp (E q - X r q) + dxk A G Bk Ck r q) * U r q) * (if q / 64 = j then 1 else 0)
    + rte AL j * rcP A G U Bk Ck H DH T X E r j

section
variable (hA : R2 (acsV m c t) A) (hG : R2 (dyV m c t) G) (h2 : R3 (n := 128) (m := 512) (φ := .f32) (iblk m c 2 t) U)
    (h3 : R3 (n := 128) (m := 128) (φ := .f32) (iblk m c 3 t) Bk) (h4 : R3 (n := 128) (m := 128) (φ := .f32) (iblk m c 4 t) Ck)
    (h6 : R5 (n := 128) (m := 512) (φ := .f32) (iblk m c 6 t) H)
    (hT : R2 (dtX m c t) T) (hX : R2 (acsX m c t) X) (he : R2 (endX m c t) (fun _ q => E q))
include hA hG h2 h3 h4 h6 hT hX he

theorem zero_scratch (hs0 : t.val % 16 = 0 → ∀ n q : ℕ, DH n q = 0) (h1 : t.val % 16 = 0) : R2 (k0_pay6 (F := Ideal)) DH := fun r q => by
  rw [hs0 h1 r.val q.val]
  exact zero_f32
theorem dac_at : R2 (dacV (acsV m c t) (acsT m c t) (k0_pay24 colNo rowNo) (dyB m c t) (k0_pay47 (dtX m c t) (k0_pay40 (iblk m c 2 t)))
    (k0_pay60 (k0_pay41 (iblk m c 3 t)) (k0_pay42 (iblk m c 4 t)))) (dack A G (fun r q => U r q * T r q) Bk Ck) :=
  dac_real hA (hG.trunc bitsLt_bf16_f32) (((R2.of3 h2 shapeCasts_S1x128x512_S128x512).mul hT).trunc bitsLt_bf16_f32) (cb_real h3 h4)

variable (h9 : R3 (n := 1) (m := 128) (φ := .f32) (iblk m c 9 t) (fun _ j => AL j))
    (hs0 : t.val % 16 = 0 → ∀ n q : ℕ, DH n q = 0)
    (hs1 : t.val % 16 ≠ 0 → R2 (n := 128) (m := 512) (φ := .f32) (outsAt0 m c (t.val - 1) (Nat.lt_of_le_of_lt (Nat.sub_le _ _) t.isLt)).2.2.2.2.2.2.2.2.2 DH)
include h9 hs0 hs1

/-- The gradient of the steps before their softplus. -/
theorem ddtr_at (hp : R2 (k0_pay8 (iblk m c 7 t) (iblk m c 8 t)) S) :
    R4 (n := 128) (m := 128) (φ := .f32) (outsAt0 m c t.val t.isLt).2.2.2.2.1 (dprk (dtP A G U Bk Ck H DH T X E AL) S) := by
  have hB : R2 (dyB m c t) G := hG.trunc bitsLt_bf16_f32
  have hD := dac_at m c t hA hG h2 h3 h4 h6 hT hX he
  have hz := zero_scratch m c t hA hG h2 h3 h4 h6 hT hX he hs0
  by_cases h1 : t.val % 16 = 0
  · by_cases h0 : t.val % 32 = 0
    · rw [outsAt0_A m c t h0 h1]; dsimp only; frame_out
      exact dpr4_real (ddt_real h2 h3 (hz h1) hX he (dxL_real hA hB (cb_real h3 h4) _ _) (rte_real h9) hD (dax_real h2 h3 h4 h6 (hz h1) hT hG hX he)) hp
    · rw [outsAt0_C m c t h0 h1]; dsimp only; frame_out
      exact dpr4_real (ddt_real h2 h3 (hz h1) hX he (dxL_real hA hB (cb_real h3 h4) _ _) (rte_real h9) hD (dax_real h2 h3 h4 h6 (hz h1) hT hG hX he)) hp
  · rw [outsAt0_B m c t (by omega) h1]; dsimp only; frame_out
    refine dpr4_real (ddt_real h2 h3 ?_ hX he (dxL_real hA hB (cb_real h3 h4) _ _) (rte_real h9) hD (dax_real h2 h3 h4 h6 ?_ hT hG hX he)) hp
    all_goals exact fun r q => (congrFun (Memref.IsWhole.read_unread _ _) _).trans (hs1 h1 r q)

/-- The running sum of the decay rate's gradient. -/
theorem dalog_at (h7 : R2 (dtV m c t) S) (hL0 : t.val % 32 = 0 → ∀ j : ℕ, L j = 0)
    (hL1 : t.val % 32 ≠ 0 → R3 (n := 1) (m := 128) (φ := .f32) (outsAt0 m c (t.val - 1) (Nat.lt_of_le_of_lt (Nat.sub_le _ _) t.isLt)).2.2.2.2.2.2.1 (fun _ j => L j)) :
    R3 (n := 1) (m := 128) (φ := .f32) (outsAt0 m c t.val t.isLt).2.2.2.2.2.2.1
      (fun _ j => L j + (∑ r ∈ Finset.range 128, S r j * rcP A G U Bk Ck H DH T X E r j) * rte AL j) := by
  have hD := dac_at m c t hA hG h2 h3 h4 h6 hT hX he
  have hz := zero_scratch m c t hA hG h2 h3 h4 h6 hT hX he hs0
  by_cases h1 : t.val % 16 = 0
  · by_cases h0 : t.val % 32 = 0
    · rw [outsAt0_A m c t h0 h1]; dsimp only; frame_out
      refine dal_real (L := L) (fun _ _ j => ?_) h7 (rte_real h9) hD (dax_real h2 h3 h4 h6 (hz h1) hT hG hX he)
      show _ = ((L j.val : ℝ) : EReal)
      rw [hL0 h0 j.val]
      exact zero_f32
    · rw [outsAt0_C m c t h0 h1]; dsimp only; frame_out
      exact dal_real (hL1 h0) h7 (rte_real h9) hD (dax_real h2 h3 h4 h6 (hz h1) hT hG hX he)
  · rw [outsAt0_B m c t (by omega) h1]; dsimp only; frame_out
    refine dal_real (hL1 (by omega)) h7 (rte_real h9) hD (dax_real h2 h3 h4 h6 ?_ hT hG hX he)
    all_goals exact fun r q => (congrFun (Memref.IsWhole.read_unread _ _) _).trans (hs1 h1 r q)

/-- The running sum of the step bias's gradient. -/
theorem ddtb_at (hp : R2 (k0_pay8 (iblk m c 7 t) (iblk m c 8 t)) S) (hL0 : t.val % 32 = 0 → ∀ j : ℕ, L j = 0)
    (hL1 : t.val % 32 ≠ 0 → R3 (n := 1) (m := 128) (φ := .f32) (outsAt0 m c (t.val - 1) (Nat.lt_of_le_of_lt (Nat.sub_le _ _) t.isLt)).2.2.2.2.2.2.2.1 (fun _ j => L j)) :
    R3 (n := 1) (m := 128) (φ := .f32) (outsAt0 m c t.val t.isLt).2.2.2.2.2.2.2.1
      (fun _ j => L j + ∑ r ∈ Finset.range 128, dprk (dtP A G U Bk Ck H DH T X E AL) S r j) := by
  have hB : R2 (dyB m c t) G := hG.trunc bitsLt_bf16_f32
  have hD := dac_at m c t hA hG h2 h3 h4 h6 hT hX he
  have hz := zero_scratch m c t hA hG h2 h3 h4 h6 hT hX he hs0
  by_cases h1 : t.val % 16 = 0
  · by_cases h0 : t.val % 32 = 0
    · rw [outsAt0_A m c t h0 h1]; dsimp only; frame_out
      refine dtb_real (L := L) (fun _ _ j => ?_)
        (ddt_real h2 h3 (hz h1) hX he (dxL_real hA hB (cb_real h3 h4) _ _) (rte_real h9) hD (dax_real h2 h3 h4 h6 (hz h1) hT hG hX he)) hp
      show _ = ((L j.val : ℝ) : EReal)
      rw [hL0 h0 j.val]
      exact zero_f32
    · rw [outsAt0_C m c t h0 h1]; dsimp only; frame_out
      exact dtb_real (hL1 h0) (ddt_real h2 h3 (hz h1) hX he (dxL_real hA hB (cb_real h3 h4) _ _) (rte_real h9) hD (dax_real h2 h3 h4 h6 (hz h1) hT hG hX he)) hp
  · rw [outsAt0_B m c t (by omega) h1]; dsimp only; frame_out
    refine dtb_real (hL1 (by omega)) (ddt_real h2 h3 ?_ hX he (dxL_real hA hB (cb_real h3 h4) _ _) (rte_real h9) hD (dax_real h2 h3 h4 h6 ?_ hT hG hX he)) hp
    all_goals exact fun r q => (congrFun (Memref.IsWhole.read_unread _ _) _).trans (hs1 h1 r q)
end

end Ssd.Points
end
-- ==== Proof.Spec3.lean ====
module
public import proofs.«01_k».proof.Proof.Spec2

/-! The gradients of the steps, of the decay rates and of the step bias, over the real numbers. -/

@[expose] public section

noncomputable section
namespace Ssd.Args
open scoped BigOperators

variable (a : Args)

/-- What a pair of times gives to the gradient of the difference of their running sums. -/
def NN (b t s g h : ℕ) : ℝ := a.cb b t s g * a.dS b t s g h * a.dec b t s g h
/-- The gradient of the running sum at a time. -/
def dCS (b u g h : ℕ) : ℝ := ∑ t ∈ Finset.range 2048, -a.NN b t u g h + ∑ s ∈ Finset.range 2048, a.NN b u s g h
/-- The gradient of the decay's logarithm at a time. -/
def dDA (b t g h : ℕ) : ℝ := ∑ u ∈ Finset.range 2048, if t ≤ u then a.dCS b u g h else 0
/-- The gradient of the step. -/
def dDT (b t g h : ℕ) : ℝ := ∑ p ∈ Finset.range 64, a.xh b t g h p * a.dXdt b t g h p + a.dDA b t g h * a.rate (g * 8 + h)
/-- The gradient of the step before its softplus. -/
def dPre (b t g h : ℕ) : ℝ := a.dDT b t g h * Real.exp (a.pre b t (g * 8 + h) - a.dt b t (g * 8 + h))
/-- The gradient of the decay rate's logarithm. -/
def dAL (g h : ℕ) : ℝ := -(∑ b ∈ Finset.range 2, ∑ t ∈ Finset.range 2048, a.dt b t (g * 8 + h) * a.dDA b t g h) * Real.exp (a.AL (g * 8 + h))
/-- The gradient of the step bias. -/
def dTB (g h : ℕ) : ℝ := ∑ b ∈ Finset.range 2, ∑ t ∈ Finset.range 2048, a.dPre b t g h

/-- The slope of the softplus. -/
theorem slope (x : ℝ) : Real.exp (x - (max x 0 + Real.log (1 + Real.exp (-|x|)))) = 1 / (1 + Real.exp (0 - x)) := by
  have hp : 0 < 1 + Real.exp (-|x|) := by positivity
  rw [zero_sub, ← sub_sub, Real.exp_sub, Real.exp_log hp]
  rcases le_total 0 x with hx | hx
  · rw [max_eq_left hx, abs_of_nonneg hx, sub_self, Real.exp_zero]
  · rw [max_eq_right hx, abs_of_nonpos hx, sub_zero, neg_neg, Real.exp_neg]
    have := Real.exp_pos x
    field_simp
    ring

end Ssd.Args
end
-- ==== Proof.Scan2.lean ====
module
public import proofs.«01_k».proof.Proof.Scan
public import proofs.«01_k».proof.Proof.Spec3

/-! The chunked form of the gradient of the decays, over the real numbers. -/

@[expose] public section

noncomputable section
namespace Ssd.Args
open scoped BigOperators

/-- A sum from a time on of row sums less column sums of a triangle, by the chunk that begins at `E`: what lies after the
    chunk enters at its last row. -/
theorem chunk_rev (M : ℕ → ℕ → ℝ) (hM : ∀ t s, t < s → M t s = 0) (E : ℕ) (hE : E + 128 ≤ 2048) (r : ℕ) (hr : r < 128) :
    ∑ k ∈ Finset.range 128, (if r ≤ k then (1 : ℝ) else 0) * ((∑ s ∈ Finset.range 128, M (E + k) (E + s) - ∑ s ∈ Finset.range 128, M (E + s) (E + k))
      + (∑ s ∈ Finset.range 2048, (if s < E then M (E + k) s else 0) - ∑ t ∈ Finset.range 2048, (if E + 128 ≤ t then M t (E + k) else 0)
        + (if k = 127 then ∑ j ∈ Finset.range 128, ∑ t ∈ Finset.range 2048, (if E + 128 ≤ t then M t (E + j) else 0)
            + ∑ t ∈ Finset.range 2048, (if E + 128 ≤ t then ∑ s ∈ Finset.range 2048, (if s < E then M t s else 0) else 0) else 0)))
    = ∑ u ∈ Finset.range 2048, if E + r ≤ u then ∑ t ∈ Finset.range 2048, -M t u + ∑ s ∈ Finset.range 2048, M u s else 0 := by
  have hrow : ∀ k, k < 128 → ∑ s ∈ Finset.range 2048, M (E + k) s = ∑ s ∈ Finset.range 2048, (if s < E then M (E + k) s else 0)
      + ∑ s ∈ Finset.range 128, M (E + k) (E + s) := fun k hk => by
    rw [sum_split _ E hE]
    have : ∑ s ∈ Finset.range 2048, (if E + 128 ≤ s then M (E + k) s else 0) = 0 :=
      Finset.sum_eq_zero fun s _ => by
        split
        · exact hM _ _ (by omega)
        · rfl
    rw [this, add_zero]
  have hcol : ∀ k, k < 128 → ∑ t ∈ Finset.range 2048, M t (E + k) = ∑ t ∈ Finset.range 128, M (E + t) (E + k)
      + ∑ t ∈ Finset.range 2048, (if E + 128 ≤ t then M t (E + k) else 0) := fun k hk => by
    rw [sum_split _ E hE]
    have : ∑ t ∈ Finset.range 2048, (if t < E then M t (E + k) else 0) = 0 :=
      Finset.sum_eq_zero fun t _ => by
        split
        · exact hM _ _ (by omega)
        · rfl
    rw [this, zero_add]
  have hlast : ∑ u ∈ Finset.range 2048, (if E + 128 ≤ u then ∑ t ∈ Finset.range 2048, -M t u + ∑ s ∈ Finset.range 2048, M u s else 0)
      = ∑ j ∈ Finset.range 128, ∑ t ∈ Finset.range 2048, (if E + 128 ≤ t then M t (E + j) else 0)
        + ∑ t ∈ Finset.range 2048, (if E + 128 ≤ t then ∑ s ∈ Finset.range 2048, (if s < E then M t s else 0) else 0) := by
    have e : ∀ u, (if E + 128 ≤ u then ∑ t ∈ Finset.range 2048, -M t u + ∑ s ∈ Finset.range 2048, M u s else 0)
        = (∑ j ∈ Finset.range 128, (if E + 128 ≤ u then M u (E + j) else 0)
          + (if E + 128 ≤ u then ∑ s ∈ Finset.range 2048, (if s < E then M u s else 0) else 0))
          + (∑ s ∈ Finset.range 2048, (if E + 128 ≤ u ∧ E + 128 ≤ s then M u s else 0)
            - ∑ t ∈ Finset.range 2048, (if E + 128 ≤ t ∧ E + 128 ≤ u then M t u else 0)) := fun u => by
      by_cases hu : E + 128 ≤ u
      · have e2 : ∑ t ∈ Finset.range 2048, M t u = ∑ t ∈ Finset.range 2048, (if E + 128 ≤ t then M t u else 0) :=
          Finset.sum_congr rfl fun t _ => by
            split
            · rfl
            · exact hM _ _ (by omega)
        simp only [hu, true_and, and_true, if_true]
        rw [Finset.sum_neg_distrib, e2, sum_split (fun s => M u s) E hE]
        ring
      · simp only [hu, false_and, and_false, if_false, Finset.sum_const_zero]
        ring
    rw [Finset.sum_congr rfl fun u _ => e u, Finset.sum_add_distrib, Finset.sum_add_distrib, Finset.sum_sub_distrib,
      Finset.sum_comm (s := Finset.range 2048) (t := Finset.range 2048) (f := fun u t => if E + 128 ≤ t ∧ E + 128 ≤ u then M t u else 0),
      sub_self, add_zero, Finset.sum_comm (s := Finset.range 2048) (t := Finset.range 128)]
  conv_rhs => rw [sum_split _ E hE]
  have e1 : ∑ u ∈ Finset.range 2048, (if u < E then (if E + r ≤ u then ∑ t ∈ Finset.range 2048, -M t u + ∑ s ∈ Finset.range 2048, M u s else 0) else 0) = 0 :=
    Finset.sum_eq_zero fun u _ => by
      split
      · rw [if_neg (by omega)]
      · rfl
  have e3 : ∑ u ∈ Finset.range 2048, (if E + 128 ≤ u then (if E + r ≤ u then ∑ t ∈ Finset.range 2048, -M t u + ∑ s ∈ Finset.range 2048, M u s else 0) else 0)
      = ∑ u ∈ Finset.range 2048, (if E + 128 ≤ u then ∑ t ∈ Finset.range 2048, -M t u + ∑ s ∈ Finset.range 2048, M u s else 0) :=
    Finset.sum_congr rfl fun u _ => by
      split
      · rw [if_pos (by omega)]
      · rfl
  rw [e1, e3, hlast, zero_add]
  generalize ∑ j ∈ Finset.range 128, ∑ t ∈ Finset.range 2048, (if E + 128 ≤ t then M t (E + j) else 0)
        + ∑ t ∈ Finset.range 2048, (if E + 128 ≤ t then ∑ s ∈ Finset.range 2048, (if s < E then M t s else 0) else 0) = T
  have eT : T = ∑ k ∈ Finset.range 128, (if r ≤ k then (1 : ℝ) else 0) * (if k = 127 then T else 0) := by
    rw [Finset.sum_eq_single 127]
    · rw [if_pos (by omega), if_pos rfl, one_mul]
    · intro k _ hk
      rw [if_neg hk, mul_zero]
    · intro hk
      exact absurd (Finset.mem_range.mpr (by omega)) hk
  conv_rhs => rw [eT]
  rw [← Finset.sum_add_distrib]
  refine Finset.sum_congr rfl fun k hk => ?_
  have hk := Finset.mem_range.mp hk
  by_cases hrk : r ≤ k
  · rw [if_pos hrk, if_pos (show E + r ≤ E + k by omega), Finset.sum_neg_distrib, hrow k hk, hcol k hk]
    ring
  · rw [if_neg hrk, if_neg (show ¬E + r ≤ E + k by omega), zero_mul, zero_mul, add_zero]

variable (a : Args) (b g : ℕ)

theorem NN_upper (h t s : ℕ) (hts : t < s) : a.NN b t s g h = 0 := by
  rw [NN, dec, if_neg (by omega), mul_zero]

/-- A query row on the state that enters a chunk. -/
theorem C_H0 (E t q : ℕ) : ∑ n ∈ Finset.range 128, a.C b t g n * a.H0 b g E n q
    = ∑ s ∈ Finset.range 2048, (if s < E then Real.exp (a.S b E (g * 8 + q / 64) - a.cs b s (g * 8 + q / 64)) * a.Ub b g s q * a.cb b t s g else 0) := by
  simp only [H0, Finset.mul_sum]
  rw [Finset.sum_comm]
  refine Finset.sum_congr rfl fun s _ => ?_
  by_cases hs : s < E
  · simp only [if_pos hs]
    rw [cb, Finset.mul_sum]
    refine Finset.sum_congr rfl fun n _ => ?_
    rw [cs_dt, Ub_xdt]
    ring
  · simp only [if_neg hs]
    exact Finset.sum_eq_zero fun n _ => by ring

/-- A key row on the state's gradient after a chunk. -/
theorem B_DD (L s q : ℕ) : ∑ n ∈ Finset.range 128, a.B b s g n * a.DD b g L n q
    = ∑ t ∈ Finset.range 2048, (if L ≤ t then Real.exp (a.cs b t (g * 8 + q / 64) - a.S b L (g * 8 + q / 64)) * a.dYb b g t q * a.cb b t s g else 0) := by
  simp only [DD, Finset.mul_sum]
  rw [Finset.sum_comm]
  refine Finset.sum_congr rfl fun t _ => ?_
  by_cases ht : L ≤ t
  · simp only [if_pos ht]
    rw [cb, Finset.mul_sum]
    refine Finset.sum_congr rfl fun n _ => ?_
    ring
  · simp only [if_neg ht]
    exact Finset.sum_eq_zero fun n _ => by ring

/-- What a pair of times gives, by column. -/
theorem NN_cols (t s h : ℕ) : a.NN b t s g h = ∑ p ∈ Finset.range 64, a.cb b t s g * (a.dYb b g t (h * 64 + p) * a.Ub b g s (h * 64 + p)) * a.dec b t s g h := by
  rw [NN, dS, Finset.mul_sum, Finset.sum_mul]
  refine Finset.sum_congr rfl fun p hp => ?_
  have hp := Finset.mem_range.mp hp
  rw [Ub_xdt, dY5, show (h * 64 + p) / 64 = h by omega, show (h * 64 + p) % 64 = p by omega]

/-- What the times before a chunk give to a row of it. -/
theorem before_block (E r h : ℕ) (hh : h < 8) :
    ∑ p ∈ Finset.range 64, a.dYb b g (E + r) (h * 64 + p) * Real.exp (a.Ab b g E r ((h * 64 + p) / 64)) * (∑ n ∈ Finset.range 128, a.C b (E + r) g n * a.H0 b g E n (h * 64 + p))
    = ∑ s ∈ Finset.range 2048, if s < E then a.NN b (E + r) s g h else 0 := by
  simp only [C_H0, Finset.mul_sum]
  rw [Finset.sum_comm]
  refine Finset.sum_congr rfl fun s _ => ?_
  by_cases hs : s < E
  · simp only [if_pos hs]
    rw [NN_cols]
    refine Finset.sum_congr rfl fun p hp => ?_
    have hp := Finset.mem_range.mp hp
    rw [show (h * 64 + p) / 64 = h by omega, dec, if_pos (by omega), Ab, if_pos hh, a.cs_S b (E + r), show E + (r + 1) = E + r + 1 by ring]
    have : Real.exp (a.S b (E + r + 1) (g * 8 + h) - a.cs b s (g * 8 + h))
        = Real.exp (a.S b (E + r + 1) (g * 8 + h) - a.S b E (g * 8 + h)) * Real.exp (a.S b E (g * 8 + h) - a.cs b s (g * 8 + h)) := by
      rw [← Real.exp_add]
      congr 1
      ring
    rw [this]
    ring
  · simp only [if_neg hs, mul_zero, Finset.sum_const_zero]

/-- What the times after a chunk give to a row of it. -/
theorem after_block (E s h : ℕ) (hh : h < 8) (hs : s < 128) :
    ∑ p ∈ Finset.range 64, (∑ n ∈ Finset.range 128, a.B b (E + s) g n * a.DD b g (E + 128) n (h * 64 + p)) * a.Ub b g (E + s) (h * 64 + p)
      * Real.exp (a.Ab b g E 127 ((h * 64 + p) / 64) - a.Ab b g E s ((h * 64 + p) / 64))
    = ∑ t ∈ Finset.range 2048, if E + 128 ≤ t then a.NN b t (E + s) g h else 0 := by
  simp only [B_DD, Finset.sum_mul]
  rw [Finset.sum_comm]
  refine Finset.sum_congr rfl fun t _ => ?_
  by_cases ht : E + 128 ≤ t
  · simp only [if_pos ht]
    rw [NN_cols]
    refine Finset.sum_congr rfl fun p hp => ?_
    have hp := Finset.mem_range.mp hp
    rw [show (h * 64 + p) / 64 = h by omega, dec, if_pos (by omega), ← a.exp_after b g E s t h hh]
    ring
  · simp only [if_neg ht, zero_mul, Finset.sum_const_zero]

/-- What the times before a chunk and those after it give through it. -/
theorem through_block (E h : ℕ) (hh : h < 8) :
    ∑ p ∈ Finset.range 64, (∑ n ∈ Finset.range 128, a.DD b g (E + 128) n (h * 64 + p) * a.H0 b g E n (h * 64 + p)) * Real.exp (a.Ab b g E 127 ((h * 64 + p) / 64))
    = ∑ t ∈ Finset.range 2048, if E + 128 ≤ t then ∑ s ∈ Finset.range 2048, (if s < E then a.NN b t s g h else 0) else 0 := by
  have e : ∀ q, ∑ n ∈ Finset.range 128, a.DD b g (E + 128) n q * a.H0 b g E n q
      = ∑ t ∈ Finset.range 2048, (if E + 128 ≤ t then a.dYb b g t q * Real.exp (a.cs b t (g * 8 + q / 64) - a.S b (E + 128) (g * 8 + q / 64))
          * ∑ n ∈ Finset.range 128, a.C b t g n * a.H0 b g E n q else 0) := fun q => by
    simp only [DD, Finset.sum_mul]
    rw [Finset.sum_comm]
    refine Finset.sum_congr rfl fun t _ => ?_
    by_cases ht : E + 128 ≤ t
    · simp only [if_pos ht]
      rw [Finset.mul_sum]
      refine Finset.sum_congr rfl fun n _ => ?_
      ring
    · simp only [if_neg ht, zero_mul, Finset.sum_const_zero]
  simp only [e, Finset.sum_mul]
  rw [Finset.sum_comm]
  refine Finset.sum_congr rfl fun t _ => ?_
  by_cases ht : E + 128 ≤ t
  · simp only [if_pos ht, C_H0, Finset.mul_sum, Finset.sum_mul]
    rw [Finset.sum_comm]
    refine Finset.sum_congr rfl fun s _ => ?_
    by_cases hs : s < E
    · simp only [if_pos hs]
      rw [NN_cols]
      refine Finset.sum_congr rfl fun p hp => ?_
      have hp := Finset.mem_range.mp hp
      rw [show (h * 64 + p) / 64 = h by omega, dec, if_pos (by omega), Ab, if_pos hh, show E + (127 + 1) = E + 128 by ring]
      have : Real.exp (a.cs b t (g * 8 + h) - a.cs b s (g * 8 + h))
          = Real.exp (a.cs b t (g * 8 + h) - a.S b (E + 128) (g * 8 + h)) * Real.exp (a.S b (E + 128) (g * 8 + h) - a.S b E (g * 8 + h))
            * Real.exp (a.S b E (g * 8 + h) - a.cs b s (g * 8 + h)) := by
        rw [← Real.exp_add, ← Real.exp_add]
        congr 1
        ring
      rw [this]
      ring
    · simp only [if_neg hs, mul_zero, zero_mul, Finset.sum_const_zero]
  · simp only [if_neg ht, zero_mul, Finset.sum_const_zero]

/-- What a pair of rows of a chunk gives. -/
theorem NN_block (E r s h : ℕ) (hh : h < 8) :
    dmk (fun r q => a.dYb b g (E + r) q) (fun s q => a.Ub b g (E + s) q) h r s * dcy (a.Ab b g E) h r s
      * cbk (fun s n => a.B b (E + s) g n) (fun r n => a.C b (E + r) g n) r s = a.NN b (E + r) (E + s) g h := by
  rw [a.dcy_dec b g E hh, NN_cols, dmk, cbk, cb]
  simp only [mul_comm (a.C b (E + r) g _)]
  rw [Finset.sum_mul, Finset.sum_mul]
  refine Finset.sum_congr rfl fun p _ => ?_
  ring

end Ssd.Args
end
-- ==== Proof.Scan3.lean ====
module
public import proofs.«01_k».proof.Proof.Points4
public import proofs.«01_k».proof.Proof.Scan2
public import proofs.«01_k».proof.Proof.Lanes

/-! What a block's sums of the running sums' gradients, of the steps' gradients and of those before the softplus are in the
    reference's terms. -/

@[expose] public section

noncomputable section
namespace Ssd.Args
open scoped BigOperators

variable (a : Args) (b g : ℕ)

/-- The gradient of the decay's logarithm, from a block. -/
theorem rcP_block (E : ℕ) (hE : E + 128 ≤ 2048) (r j : ℕ) (hr : r < 128) (hj : j < 8) :
    Points.rcP (a.Ab b g E) (fun r q => a.dYb b g (E + r) q) (fun r q => a.X b (E + r) (g * 512 + q)) (fun r n => a.B b (E + r) g n)
      (fun r n => a.C b (E + r) g n) (fun n q => a.H0 b g E n q) (fun n q => a.DD b g (E + 128) n q) (fun r q => a.dt b (E + r) (g * 8 + q / 64))
      (fun r q => a.Ab b g E r (q / 64)) (fun q => a.Ab b g E 127 (q / 64)) r j = a.dDA b (E + r) g j := by
  have e := chunk_rev (fun t s => a.NN b t s g j) (fun t s hts => a.NN_upper b g j t s hts) E hE r hr
  refine Eq.trans ?_ (e.trans (Finset.sum_congr rfl fun u _ => rfl))
  unfold Points.rcP rck
  refine Finset.sum_congr rfl fun k hk => congrArg _ ?_
  have hk := Finset.mem_range.mp hk
  have hel : ∀ s, s < 128 → ∑ p ∈ Finset.range 64, elk (fun r n => a.B b (E + r) g n) (fun n q => a.DD b g (E + 128) n q)
      (fun r q => a.X b (E + r) (g * 512 + q) * a.dt b (E + r) (g * 8 + q / 64)) (fun r q => a.Ab b g E r (q / 64)) (fun q => a.Ab b g E 127 (q / 64)) s (j * 64 + p)
      = ∑ t ∈ Finset.range 2048, if E + 128 ≤ t then a.NN b t (E + s) g j else 0 := fun s hs => a.after_block b g E s j hj hs
  refine congrArg₂ (· + ·) ?_ ?_
  · unfold dack
    rw [if_pos hj]
    refine congrArg₂ (· - ·) (Finset.sum_congr rfl fun s _ => a.NN_block b g E k s j hj) (Finset.sum_congr rfl fun s _ => a.NN_block b g E s k j hj)
  · rw [Kern.sum_lane, if_pos hj]
    unfold daxk
    rw [Finset.sum_add_distrib, Finset.sum_sub_distrib, hel k hk]
    refine congrArg₂ (· + ·) (congrArg₂ (· - ·) (a.before_block b g E k j hj) rfl) ?_
    by_cases h : k = 127
    · simp only [if_pos h]
      rw [Finset.sum_add_distrib, Finset.sum_comm]
      exact congrArg₂ (· + ·) (Finset.sum_congr rfl fun s hs => hel s (Finset.mem_range.mp hs)) (a.through_block b g E j hj)
    · simp only [if_neg h, Finset.sum_const_zero]

/-- The gradient of the step, from a block. -/
theorem dtP_block (E : ℕ) (hE : E + 128 ≤ 2048) (r j : ℕ) (hr : r < 128) (hj : j < 8) :
    Points.dtP (a.Ab b g E) (fun r q => a.dYb b g (E + r) q) (fun r q => a.X b (E + r) (g * 512 + q)) (fun r n => a.B b (E + r) g n)
      (fun r n => a.C b (E + r) g n) (fun n q => a.H0 b g E n q) (fun n q => a.DD b g (E + 128) n q) (fun r q => a.dt b (E + r) (g * 8 + q / 64))
      (fun r q => a.Ab b g E r (q / 64)) (fun q => a.Ab b g E 127 (q / 64)) (fun j => if j < 8 then a.AL (g * 8 + j) else 0) r j = a.dDT b (E + r) g j := by
  unfold Points.dtP dDT
  rw [Kern.sum_lane, if_pos hj, a.rcP_block b g E hE r j hr hj, rte, if_pos hj, if_pos hj, zero_sub, rate]
  refine congrArg₂ (· + ·) (Finset.sum_congr rfl fun p hp => ?_) (mul_comm _ _)
  have hp := Finset.mem_range.mp hp
  rw [a.dXdt_block b g E hE r (j * 64 + p) hr (by omega), xh, show (j * 64 + p) / 64 = j by omega, show (j * 64 + p) % 64 = p by omega,
    show (g * 8 + j) * 64 + p = g * 512 + (j * 64 + p) by ring, mul_comm]

/-- The gradient of the step before its softplus, from a block. -/
theorem dpr_block (E : ℕ) (hE : E + 128 ≤ 2048) (r j : ℕ) (hr : r < 128) :
    dprk (Points.dtP (a.Ab b g E) (fun r q => a.dYb b g (E + r) q) (fun r q => a.X b (E + r) (g * 512 + q)) (fun r n => a.B b (E + r) g n)
      (fun r n => a.C b (E + r) g n) (fun n q => a.H0 b g E n q) (fun n q => a.DD b g (E + 128) n q) (fun r q => a.dt b (E + r) (g * 8 + q / 64))
      (fun r q => a.Ab b g E r (q / 64)) (fun q => a.Ab b g E 127 (q / 64)) (fun j => if j < 8 then a.AL (g * 8 + j) else 0))
      (fun r j => (if j < 8 then a.P b (E + r) (11264 + (g * 8 + j)) else 0) + (if j < 8 then a.TB (g * 8 + j) else 0)) r j
    = if j < 8 then a.dPre b (E + r) g j else 0 := by
  unfold dprk
  by_cases hj : j < 8
  · simp only [if_pos hj]
    rw [a.dtP_block b g E hE r j hr hj, dPre, dt, slope, pre]
  · rw [if_neg hj, if_neg hj]

end Ssd.Args
end
-- ==== Proof.Ref4.lean ====
module
public import proofs.«01_k».proof.Proof.Ref3
public import proofs.«01_k».proof.Proof.Spec3

/-! The reference's gradients of the steps, of the decay rates and of the step bias, in real numbers. -/

@[expose] public section
set_option maxRecDepth 16384

noncomputable section
namespace Ssd.Ref
open Idealize.ShloMosaic Idealize.ShloMosaic.ValueIdx Cert.ReferenceIdeal Cert.ReferenceIdeal.Read
open scoped BigOperators

variable {a : Args} {x0 : FVec Ideal ⟨3, ![2, 2048, 2048]⟩ .f32} {x1 : FVec Ideal ⟨3, ![2, 2048, 3072]⟩ .f32}
    {x2 : FVec Ideal ⟨3, ![2, 2048, 11520]⟩ .f32} {x3 x4 x5 : FVec Ideal ⟨2, ![1, 32]⟩ .f32}
    {x6 : FVec Ideal ⟨2, ![1, 2048]⟩ .f32} (h : a.Of x0 x1 x2 x3 x4 x5 x6)

/-- A pair of times with the second after the first gives nothing. -/
theorem NN_zero (b t s g h : ℕ) (hts : ¬ s ≤ t) : a.NN b t s g h = 0 := by
  rw [Args.NN, Args.dec, if_neg hts, mul_zero]

include h

theorem s129 (i : S2x2048x2048x4x8.Idx) : val_main_v129 (F := Ideal) x0 x1 x2 x3 x4 x5 x6 i
    = ((a.NN (i 0).val (i 1).val (i 2).val (i 3).val (i 4).val : ℝ) : EReal) := by
  rw [val_main_v129_apply, val_main_v119_apply]
  refine mulf_real (mulf_real ?_ (s115 h i)) (s43 h i)
  rw [val_main_v118_apply, val_main_v46_apply]
  exact s45 h _

theorem s130 (i : S2x2048x2048x4x8.Idx) : val_main_v130 (F := Ideal) x0 x1 x2 x3 x4 x5 x6 i
    = ((a.NN (i 0).val (i 1).val (i 2).val (i 3).val (i 4).val : ℝ) : EReal) := by
  rw [val_main_v130_apply, s42m i]
  by_cases hc : (i 2).val ≤ (i 1).val
  · rw [if_pos hc]; exact s129 h i
  · rw [if_neg hc, NN_zero _ _ _ _ _ hc]; exact zero_f32

/-- The gradient of the running sum. -/
theorem s138 (i : S2x2048x4x8.Idx) : val_main_v138 (F := Ideal) x0 x1 x2 x3 x4 x5 x6 i
    = ((a.dCS (i 0).val (i 1).val (i 2).val (i 3).val : ℝ) : EReal) := by
  have e131 : ∀ j : S2x2048x4x8.Idx, val_main_v131 (F := Ideal) x0 x1 x2 x3 x4 x5 x6 j
      = ((∑ s ∈ Finset.range 2048, a.NN (j 0).val (j 1).val s (j 2).val (j 3).val : ℝ) : EReal) := fun j => by
    rw [val_main_v131_apply]
    exact sum_real zero_f32 fun k => s130 h _
  have e132 : ∀ j : S2x2048x1x4x8.Idx, val_main_v132 (F := Ideal) x0 x1 x2 x3 x4 x5 x6 j
      = ((∑ s ∈ Finset.range 2048, a.NN (j 0).val (j 1).val s (j 3).val (j 4).val : ℝ) : EReal) := fun j => by
    have h0 : (j 0).val < 2 := (j 0).isLt; have h1 : (j 1).val < 2048 := (j 1).isLt; have h2 : (j 2).val < 1 := (j 2).isLt
    have h3 : (j 3).val < 4 := (j 3).isLt; have h4 : (j 4).val < 8 := (j 4).isLt
    rw [val_main_v132_apply, e131]
    refine congrArg _ (Finset.sum_congr rfl fun s _ => (?_ : a.NN (_ / 65536) (_ / 32 % 2048) s (_ / 8 % 4) (_ % 8) = a.NN _ _ _ _ _))
    congr 1 <;> omega
  have e134 : ∀ j : S2x2048x4x8.Idx, val_main_v134 (F := Ideal) x0 x1 x2 x3 x4 x5 x6 j
      = ((∑ t ∈ Finset.range 2048, -a.NN (j 0).val t (j 1).val (j 2).val (j 3).val : ℝ) : EReal) := fun j => by
    rw [val_main_v134_apply]
    refine sum_real zero_f32 fun k => ?_
    rw [val_main_v133_apply]
    exact negf_real (s130 h _)
  have e135 : ∀ j : S2x1x2048x4x8.Idx, val_main_v135 (F := Ideal) x0 x1 x2 x3 x4 x5 x6 j
      = ((∑ t ∈ Finset.range 2048, -a.NN (j 0).val t (j 2).val (j 3).val (j 4).val : ℝ) : EReal) := fun j => by
    have h0 : (j 0).val < 2 := (j 0).isLt; have h1 : (j 1).val < 1 := (j 1).isLt; have h2 : (j 2).val < 2048 := (j 2).isLt
    have h3 : (j 3).val < 4 := (j 3).isLt; have h4 : (j 4).val < 8 := (j 4).isLt
    rw [val_main_v135_apply, e134]
    refine congrArg _ (Finset.sum_congr rfl fun s _ => congrArg _ (?_ : a.NN (_ / 65536) s (_ / 32 % 2048) (_ / 8 % 4) (_ % 8) = a.NN _ _ _ _ _))
    congr 1 <;> omega
  rw [val_main_v138_apply]
  refine addf_real ?_ ?_
  · rw [val_main_v136_apply]
    exact cast_real (sum_real zero_f32 (f := fun _ => ∑ t ∈ Finset.range 2048, -a.NN (i 0).val t (i 1).val (i 2).val (i 3).val)
      fun k => e135 _) (by simp)
  · rw [val_main_v137_apply]
    exact cast_real (sum_real zero_f32 (f := fun _ => ∑ s ∈ Finset.range 2048, a.NN (i 0).val (i 1).val s (i 2).val (i 3).val)
      fun k => e132 _) (by simp)

/-- The gradient of the decay's logarithm. -/
theorem s151 (i : S2x2048x32.Idx) : val_main_v151 (F := Ideal) x0 x1 x2 x3 x4 x5 x6 i
    = ((a.dDA (i 0).val (i 1).val ((i 2).val / 8) ((i 2).val % 8) : ℝ) : EReal) := by
  have e147 : ∀ j : S2x2048x32.Idx, val_main_v147 (F := Ideal) x0 x1 x2 x3 x4 x5 x6 j
      = ((a.dCS (j 0).val (j 1).val ((j 2).val / 8) ((j 2).val % 8) : ℝ) : EReal) := fun j => by
    have h0 : (j 0).val < 2 := (j 0).isLt; have h1 : (j 1).val < 2048 := (j 1).isLt; have h2 : (j 2).val < 32 := (j 2).isLt
    rw [val_main_v147_apply, s138 h]
    refine congrArg _ (?_ : a.dCS (_ / 65536) (_ / 32 % 2048) (_ / 8 % 4) (_ % 8) = a.dCS _ _ _ _)
    congr 1 <;> omega
  unfold val_main_v151
  generalize val_main_v147 (F := Ideal) x0 x1 x2 x3 x4 x5 x6 = v at e147 ⊢
  exact (window_sum _ _ v _ (fun _ => zero_f32) (f := fun b t H => a.dCS b t (H / 8) (H % 8)) e147 i).trans
    (congrArg _ (window_high 2048 (i 1).val (i 1).isLt fun u => a.dCS (i 0).val u ((i 2).val / 8) ((i 2).val % 8)))

/-- The gradient of the step. -/
theorem s157 (i : S2x2048x32.Idx) : val_main_v157 (F := Ideal) x0 x1 x2 x3 x4 x5 x6 i
    = ((a.dDT (i 0).val (i 1).val ((i 2).val / 8) ((i 2).val % 8) : ℝ) : EReal) := by
  have h0 : (i 0).val < 2 := (i 0).isLt; have h1 : (i 1).val < 2048 := (i 1).isLt; have h2 : (i 2).val < 32 := (i 2).isLt
  have e140 : ∀ j : S2x2048x4x8.Idx, val_main_v140 (F := Ideal) x0 x1 x2 x3 x4 x5 x6 j
      = ((∑ p ∈ Finset.range 64, a.xh (j 0).val (j 1).val (j 2).val (j 3).val p * a.dXdt (j 0).val (j 1).val (j 2).val (j 3).val p : ℝ) : EReal) := fun j => by
    rw [val_main_v140_apply]
    refine sum_real zero_f32 fun k => ?_
    rw [val_main_v139_apply]
    refine mulf_real (s22 h _) ?_
    rw [val_main_v117_apply, val_main_v116_apply]
    exact dot_real (fun k => by rw [val_main_v113_apply]; exact s103 h _) (fun k => s48 h _)
  have e141 : ∀ j : S2x2048x4x8x1.Idx, val_main_v141 (F := Ideal) x0 x1 x2 x3 x4 x5 x6 j
      = ((∑ p ∈ Finset.range 64, a.xh (j 0).val (j 1).val (j 2).val (j 3).val p * a.dXdt (j 0).val (j 1).val (j 2).val (j 3).val p : ℝ) : EReal) := fun j => by
    have h0 : (j 0).val < 2 := (j 0).isLt; have h1 : (j 1).val < 2048 := (j 1).isLt; have h2 : (j 2).val < 4 := (j 2).isLt
    have h3 : (j 3).val < 8 := (j 3).isLt; have h4 : (j 4).val < 1 := (j 4).isLt
    rw [val_main_v141_apply, e140]
    refine congrArg _ (Finset.sum_congr rfl fun p _ => (?_ : a.xh (_ / 65536) (_ / 32 % 2048) (_ / 8 % 4) (_ % 8) p
      * a.dXdt (_ / 65536) (_ / 32 % 2048) (_ / 8 % 4) (_ % 8) p = a.xh _ _ _ _ _ * a.dXdt _ _ _ _ _))
    congr 2 <;> omega
  have e145 : ∀ j : S2x2048x4x8.Idx, val_main_v145 (F := Ideal) x0 x1 x2 x3 x4 x5 x6 j
      = ((∑ p ∈ Finset.range 64, a.xh (j 0).val (j 1).val (j 2).val (j 3).val p * a.dXdt (j 0).val (j 1).val (j 2).val (j 3).val p : ℝ) : EReal) := fun j => by
    rw [val_main_v145_apply]
    exact cast_real (sum_real zero_f32 (f := fun _ => ∑ p ∈ Finset.range 64, a.xh (j 0).val (j 1).val (j 2).val (j 3).val p
      * a.dXdt (j 0).val (j 1).val (j 2).val (j 3).val p) fun k => e141 _) (by simp)
  rw [val_main_v157_apply]
  refine addf_real ?_ ?_
  · rw [val_main_v146_apply, e145]
    refine congrArg _ (Finset.sum_congr rfl fun p _ => (?_ : a.xh (_ / 65536) (_ / 32 % 2048) (_ / 8 % 4) (_ % 8) p
      * a.dXdt (_ / 65536) (_ / 32 % 2048) (_ / 8 % 4) (_ % 8) p = a.xh _ _ _ _ _ * a.dXdt _ _ _ _ _))
    congr 2 <;> omega
  · rw [val_main_v156_apply]
    refine mulf_real (s151 h i) ?_
    rw [val_main_v155_apply, val_main_v18_apply, s14 h]
    refine congrArg _ (congrArg a.rate ?_)
    show (i 2).val = _
    omega

omit h in
/-- The exponential of the step before its softplus less the step, with its branches for infinite numbers. -/
theorem branch (x z : EReal) (c d : EReal) (r s : ℝ) (hx : x = (r : EReal)) (hz : z = (s : EReal)) (ht : c = ⊤) :
    Ideal.exp (Scalar.select (FloatOps.cmpf (F := Ideal) (φ := .f32) .oeq x c) d x
      - Scalar.select (FloatOps.cmpf (F := Ideal) (φ := .f32) .oeq z c) d z) = ((Real.exp (r - s) : ℝ) : EReal) := by
  have hc : ∀ (y : EReal) (q : ℝ), y = (q : EReal) → FloatOps.cmpf (F := Ideal) (φ := .f32) .oeq y c = 0#1 := fun y q e => by
    show Ideal.cmp .oeq y c = 0#1
    rw [e, ht]
    simp [Ideal.cmp]
  rw [hc x r hx, hc z s hz, hx, hz]
  show Ideal.exp ((r : EReal) - (s : EReal)) = _
  rw [← EReal.coe_sub, Ideal.exp_coe]

/-- The gradient of the step before its softplus. -/
theorem s161 (i : S2x2048x32.Idx) : val_main_v161 (F := Ideal) x0 x1 x2 x3 x4 x5 x6 i
    = ((a.dPre (i 0).val (i 1).val ((i 2).val / 8) ((i 2).val % 8) : ℝ) : EReal) := by
  have e : (i 2).val / 8 * 8 + (i 2).val % 8 = (i 2).val := by omega
  rw [val_main_v161_apply, Args.dPre, e]
  refine mulf_real (s157 h i) ?_
  exact branch _ _ _ _ _ _ (s11 h i) (s12 h i) (by
    show Ideal.ofBits .f32 0x7F800000#32 = ⊤
    simp [Ideal.ofBits, Ideal.ieee])

/-- The gradient of the raw steps, padded to rows of lanes. -/
theorem s171 (i : S2x4x2048x128.Idx) : val_main_v171 (F := Ideal) x0 x1 x2 x3 x4 x5 x6 i
    = (((if (i 3).val < 8 then a.dPre (i 0).val (i 2).val (i 1).val (i 3).val else 0 : ℝ)) : EReal) := by
  unfold val_main_v171
  by_cases h2 : (i 3).val < 8
  · have e : ∀ j : S2x4x2048x8.Idx, val_main_v170 (F := Ideal) x0 x1 x2 x3 x4 x5 x6 j = ((a.dPre (j 0).val (j 2).val (j 1).val (j 3).val : ℝ) : EReal) := fun j => by
      have h0 : (j 0).val < 2 := (j 0).isLt; have h1 : (j 1).val < 4 := (j 1).isLt; have h2 : (j 2).val < 2048 := (j 2).isLt
      have h3 : (j 3).val < 8 := (j 3).isLt
      rw [val_main_v170_apply, val_main_v169_apply, s161 h]
      refine congrArg _ (?_ : a.dPre (_ / 65536) (_ / 32 % 2048) (_ % 32 / 8) (_ % 32 % 8) = a.dPre (j 0).val (j 2).val (j 1).val (j 3).val)
      dsimp only
      congr 1 <;> omega
    rw [if_pos h2]
    refine (pad_apply_of_inside _ _ _ _ _ _ _ _ ((ValueIdx.ix4 (i 0) (i 1) (i 2) (⟨(i 3).val, h2⟩ : Fin 8) : S2x4x2048x8.Idx)) ?_).trans (e _)
    intro d
    match d with
    | ⟨0, _⟩ => simp
    | ⟨1, _⟩ => simp
    | ⟨2, _⟩ => simp
    | ⟨3, _⟩ => simp
  · rw [if_neg h2]
    refine (pad_apply_of_not_inside _ _ _ _ _ _ _ _ (3 : Fin 4) ?_).trans ?_
    · simp; omega
    · show (((0#32 : BitVec 32).toInt : ℝ) : EReal) = _
      simp

/-- The gradient of the decay rates' logarithms, padded to rows of lanes. -/
theorem s174 (i : S4x1x128.Idx) : val_main_v174 (F := Ideal) x0 x1 x2 x3 x4 x5 x6 i
    = (((if (i 2).val < 8 then a.dAL (i 0).val (i 2).val else 0 : ℝ)) : EReal) := by
  unfold val_main_v174
  by_cases h2 : (i 2).val < 8
  · have e152 : ∀ j : S2x2048x32.Idx, val_main_v152 (F := Ideal) x0 x1 x2 x3 x4 x5 x6 j
        = ((a.dt (j 0).val (j 1).val (j 2).val * a.dDA (j 0).val (j 1).val ((j 2).val / 8) ((j 2).val % 8) : ℝ) : EReal) := fun j => by
      rw [val_main_v152_apply]
      exact mulf_real (s12 h j) (s151 h j)
    have e153 : ∀ j : S32.Idx, val_main_v153 (F := Ideal) x0 x1 x2 x3 x4 x5 x6 j
        = ((∑ b ∈ Finset.range 2, ∑ t ∈ Finset.range 2048, a.dt b t (j 0).val * a.dDA b t ((j 0).val / 8) ((j 0).val % 8) : ℝ) : EReal) := fun j => by
      unfold val_main_v153
      generalize val_main_v152 (F := Ideal) x0 x1 x2 x3 x4 x5 x6 = v at e152 ⊢
      exact sum01 _ _ v _ (fun _ => zero_f32) (f := fun b t H => a.dt b t H * a.dDA b t (H / 8) (H % 8)) e152 j
    have e154 : ∀ j : S1x1x32.Idx, val_main_v154 (F := Ideal) x0 x1 x2 x3 x4 x5 x6 j
        = ((∑ b ∈ Finset.range 2, ∑ t ∈ Finset.range 2048, a.dt b t (j 2).val * a.dDA b t ((j 2).val / 8) ((j 2).val % 8) : ℝ) : EReal) := fun j => by
      have h0 : (j 0).val < 1 := (j 0).isLt; have h1 : (j 1).val < 1 := (j 1).isLt; have h2 : (j 2).val < 32 := (j 2).isLt
      rw [val_main_v154_apply, e153]
      have e : ((idx_main_v154 j) 0).val = (j 2).val := by
        show ((j 0).val * 1 + (j 1).val) * 32 + (j 2).val = _
        omega
      rw [e]
    have e158 : ∀ j : S32.Idx, val_main_v158 (F := Ideal) x0 x1 x2 x3 x4 x5 x6 j
        = ((∑ b ∈ Finset.range 2, ∑ t ∈ Finset.range 2048, a.dt b t (j 0).val * a.dDA b t ((j 0).val / 8) ((j 0).val % 8) : ℝ) : EReal) := fun j => by
      unfold val_main_v158
      generalize val_main_v154 (F := Ideal) x0 x1 x2 x3 x4 x5 x6 = v at e154 ⊢
      refine (sum01 _ _ v _ (fun _ => zero_f32) (f := fun _ _ H => ∑ b ∈ Finset.range 2, ∑ t ∈ Finset.range 2048,
        a.dt b t H * a.dDA b t (H / 8) (H % 8)) e154 j).trans ?_
      rw [Finset.sum_range_one, Finset.sum_range_one]
    have e : ∀ j : S4x1x8.Idx, val_main_v173 (F := Ideal) x0 x1 x2 x3 x4 x5 x6 j = ((a.dAL (j 0).val (j 2).val : ℝ) : EReal) := fun j => by
      have h0 : (j 0).val < 4 := (j 0).isLt; have h1 : (j 1).val < 1 := (j 1).isLt; have h2 : (j 2).val < 8 := (j 2).isLt
      have q : ((idx_main_v173 j) 0).val = (j 0).val * 8 + (j 2).val := by
        show ((j 0).val * 1 + (j 1).val) * 8 + (j 2).val = _
        omega
      rw [val_main_v173_apply, val_main_v160_apply, val_main_v159_apply, Args.dAL]
      have q1 : ((j 0).val * 8 + (j 2).val) / 8 = (j 0).val := by omega
      have q2 : ((j 0).val * 8 + (j 2).val) % 8 = (j 2).val := by omega
      refine mulf_real (negf_real ((e158 _).trans ?_)) ((s13 h _).trans ?_)
      · rw [q, q1, q2]
      · rw [q]
    rw [if_pos h2]
    refine (pad_apply_of_inside _ _ _ _ _ _ _ _ ((ValueIdx.ix3 (i 0) (i 1) (⟨(i 2).val, h2⟩ : Fin 8) : S4x1x8.Idx)) ?_).trans (e _)
    intro d
    match d with
    | ⟨0, _⟩ => simp
    | ⟨1, _⟩ => simp
    | ⟨2, _⟩ => simp
  · rw [if_neg h2]
    refine (pad_apply_of_not_inside _ _ _ _ _ _ _ _ (2 : Fin 3) ?_).trans ?_
    · simp; omega
    · show (((0#32 : BitVec 32).toInt : ℝ) : EReal) = _
      simp

/-- The gradient of the step bias, padded to rows of lanes. -/
theorem s176 (i : S4x1x128.Idx) : val_main_v176 (F := Ideal) x0 x1 x2 x3 x4 x5 x6 i
    = (((if (i 2).val < 8 then a.dTB (i 0).val (i 2).val else 0 : ℝ)) : EReal) := by
  unfold val_main_v176
  by_cases h2 : (i 2).val < 8
  · have e162 : ∀ j : S32.Idx, val_main_v162 (F := Ideal) x0 x1 x2 x3 x4 x5 x6 j = ((a.dTB ((j 0).val / 8) ((j 0).val % 8) : ℝ) : EReal) := fun j => by
      have e161 := s161 h
      unfold val_main_v162
      generalize val_main_v161 (F := Ideal) x0 x1 x2 x3 x4 x5 x6 = v at e161 ⊢
      exact sum01 _ _ v _ (fun _ => zero_f32) (f := fun b t H => a.dPre b t (H / 8) (H % 8)) e161 j
    have e163 : ∀ j : S1x1x32.Idx, val_main_v163 (F := Ideal) x0 x1 x2 x3 x4 x5 x6 j = ((a.dTB ((j 2).val / 8) ((j 2).val % 8) : ℝ) : EReal) := fun j => by
      have h0 : (j 0).val < 1 := (j 0).isLt; have h1 : (j 1).val < 1 := (j 1).isLt; have h2 : (j 2).val < 32 := (j 2).isLt
      rw [val_main_v163_apply, e162]
      have e : ((idx_main_v163 j) 0).val = (j 2).val := by
        show ((j 0).val * 1 + (j 1).val) * 32 + (j 2).val = _
        omega
      rw [e]
    have e164 : ∀ j : S32.Idx, val_main_v164 (F := Ideal) x0 x1 x2 x3 x4 x5 x6 j = ((a.dTB ((j 0).val / 8) ((j 0).val % 8) : ℝ) : EReal) := fun j => by
      unfold val_main_v164
      generalize val_main_v163 (F := Ideal) x0 x1 x2 x3 x4 x5 x6 = v at e163 ⊢
      refine (sum01 _ _ v _ (fun _ => zero_f32) (f := fun _ _ H => a.dTB (H / 8) (H % 8)) e163 j).trans ?_
      rw [Finset.sum_range_one, Finset.sum_range_one]
    have e : ∀ j : S4x1x8.Idx, val_main_v175 (F := Ideal) x0 x1 x2 x3 x4 x5 x6 j = ((a.dTB (j 0).val (j 2).val : ℝ) : EReal) := fun j => by
      have h0 : (j 0).val < 4 := (j 0).isLt; have h1 : (j 1).val < 1 := (j 1).isLt; have h2 : (j 2).val < 8 := (j 2).isLt
      have q : ((idx_main_v175 j) 0).val = (j 0).val * 8 + (j 2).val := by
        show ((j 0).val * 1 + (j 1).val) * 8 + (j 2).val = _
        omega
      have q1 : ((j 0).val * 8 + (j 2).val) / 8 = (j 0).val := by omega
      have q2 : ((j 0).val * 8 + (j 2).val) % 8 = (j 2).val := by omega
      rw [val_main_v175_apply, e164, q, q1, q2]
    rw [if_pos h2]
    refine (pad_apply_of_inside _ _ _ _ _ _ _ _ ((ValueIdx.ix3 (i 0) (i 1) (⟨(i 2).val, h2⟩ : Fin 8) : S4x1x8.Idx)) ?_).trans (e _)
    intro d
    match d with
    | ⟨0, _⟩ => simp
    | ⟨1, _⟩ => simp
    | ⟨2, _⟩ => simp
  · rw [if_neg h2]
    refine (pad_apply_of_not_inside _ _ _ _ _ _ _ _ (2 : Fin 3) ?_).trans ?_
    · simp; omega
    · show (((0#32 : BitVec 32).toInt : ℝ) : EReal) = _
      simp

end Ssd.Ref
end
-- ==== Proof.Arr4.lean ====
module
public import proofs.«01_k».proof.Proof.Arr3
public import proofs.«01_k».proof.Proof.Scan3
public import proofs.«01_k».proof.Proof.Ref4

/-! The kernel's arrays of the gradients of the steps, of the decay rates and of the step bias hold what the reference's
    hold. -/

@[expose] public section
set_option maxRecDepth 16384

noncomputable section
namespace Ssd.Kern
open Idealize.ShloMosaic Idealize.ShloMosaic.ValueIdx Idealize.ShloMosaic.TcCoe Cert.KernelIdeal Cert.KernelIdeal.Gen Ssd.Blocks
open scoped BigOperators

theorem at4 {n m : ℕ} {φ : FTy} {v : FVec Ideal ⟨4, ![1, 1, n, m]⟩ φ} {f : ℕ → ℕ → ℝ} (h : R4 v f) (y : (⟨4, ![1, 1, n, m]⟩ : Shape).Idx) :
    v y = ((f (y 2).val (y 3).val : ℝ) : EReal) := by
  rw [ValueIdx.eq_ix4 y]
  exact h _ _ _ _

variable {m : (ℓ : Loc nD τ Cert.KernelIdeal.sig) → Buf (Elt Ideal) ℓ} {c : Dev nD} {a : Args}
variable (h : Holds m c a) (t : Fin cfg0.N)
include h

/-- The steps before the softplus at a point. -/
theorem preV_real : R2 (k0_pay8 (iblk m c 7 t) (iblk m c 8 t)) (fun r j => (if j < 8 then a.P (ba t) (ch t * 128 + r) (11264 + (gr t * 8 + j)) else 0)
    + (if j < 8 then a.TB (gr t * 8 + j) else 0)) := pre_real (x7 h t) (x8 h t)

/-- The gradient of the steps before the softplus at a point. -/
theorem ddtr_at : R4 (n := 128) (m := 128) (φ := .f32) (outsAt0 m c t.val t.isLt).2.2.2.2.1
    (fun r j => if j < 8 then a.dPre (ba t) (ch t * 128 + r) (gr t) j else 0) := fun p q r j => by
  refine (Points.ddtr_at m c t (acsV_real h t) (dyV_real h t) (x2 h t) (x3 h t) (x4 h t) (x6 h t) (dtX_real h t) (acsX_real h t) (endX_real h t) (x9 h t)
    (dd_first t) (dh_before h t) (preV_real h t) p q r j).trans ?_
  exact congrArg _ (a.dpr_block (ba t) (gr t) (ch t * 128) (ch_le t) r.val j.val r.isLt)

/-- What a point adds to the gradient of the step bias. -/
def dtbAt (a : Args) (t j : ℕ) : ℝ := ∑ r ∈ Finset.range 128, if j < 8 then a.dPre (ba t) (ch t * 128 + r) (gr t) j else 0
/-- What a point adds to the gradient of the decay rates' logarithms. -/
def dalAt (a : Args) (t j : ℕ) : ℝ :=
  if j < 8 then (∑ r ∈ Finset.range 128, a.dt (ba t) (ch t * 128 + r) (gr t * 8 + j) * a.dDA (ba t) (ch t * 128 + r) (gr t) j) * a.rate (gr t * 8 + j) else 0

theorem ddtb_step (L : ℕ → ℝ) (hL0 : t.val % 32 = 0 → ∀ j : ℕ, L j = 0)
    (hL1 : t.val % 32 ≠ 0 → R3 (n := 1) (m := 128) (φ := .f32) (outsAt0 m c (t.val - 1) (Nat.lt_of_le_of_lt (Nat.sub_le _ _) t.isLt)).2.2.2.2.2.2.2.1 (fun _ j => L j)) :
    R3 (n := 1) (m := 128) (φ := .f32) (outsAt0 m c t.val t.isLt).2.2.2.2.2.2.2.1 (fun _ j => L j + dtbAt a t.val j) :=
  (Points.ddtb_at m c t (acsV_real h t) (dyV_real h t) (x2 h t) (x3 h t) (x4 h t) (x6 h t) (dtX_real h t) (acsX_real h t) (endX_real h t) (x9 h t)
    (dd_first t) (dh_before h t) (preV_real h t) hL0 hL1).congr fun _ j _ _ => congrArg (L j + ·)
      (Finset.sum_congr rfl fun r hr => a.dpr_block (ba t) (gr t) (ch t * 128) (ch_le t) r j (Finset.mem_range.mp hr))

theorem dalog_step (L : ℕ → ℝ) (hL0 : t.val % 32 = 0 → ∀ j : ℕ, L j = 0)
    (hL1 : t.val % 32 ≠ 0 → R3 (n := 1) (m := 128) (φ := .f32) (outsAt0 m c (t.val - 1) (Nat.lt_of_le_of_lt (Nat.sub_le _ _) t.isLt)).2.2.2.2.2.2.1 (fun _ j => L j)) :
    R3 (n := 1) (m := 128) (φ := .f32) (outsAt0 m c t.val t.isLt).2.2.2.2.2.2.1 (fun _ j => L j + dalAt a t.val j) :=
  (Points.dalog_at m c t (acsV_real h t) (dyV_real h t) (x2 h t) (x3 h t) (x4 h t) (x6 h t) (dtX_real h t) (acsX_real h t) (endX_real h t) (x9 h t)
    (dd_first t) (dh_before h t) (dtV_real h t) hL0 hL1).congr fun _ j _ _ => congrArg (L j + ·) (by
      unfold dalAt rte
      by_cases hj : j < 8
      · simp only [if_pos hj]
        rw [zero_sub]
        exact congrArg (· * _) (Finset.sum_congr rfl fun r hr => congrArg _ (a.rcP_block (ba t) (gr t) (ch t * 128) (ch_le t) r j (Finset.mem_range.mp hr) hj))
      · simp only [if_neg hj, mul_zero])

theorem ddtb_at (n : ℕ) (hn : n < cfg0.N) : R3 (n := 1) (m := 128) (φ := .f32) (outsAt0 m c n hn).2.2.2.2.2.2.2.1
    (fun _ q => ∑ k ∈ Finset.range (n % 32 + 1), dtbAt a (n / 32 * 32 + k) q) := by
  refine accum (fun n hn => (outsAt0 m c n hn).2.2.2.2.2.2.2.1) (dtbAt a) ?_ ?_ n hn
  · exact fun n hn h0 => (ddtb_step h ⟨n, hn⟩ (fun _ => 0) (fun _ _ => rfl) (fun h1 => absurd h0 h1)).congr fun _ _ _ _ => zero_add _
  · exact fun n hn h0 A hA => ddtb_step h ⟨n, hn⟩ A (fun h1 => absurd h1 h0) (fun _ => hA)

theorem dalog_at (n : ℕ) (hn : n < cfg0.N) : R3 (n := 1) (m := 128) (φ := .f32) (outsAt0 m c n hn).2.2.2.2.2.2.1
    (fun _ q => ∑ k ∈ Finset.range (n % 32 + 1), dalAt a (n / 32 * 32 + k) q) := by
  refine accum (fun n hn => (outsAt0 m c n hn).2.2.2.2.2.2.1) (dalAt a) ?_ ?_ n hn
  · exact fun n hn h0 => (dalog_step h ⟨n, hn⟩ (fun _ => 0) (fun _ _ => rfl) (fun h1 => absurd h0 h1)).congr fun _ _ _ _ => zero_add _
  · exact fun n hn h0 A hA => dalog_step h ⟨n, hn⟩ A (fun h1 => absurd h1 h0) (fun _ => hA)

omit h in
/-- The sum of a group's points. -/
theorem sum_dtb (g j : ℕ) : ∑ k ∈ Finset.range 32, dtbAt a (g * 32 + k) j = if j < 8 then a.dTB g j else 0 := by
  have e : ∀ k ∈ Finset.range 32, dtbAt a (g * 32 + k) j = if j < 8 then ∑ r ∈ Finset.range 128, a.dPre (ba (g * 32 + k)) (ch (g * 32 + k) * 128 + r) g j else 0 := fun k hk => by
    rw [dtbAt, show gr (g * 32 + k) = g by have := Finset.mem_range.mp hk; simp only [gr]; omega]
    split
    · rfl
    · exact Finset.sum_const_zero
  rw [Finset.sum_congr rfl e]
  by_cases hj : j < 8
  · simp only [if_pos hj]
    exact sum_points g fun b t => a.dPre b t g j
  · simp only [if_neg hj, Finset.sum_const_zero]
omit h in
theorem sum_dal (g j : ℕ) : ∑ k ∈ Finset.range 32, dalAt a (g * 32 + k) j = if j < 8 then a.dAL g j else 0 := by
  have e : ∀ k ∈ Finset.range 32, dalAt a (g * 32 + k) j = if j < 8 then (∑ r ∈ Finset.range 128,
      a.dt (ba (g * 32 + k)) (ch (g * 32 + k) * 128 + r) (g * 8 + j) * a.dDA (ba (g * 32 + k)) (ch (g * 32 + k) * 128 + r) g j) * a.rate (g * 8 + j) else 0 := fun k hk => by
    rw [dalAt, show gr (g * 32 + k) = g by have := Finset.mem_range.mp hk; simp only [gr]; omega]
  rw [Finset.sum_congr rfl e]
  by_cases hj : j < 8
  · simp only [if_pos hj]
    rw [← Finset.sum_mul, sum_points g fun b t => a.dt b t (g * 8 + j) * a.dDA b t g j, Args.dAL, Args.rate]
    ring
  · simp only [if_neg hj, Finset.sum_const_zero]

omit h in
theorem i16 : ∀ t : Fin cfg0.N, win0_16.index t = ![ba t.val, gr t.val, ch t.val, 0] := (by decide +kernel : ∀ t : Fin grid0.N, _)
omit h in
theorem i18 : ∀ t : Fin cfg0.N, win0_18.index t = ![gr t.val, 0, 0] := (by decide +kernel : ∀ t : Fin grid0.N, _)
omit h in
theorem i19 : ∀ t : Fin cfg0.N, win0_19.index t = ![gr t.val, 0, 0] := (by decide +kernel : ∀ t : Fin grid0.N, _)

/-- The gradient of the steps, as the array the kernel returns. -/
def dtrArr (a : Args) : FVec Ideal S2x4x2048x128 .f32 := fun i => ((if (i 3).val < 8 then a.dPre (i 0).val (i 2).val (i 1).val (i 3).val else 0 : ℝ) : EReal)
/-- The gradient of the decay rates' logarithms, as the array the kernel returns. -/
def dalArr (a : Args) : FVec Ideal S4x1x128 .f32 := fun i => ((if (i 2).val < 8 then a.dAL (i 0).val (i 2).val else 0 : ℝ) : EReal)
/-- The gradient of the step bias, as the array the kernel returns. -/
def dtbArr (a : Args) : FVec Ideal S4x1x128 .f32 := fun i => ((if (i 2).val < 8 then a.dTB (i 0).val (i 2).val else 0 : ℝ) : EReal)

/-- The kernel's array of the steps' gradient. -/
theorem ddtr_arr (i : S2x4x2048x128.Idx) : (dats m 0 c).arrAt 16 cfg0.N i
    = ((if (i 3).val < 8 then a.dPre (i 0).val (i 2).val (i 1).val (i 3).val else 0 : ℝ) : EReal) := by
  refine congrFun ((dats m 0 c).arrAt_eq_of_covers 16 (dtrArr a) (by decide +kernel) fun t hf y => ?_) i
  blk_simp [i16]
  rw [after0_16]
  have e := at4 (ddtr_at h t) y
  have b0 : (y 0).val < 1 := (y 0).isLt
  have b1 : (y 1).val < 1 := (y 1).isLt
  have e0 : ((((cfg0.win 16).blk t).view.emb y) 0).val = ba t.val := by blk_simp [i16]
  have e1 : ((((cfg0.win 16).blk t).view.emb y) 1).val = gr t.val := by blk_simp [i16]
  have e2 : ((((cfg0.win 16).blk t).view.emb y) 2).val = ch t.val * 128 + (y 2).val := by blk_simp [i16]
  have e3 : ((((cfg0.win 16).blk t).view.emb y) 3).val = (y 3).val := by blk_simp [i16]
  exact e.trans (by rw [dtrArr]; exact congrArg _ (by rw [e0, e1, e2, e3]))

/-- The kernel's array of the decay rates' gradient. -/
theorem dalog_arr (i : S4x1x128.Idx) : (dats m 0 c).arrAt 18 cfg0.N i = ((if (i 2).val < 8 then a.dAL (i 0).val (i 2).val else 0 : ℝ) : EReal) := by
  refine congrFun ((dats m 0 c).arrAt_eq_of_covers 18 (dalArr a) (by decide +kernel) fun t hf y => ?_) i
  have ht : t.val % 32 = 31 := (flush0_18 t).mp hf
  blk_simp [i18]
  rw [after0_18]
  have e := (dalog_at h t.val t.isLt).at y
  have hw : ∀ q, ∑ k ∈ Finset.range (t.val % 32 + 1), dalAt a (t.val / 32 * 32 + k) q = if q < 8 then a.dAL (gr t.val) q else 0 := fun q => by
    rw [ht, show t.val / 32 = gr t.val from rfl, ← sum_dal]
  rw [hw] at e
  have e0 : ((((cfg0.win 18).blk t).view.emb y) 0).val = gr t.val := by blk_simp [i18]
  have e2 : ((((cfg0.win 18).blk t).view.emb y) 2).val = (y 2).val := by blk_simp [i18]
  exact e.trans (by rw [dalArr]; exact congrArg _ (by rw [e0, e2]))

/-- The kernel's array of the step bias's gradient. -/
theorem ddtb_arr (i : S4x1x128.Idx) : (dats m 0 c).arrAt 19 cfg0.N i = ((if (i 2).val < 8 then a.dTB (i 0).val (i 2).val else 0 : ℝ) : EReal) := by
  refine congrFun ((dats m 0 c).arrAt_eq_of_covers 19 (dtbArr a) (by decide +kernel) fun t hf y => ?_) i
  have ht : t.val % 32 = 31 := (flush0_19 t).mp hf
  blk_simp [i19]
  rw [after0_19]
  have e := (ddtb_at h t.val t.isLt).at y
  have hw : ∀ q, ∑ k ∈ Finset.range (t.val % 32 + 1), dtbAt a (t.val / 32 * 32 + k) q = if q < 8 then a.dTB (gr t.val) q else 0 := fun q => by
    rw [ht, show t.val / 32 = gr t.val from rfl, ← sum_dtb]
  rw [hw] at e
  have e0 : ((((cfg0.win 19).blk t).view.emb y) 0).val = gr t.val := by blk_simp [i19]
  have e2 : ((((cfg0.win 19).blk t).view.emb y) 2).val = (y 2).val := by blk_simp [i19]
  exact e.trans (by rw [dtbArr]; exact congrArg _ (by rw [e0, e2]))

end Ssd.Kern
end
-- ==== Proof.Value.lean ====
module
public import proofs.«01_k».proof.Proof.Arr3
public import proofs.«01_k».proof.Proof.Arr4
public import proofs.«01_k».proof.Proof.Gen.KernelIdeal.Value
public import proofs.«01_k».proof.Proof.Gen.ReferenceIdeal.Run
public import proofs.«01_k».proof.Proof.Gen.Pre_finite
public import proofs.«01_k».proof.Defs

/-! The value claim: over finite arguments the kernel's arrays are the reference's. -/

@[expose] public section
set_option maxRecDepth 16384

noncomputable section
namespace Ssd
open Idealize.ShloMosaic Idealize.ShloMosaic.TcCoe Idealize.SL.Sem Cert.ReferenceIdeal.Read

/-- Over finite arguments every returned array of the kernel holds what the reference's holds. -/
theorem value : Cert.algebraic_KernelIdeal_ReferenceIdeal_pre_finite := by
  intro m g m' g' hp hm
  refine ⟨fun c => val_main_v150 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)),
    fun c => val_main_v149 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)),
    fun c => val_main_v148 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)),
    fun c => val_main_v168 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)),
    fun c => val_main_v171 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)),
    fun c => val_main_v172 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)),
    fun c => val_main_v174 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)),
    fun c => val_main_v176 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)),
    fun c => val_main_v178 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)), ?_, ?_⟩
  · refine (θ_run _ _ _).mono (fun r hr c => ?_) (Cert.KernelIdeal.Value.run_blocks m g)
    obtain ⟨a, h⟩ := Args.exists_of _ _ _ _ _ _ _ _ (hp c)
    obtain ⟨e0, e1, e2, e3, e4, e5, e6, e7, e8, k⟩ := hr c
    exact ⟨e0.trans (funext fun i => (Kern.dxs_arr h i).trans (Ref.s150 h i).symm),
      e1.trans (funext fun i => (Kern.dbm_arr h i).trans (Ref.s149 h i).symm),
      e2.trans (funext fun i => (Kern.dcm_arr h i).trans (Ref.s148 h i).symm),
      e3.trans (funext fun i => Kern.dproj_arr h i),
      e4.trans (funext fun i => (Kern.ddtr_arr h i).trans (Ref.s171 h i).symm),
      e5.trans (funext fun i => (Kern.dsnw_arr h i).trans (Ref.s172 h i).symm),
      e6.trans (funext fun i => (Kern.dalog_arr h i).trans (Ref.s174 h i).symm),
      e7.trans (funext fun i => (Kern.ddtb_arr h i).trans (Ref.s176 h i).symm),
      e8.trans (funext fun i => (Kern.dskip_arr h i).trans (Ref.s178 h i).symm), k⟩
  · refine (θ_run _ _ _).mono (fun r hr c => ?_) (Cert.ReferenceIdeal.Value.run m' g')
    obtain ⟨m0, m1, m2, m3, m4, m5, m6, m7⟩ := hm c
    obtain ⟨e0, e1, e2, e3, e4, e5, e6, e7, e8, k⟩ := hr c
    refine ⟨e0.trans ((val_main_v150_eq _).trans ?_),
      e1.trans ((val_main_v149_eq _).trans ?_),
      e2.trans ((val_main_v148_eq _).trans ?_),
      e3.trans ((val_main_v168_eq _).trans ?_),
      e4.trans ((val_main_v171_eq _).trans ?_),
      e5.trans ((val_main_v172_eq _).trans ?_),
      e6.trans ((val_main_v174_eq _).trans ?_),
      e7.trans ((val_main_v176_eq _).trans ?_),
      e8.trans ((val_main_v178_eq _).trans ?_), k⟩
    · exact congr (congr (congr (congr (congr (congr (congrArg _ m0) m1) m2) m3) m4) m5) m6
    · exact congr (congr (congr (congr (congr (congr (congrArg _ m0) m1) m2) m3) m4) m5) m6
    · exact congr (congr (congr (congr (congr (congr (congrArg _ m0) m1) m2) m3) m4) m5) m6
    · exact congr (congr (congr (congr (congr (congr (congr (congrArg _ m0) m1) m2) m3) m4) m5) m6) m7
    · exact congr (congr (congr (congr (congr (congr (congrArg _ m0) m1) m2) m3) m4) m5) m6
    · exact congr (congr (congr (congr (congr (congrArg _ m0) m1) m2) m3) m4) m5
    · exact congr (congr (congr (congr (congr (congr (congrArg _ m0) m1) m2) m3) m4) m5) m6
    · exact congr (congr (congr (congr (congr (congr (congrArg _ m0) m1) m2) m3) m4) m5) m6
    · exact congr (congr (congr (congr (congr (congr (congrArg _ m0) m1) m2) m3) m4) m5) m6

end Ssd
end
-- ==== Proof.Blocked.lean ====
module
public import Idealize.ShloMosaic.Lib.Pipeline.Value
public import Idealize.ShloMosaic.Lib.ValueIdx
public import Idealize.ShloMosaic.Lib.MatmulPlain

/-! Products computed block by block: an array read at natural numbers, one block's product at an index, and the sum
    over the blocks of the contracted axis. No finiteness is asked: addition of extended reals is associative. -/

@[expose] public section
set_option maxRecDepth 16384

noncomputable section
namespace Blocked
open Idealize.ShloMosaic Idealize.ShloMosaic.ValueIdx
open scoped BigOperators

variable {n m k : ℕ}

/-- A matrix read at natural numbers, zero outside. -/
def ext {φ : FTy} (A : FVec Ideal ⟨2, ![n, m]⟩ φ) (r c : ℕ) : EReal :=
  if h : r < n ∧ c < m then A (ix2 ⟨r, h.1⟩ ⟨c, h.2⟩) else 0

theorem ext_apply {φ : FTy} (A : FVec Ideal ⟨2, ![n, m]⟩ φ) (i : (⟨2, ![n, m]⟩ : Shape).Idx) :
    A i = ext A (i 0).val (i 1).val := by
  unfold ext
  rw [dif_pos (⟨(i 0).isLt, (i 1).isLt⟩ : (i 0).val < n ∧ (i 1).val < m)]
  congr 1
  funext a
  match a with
  | ⟨0, _⟩ => rfl
  | ⟨1, _⟩ => rfl

variable {φ₁ φ₂ : FTy} (a₀ : FVec Ideal ⟨2, ![n, m]⟩ .f32)

/-- An accumulator and a product of rows with columns, at an index. -/
theorem add_dot10 {w} (a : FVec Ideal ⟨2, ![n, k]⟩ φ₁) (b : FVec Ideal ⟨2, ![k, m]⟩ φ₂) (prec) (r : Fin n) (c : Fin m) :
    addf a₀ (matmul (⟨[1], [0], [0], [1], [], [], w⟩ : DotDims ⟨2, ![n, k]⟩ ⟨2, ![k, m]⟩ ⟨2, ![n, m]⟩) prec a b
      (constant ⟨2, ![n, m]⟩ .f32 0x00000000#32)) (ix2 r c) = a₀ (ix2 r c) + ∑ i : Fin k, a (ix2 r i) * b (ix2 i c) := by
  show a₀ (ix2 r c) + FloatOps.matmul _ prec a b _ (ix2 r c) = _
  congr 1
  rw [Ideal.matmul_apply, constant_apply, Ideal.ofBits_zero_f32, zero_add,
    ← Equiv.sum_comp (contrEquiv1 (⟨[1], [0], [0], [1], [], [], w⟩ : DotDims _ _ _) k rfl rfl).symm]
  refine Finset.sum_congr rfl fun i _ => ?_
  have c2 := contrEquiv1_symm_val (⟨[1], [0], [0], [1], [], [], w⟩ : DotDims ⟨2, ![n, k]⟩ ⟨2, ![k, m]⟩ ⟨2, ![n, m]⟩) k rfl rfl i
  have el : (⟨[1], [0], [0], [1], [], [], w⟩ : DotDims ⟨2, ![n, k]⟩ ⟨2, ![k, m]⟩ ⟨2, ![n, m]⟩).lhsIdx (ix2 r c) ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have er : (⟨[1], [0], [0], [1], [], [], w⟩ : DotDims ⟨2, ![n, k]⟩ ⟨2, ![k, m]⟩ ⟨2, ![n, m]⟩).rhsIdx (ix2 r c) ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [el, er]

/-- An accumulator and a product of rows with rows, at an index. -/
theorem add_dot11 {w} (a : FVec Ideal ⟨2, ![n, k]⟩ φ₁) (b : FVec Ideal ⟨2, ![m, k]⟩ φ₂) (prec) (r : Fin n) (c : Fin m) :
    addf a₀ (matmul (⟨[1], [1], [0], [0], [], [], w⟩ : DotDims ⟨2, ![n, k]⟩ ⟨2, ![m, k]⟩ ⟨2, ![n, m]⟩) prec a b
      (constant ⟨2, ![n, m]⟩ .f32 0x00000000#32)) (ix2 r c) = a₀ (ix2 r c) + ∑ i : Fin k, a (ix2 r i) * b (ix2 c i) := by
  show a₀ (ix2 r c) + FloatOps.matmul _ prec a b _ (ix2 r c) = _
  congr 1
  rw [Ideal.matmul_apply, constant_apply, Ideal.ofBits_zero_f32, zero_add,
    ← Equiv.sum_comp (contrEquiv1 (⟨[1], [1], [0], [0], [], [], w⟩ : DotDims _ _ _) k rfl rfl).symm]
  refine Finset.sum_congr rfl fun i _ => ?_
  have c2 := contrEquiv1_symm_val (⟨[1], [1], [0], [0], [], [], w⟩ : DotDims ⟨2, ![n, k]⟩ ⟨2, ![m, k]⟩ ⟨2, ![n, m]⟩) k rfl rfl i
  have el : (⟨[1], [1], [0], [0], [], [], w⟩ : DotDims ⟨2, ![n, k]⟩ ⟨2, ![m, k]⟩ ⟨2, ![n, m]⟩).lhsIdx (ix2 r c) ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have er : (⟨[1], [1], [0], [0], [], [], w⟩ : DotDims ⟨2, ![n, k]⟩ ⟨2, ![m, k]⟩ ⟨2, ![n, m]⟩).rhsIdx (ix2 r c) ((contrEquiv1 _ k rfl rfl).symm i) = ix2 c i := by
    funext ax; apply Fin.ext
    match ax with
    | ⟨0, _⟩ => simp [DotDims.rhsIdx]; rfl
    | ⟨1, _⟩ => simp [DotDims.rhsIdx]; exact c2
  rw [el, er]

/-- An accumulator and a product of columns with columns, at an index. -/
theorem add_dot00 {w} (a : FVec Ideal ⟨2, ![k, n]⟩ φ₁) (b : FVec Ideal ⟨2, ![k, m]⟩ φ₂) (prec) (r : Fin n) (c : Fin m) :
    addf a₀ (matmul (⟨[0], [0], [1], [1], [], [], w⟩ : DotDims ⟨2, ![k, n]⟩ ⟨2, ![k, m]⟩ ⟨2, ![n, m]⟩) prec a b
      (constant ⟨2, ![n, m]⟩ .f32 0x00000000#32)) (ix2 r c) = a₀ (ix2 r c) + ∑ i : Fin k, a (ix2 i r) * b (ix2 i c) := by
  show a₀ (ix2 r c) + FloatOps.matmul _ prec a b _ (ix2 r c) = _
  congr 1
  rw [Ideal.matmul_apply, constant_apply, Ideal.ofBits_zero_f32, zero_add,
    ← Equiv.sum_comp (contrEquiv1 (⟨[0], [0], [1], [1], [], [], w⟩ : DotDims _ _ _) k rfl rfl).symm]
  refine Finset.sum_congr rfl fun i _ => ?_
  have c2 := contrEquiv1_symm_val (⟨[0], [0], [1], [1], [], [], w⟩ : DotDims ⟨2, ![k, n]⟩ ⟨2, ![k, m]⟩ ⟨2, ![n, m]⟩) k rfl rfl i
  have el : (⟨[0], [0], [1], [1], [], [], w⟩ : DotDims ⟨2, ![k, n]⟩ ⟨2, ![k, m]⟩ ⟨2, ![n, m]⟩).lhsIdx (ix2 r c) ((contrEquiv1 _ k rfl rfl).symm i) = ix2 i r := by
    funext ax; apply Fin.ext
    match ax with
    | ⟨0, _⟩ => simp [DotDims.lhsIdx]; exact c2
    | ⟨1, _⟩ => simp [DotDims.lhsIdx]; rfl
  have er : (⟨[0], [0], [1], [1], [], [], w⟩ : DotDims ⟨2, ![k, n]⟩ ⟨2, ![k, m]⟩ ⟨2, ![n, m]⟩).rhsIdx (ix2 r c) ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [el, er]

/-- The sum over `b` blocks of `w` terms is the sum over all the terms. -/
theorem sum_blocks (w : ℕ) (F : ℕ → EReal) : ∀ b : ℕ,
    ∑ s ∈ Finset.range b, ∑ i : Fin w, F (w * s + i.val) = ∑ j : Fin (w * b), F j.val := fun b => by
  rw [Fin.sum_univ_eq_sum_range F (w * b)]
  induction b with
  | zero => simp
  | succ b ih =>
    rw [Finset.sum_range_succ, ih, Nat.mul_succ, Finset.sum_range_add, Fin.sum_univ_eq_sum_range (fun i => F (w * b + i)) w]

/-- A block reset at a run's first point and added into at each later one ends at the sum over the whole contracted axis:
    point `b + s` adds the `s`-th block of `w` terms. -/
theorem folded {N : ℕ} {w J K : ℕ} (hK : w * (J + 1) = K) (F : (⟨2, ![n, m]⟩ : Shape).Idx → ℕ → EReal)
    (a : (p : ℕ) → p < N → FVec Ideal ⟨2, ![n, m]⟩ .f32) (g : (p : ℕ) → p < N → FVec Ideal ⟨2, ![n, m]⟩ .f32 → FVec Ideal ⟨2, ![n, m]⟩ .f32)
    (b : ℕ) (ha : ∀ h i, a b h i = ∑ j : Fin w, F i j.val)
    (hg : ∀ s, 0 < s → s ≤ J → ∀ h acc i, g (b + s) h acc i = acc i + ∑ j : Fin w, F i (w * s + j.val))
    (h : b + J < N) (i) : Pipeline.accAt a g b J h i = ∑ j : Fin K, F i j.val := by
  subst hK
  have := Pipeline.accAt_add_apply a g (fun _ => (0 : EReal)) (fun p i => ∑ j : Fin w, F i (w * (p - b) + j.val)) b J
    (fun h i => by rw [ha h i, zero_add]; simp) (fun p h acc i h1 h2 => by
      obtain ⟨s, rfl⟩ := Nat.exists_eq_add_of_lt h1
      have := hg (s + 1) (by omega) (by omega) h acc i
      rw [show b + s + 1 - b = s + 1 by omega]
      exact this) J le_rfl h i
  refine this.trans ?_
  rw [zero_add, ← sum_blocks w (F i) (J + 1)]
  exact Finset.sum_congr rfl fun s _ => by simp

end Blocked
end
-- ==== Proof.Dh.lean ====
module
public import proofs.«01_k».proof.Proof.Blocked
public import proofs.«01_k».proof.Proof.Gen.Kernel2Ideal.Value
public import proofs.«01_k».proof.Proof.Gen.Reference2Ideal.Run
public import proofs.«01_k».proof.Proof.Gen.Reference2Ideal.Read
public import proofs.«01_k».proof.Defs
public import Idealize.ShloMosaic.Lib.Pipeline.ValueKit

/-! The input projection's gradient of its left factor (`d_h`): the call's array is the reference's. -/

@[expose] public section
set_option maxRecDepth 16384

noncomputable section
namespace Blocked.Dh
open Idealize.ShloMosaic Idealize.ShloMosaic.TcCoe Idealize.SL.Sem Cert.Kernel2Ideal Cert.Kernel2Ideal.Gen Cert.Kernel2Ideal.Value

theorem i0 : ∀ t : Fin cfg0.N, win0_0.index t = ![t.val / 9, t.val % 9] := (by decide +kernel : ∀ t : Fin grid0.N, _)
theorem i1 : ∀ t : Fin cfg0.N, win0_1.index t = ![t.val % 9, 0] := (by decide +kernel : ∀ t : Fin grid0.N, _)

variable (m : (ℓ : Loc nD τ sig) → Buf (Elt Ideal) ℓ) (c : Dev nD)

/-- The two arguments, read at natural numbers. -/
def A (r k : ℕ) : EReal := ext (φ := .bf16) (n := 4096) (m := 11520) (m ((c.tc : Thread nD τ).loc main_arg0)) r k
def B (k q : ℕ) : EReal := ext (φ := .bf16) (n := 11520) (m := 1024) (m ((c.tc : Thread nD τ).loc main_arg1)) k q

theorem b0 (t : Fin cfg0.N) (r : Fin 2048) (k : Fin 1280) :
    (iblk m c 0 t : FVec Ideal S2048x1280 .bf16) (ValueIdx.ix2 r k) = A m c (2048 * (t.val / 9) + r.val) (1280 * (t.val % 9) + k.val) := by
  refine (ext_apply (φ := .bf16) (n := 4096) (m := 11520) (m ((c.tc : Thread nD τ).loc main_arg0)) (((cfg0.win 0).blk t).view.emb (ValueIdx.ix2 r k))).trans ?_
  show ext _ (win0_0.index t 0 * 2048 + 1 * r.val) (win0_0.index t 1 * 1280 + 1 * k.val) = _
  rw [i0]
  unfold A
  congr 1
  · show t.val / 9 * 2048 + 1 * r.val = _; omega
  · show t.val % 9 * 1280 + 1 * k.val = _; omega

theorem b1 (t : Fin cfg0.N) (k : Fin 1280) (q : Fin 1024) :
    (iblk m c 1 t : FVec Ideal S1280x1024 .bf16) (ValueIdx.ix2 k q) = B m c (1280 * (t.val % 9) + k.val) q.val := by
  refine (ext_apply (φ := .bf16) (n := 11520) (m := 1024) (m ((c.tc : Thread nD τ).loc main_arg1)) (((cfg0.win 1).blk t).view.emb (ValueIdx.ix2 k q))).trans ?_
  show ext _ (win0_1.index t 0 * 1280 + 1 * k.val) (win0_1.index t 1 * 1024 + 1 * q.val) = _
  rw [i1]
  unfold B
  congr 1
  · show t.val % 9 * 1280 + 1 * k.val = _; omega
  · show 0 * 1024 + 1 * q.val = _; omega

/-- One point adds its block's product. -/
theorem pay (t : Fin cfg0.N) (acc : Vec Ideal S2048x1024 .f32) (i : S2048x1024.Idx) :
    k0_pay2 acc (iblk m c 0 t) (iblk m c 1 t) i
      = acc i + ∑ j : Fin 1280, A m c (2048 * (t.val / 9) + (i 0).val) (1280 * (t.val % 9) + j.val) * B m c (1280 * (t.val % 9) + j.val) (i 1).val := by
  obtain ⟨r, q, rfl⟩ : ∃ r q, i = ValueIdx.ix2 r q := ⟨i 0, i 1, funext fun a => match a with | ⟨0, _⟩ => rfl | ⟨1, _⟩ => rfl⟩
  unfold k0_pay2
  dsimp only
  rw [shapeCast_self]
  refine (add_dot10 _ _ _ _ r q).trans ?_
  congr 1
  refine Finset.sum_congr rfl fun j _ => ?_
  rw [b0, b1]

/-- The call's array: every element is the whole product's. -/
theorem arr (i : S4096x1024.Idx) : G2 m c i = ∑ k : Fin 11520, A m c (i 0).val k.val * B m c k.val (i 1).val := by
  have hN : cfg0.N = 18 := N_0
  have h0 : (i 0).val < 4096 := (i 0).isLt
  have h1 : (i 1).val < 1024 := (i 1).isLt
  have hr : run2Of i = (i 0).val / 2048 := by show 1 * ((i 0).val / 2048 - 0) + 1 * ((i 1).val / 1024 - 0) = _; omega
  unfold G2
  rw [dif_pos (by rw [hr]; omega)]
  refine (folded (w := 1280) (J := 8) rfl
    (fun y k => A m c (2048 * ((i 0).val / 2048) + (y 0).val) k * B m c k (y 1).val) _ _ _ (fun h y => ?_) (fun s _ hs h acc y => ?_) _ _).trans ?_
  · refine (pay m c ⟨_, h⟩ _ y).trans ?_
    rw [show (9 * run2Of i) / 9 = (i 0).val / 2048 by omega, show (9 * run2Of i) % 9 = 0 by omega]
    rw [show k0_pay1 (F := Ideal) y = 0 from Ideal.ofBits_zero_f32, zero_add]
    simp only [Nat.mul_zero, Nat.zero_add]
  · refine (pay m c ⟨_, h⟩ acc y).trans ?_
    rw [show (9 * run2Of i + s) / 9 = (i 0).val / 2048 by omega, show (9 * run2Of i + s) % 9 = s by omega]
  · have e0 : 2048 * ((i 0).val / 2048) + (loc2Of i 0).val = (i 0).val := by
      show 2048 * ((i 0).val / 2048) + (i 0).val % 2048 = _; omega
    have e1 : (loc2Of i 1).val = (i 1).val := by show (i 1).val % 1024 = _; omega
    refine Finset.sum_congr rfl fun k _ => ?_
    show A m c (2048 * ((i 0).val / 2048) + (loc2Of i 0).val) _ * B m c _ (loc2Of i 1).val = _
    rw [e0, e1]

open Cert.Reference2Ideal.Read in
/-- The reference's array likewise. -/
theorem ref (i : S4096x1024.Idx) :
    val_main_v5 (F := Ideal) (m ((c.tc : Thread nD τ).loc main_arg0)) (m ((c.tc : Thread nD τ).loc main_arg1)) i
      = ∑ k : Fin 11520, A m c (i 0).val k.val * B m c k.val (i 1).val := by
  rw [val_main_v5_apply]
  refine Finset.sum_congr rfl fun k _ => ?_
  rw [val_main_v4_apply, val_main_v2_apply, val_main_v1_apply]
  exact congr (congrArg _ (ext_apply (φ := .bf16) (n := 4096) (m := 11520) (m ((c.tc : Thread nD τ).loc main_arg0)) _))
    (ext_apply (φ := .bf16) (n := 11520) (m := 1024) (m ((c.tc : Thread nD τ).loc main_arg1)) _)

/-- The call's array is the reference's. -/
theorem value : Cert.algebraic_Kernel2Ideal_Reference2Ideal := by
  intro m g m' g' _ hm
  refine ⟨fun c => Cert.Reference2Ideal.Read.val_main_v5 (F := Ideal) (m (c.tc.loc main_arg0)) (m (c.tc.loc main_arg1)), ?_, ?_⟩
  · refine (θ_run _ _ _).mono (fun r hr c => ?_) (Cert.Kernel2Ideal.Value.run m g)
    obtain ⟨e, k⟩ := hr c
    exact ⟨e.trans (funext fun i => (arr m c i).trans (ref m c i).symm), k⟩
  · refine (θ_run _ _ _).mono (fun r hr c => ?_) (Cert.Reference2Ideal.Value.run m' g')
    obtain ⟨m0, m1⟩ := hm c
    obtain ⟨e, k⟩ := hr c
    exact ⟨e.trans ((Cert.Reference2Ideal.Read.val_main_v5_eq _ _).trans (congr (congrArg _ m0) m1)), k⟩

end Blocked.Dh
end
-- ==== Proof.Gw.lean ====
module
public import proofs.«01_k».proof.Proof.Blocked
public import proofs.«01_k».proof.Proof.Gen.Kernel3Ideal.Value
public import proofs.«01_k».proof.Proof.Gen.Reference3Ideal.Run
public import proofs.«01_k».proof.Proof.Gen.Reference3Ideal.Read
public import proofs.«01_k».proof.Defs
public import Idealize.ShloMosaic.Lib.Pipeline.ValueKit

/-! The input projection's weight gradient (`g_w_in`): the call's array is the reference's. -/

@[expose] public section
set_option maxRecDepth 16384

noncomputable section
namespace Blocked.Gw
open Idealize.ShloMosaic Idealize.ShloMosaic.TcCoe Idealize.SL.Sem Cert.Kernel3Ideal Cert.Kernel3Ideal.Gen Cert.Kernel3Ideal.Value

theorem i0 : ∀ t : Fin cfg0.N, win0_0.index t = ![t.val % 4, t.val / 4] := (by decide +kernel : ∀ t : Fin grid0.N, _)
theorem i1 : ∀ t : Fin cfg0.N, win0_1.index t = ![t.val % 4, 0] := (by decide +kernel : ∀ t : Fin grid0.N, _)

variable (m : (ℓ : Loc nD τ sig) → Buf (Elt Ideal) ℓ) (c : Dev nD)

/-- The two arguments, read at natural numbers. -/
def A (i j : ℕ) : EReal := ext (φ := .bf16) (n := 4096) (m := 11520) (m ((c.tc : Thread nD τ).loc main_arg0)) i j
def B (i j : ℕ) : EReal := ext (φ := .bf16) (n := 4096) (m := 1024) (m ((c.tc : Thread nD τ).loc main_arg1)) i j

theorem b0 (t : Fin cfg0.N) (r : Fin 1280) (k : Fin 1024) :
    (iblk m c 0 t : FVec Ideal S1024x1280 .bf16) (ValueIdx.ix2 k r) = A m c (1024 * (t.val % 4) + k.val) (1280 * (t.val / 4) + r.val) := by
  refine (ext_apply (φ := .bf16) (n := 4096) (m := 11520) (m ((c.tc : Thread nD τ).loc main_arg0)) (((cfg0.win 0).blk t).view.emb (ValueIdx.ix2 k r))).trans ?_
  show ext _ (win0_0.index t 0 * 1024 + 1 * k.val) (win0_0.index t 1 * 1280 + 1 * r.val) = _
  rw [i0]
  unfold A
  congr 1
  · show t.val % 4 * 1024 + 1 * k.val = _; omega
  · show t.val / 4 * 1280 + 1 * r.val = _; omega

theorem b1 (t : Fin cfg0.N) (k : Fin 1024) (q : Fin 1024) :
    (iblk m c 1 t : FVec Ideal S1024x1024 .bf16) (ValueIdx.ix2 k q) = B m c (1024 * (t.val % 4) + k.val) q.val := by
  refine (ext_apply (φ := .bf16) (n := 4096) (m := 1024) (m ((c.tc : Thread nD τ).loc main_arg1)) (((cfg0.win 1).blk t).view.emb (ValueIdx.ix2 k q))).trans ?_
  show ext _ (win0_1.index t 0 * 1024 + 1 * k.val) (win0_1.index t 1 * 1024 + 1 * q.val) = _
  rw [i1]
  unfold B
  congr 1
  · show t.val % 4 * 1024 + 1 * k.val = _; omega
  · show 0 * 1024 + 1 * q.val = _; omega

/-- One point adds its block's product. -/
theorem pay (t : Fin cfg0.N) (acc : Vec Ideal S1280x1024 .f32) (i : S1280x1024.Idx) :
    k0_pay2 acc (iblk m c 0 t) (iblk m c 1 t) i
      = acc i + ∑ j : Fin 1024, A m c (1024 * (t.val % 4) + j.val) (1280 * (t.val / 4) + (i 0).val) * B m c (1024 * (t.val % 4) + j.val) (i 1).val := by
  obtain ⟨r, q, rfl⟩ : ∃ r q, i = ValueIdx.ix2 r q := ⟨i 0, i 1, funext fun a => match a with | ⟨0, _⟩ => rfl | ⟨1, _⟩ => rfl⟩
  unfold k0_pay2
  dsimp only
  rw [shapeCast_self]
  refine (add_dot00 _ _ _ _ r q).trans ?_
  congr 1
  refine Finset.sum_congr rfl fun j _ => ?_
  rw [b0, b1]

/-- The call's array: every element is the whole product's. -/
theorem arr (i : S11520x1024.Idx) : G2 m c i = ∑ k : Fin 4096, A m c k.val (i 0).val * B m c k.val (i 1).val := by
  have hN : cfg0.N = 36 := N_0
  have h0 : (i 0).val < 11520 := (i 0).isLt
  have h1 : (i 1).val < 1024 := (i 1).isLt
  have hr : run2Of i = (i 0).val / 1280 := by show 1 * ((i 0).val / 1280 - 0) + 1 * ((i 1).val / 1024 - 0) = _; omega
  unfold G2
  rw [dif_pos (by rw [hr]; omega)]
  refine (folded (w := 1024) (J := 3) rfl
    (fun y k => A m c k (1280 * ((i 0).val / 1280) + (y 0).val) * B m c k (y 1).val) _ _ _ (fun h y => ?_) (fun s _ hs h acc y => ?_) _ _).trans ?_
  · refine (pay m c ⟨_, h⟩ _ y).trans ?_
    rw [show (4 * run2Of i) / 4 = (i 0).val / 1280 by omega, show (4 * run2Of i) % 4 = 0 by omega]
    rw [show k0_pay1 (F := Ideal) y = 0 from Ideal.ofBits_zero_f32, zero_add]
    simp only [Nat.mul_zero, Nat.zero_add]
  · refine (pay m c ⟨_, h⟩ acc y).trans ?_
    rw [show (4 * run2Of i + s) / 4 = (i 0).val / 1280 by omega, show (4 * run2Of i + s) % 4 = s by omega]
  · have e0 : 1280 * ((i 0).val / 1280) + (loc2Of i 0).val = (i 0).val := by
      show 1280 * ((i 0).val / 1280) + (i 0).val % 1280 = _; omega
    have e1 : (loc2Of i 1).val = (i 1).val := by show (i 1).val % 1024 = _; omega
    refine Finset.sum_congr rfl fun k _ => ?_
    show A m c _ (1280 * ((i 0).val / 1280) + (loc2Of i 0).val) * B m c _ (loc2Of i 1).val = _
    rw [e0, e1]

open Cert.Reference3Ideal.Read in
/-- The reference's array likewise. -/
theorem ref (i : S11520x1024.Idx) :
    val_main_v7 (F := Ideal) (m ((c.tc : Thread nD τ).loc main_arg0)) (m ((c.tc : Thread nD τ).loc main_arg1)) i
      = ∑ k : Fin 4096, A m c k.val (i 0).val * B m c k.val (i 1).val := by
  rw [val_main_v7_apply, val_main_v6_apply, val_main_v5_apply]
  refine Finset.sum_congr rfl fun k _ => ?_
  rw [val_main_v4_apply, val_main_v1_apply]
  exact congrArg₂ (HMul.hMul (α := EReal) (β := EReal) (γ := EReal)) (ext_apply (φ := .bf16) (n := 4096) (m := 11520) (m ((c.tc : Thread nD τ).loc main_arg0)) _)
    (ext_apply (φ := .bf16) (n := 4096) (m := 1024) (m ((c.tc : Thread nD τ).loc main_arg1)) _)

/-- The call's array is the reference's. -/
theorem value : Cert.algebraic_Kernel3Ideal_Reference3Ideal := by
  intro m g m' g' _ hm
  refine ⟨fun c => Cert.Reference3Ideal.Read.val_main_v7 (F := Ideal) (m (c.tc.loc main_arg0)) (m (c.tc.loc main_arg1)), ?_, ?_⟩
  · refine (θ_run _ _ _).mono (fun r hr c => ?_) (Cert.Kernel3Ideal.Value.run m g)
    obtain ⟨e, k⟩ := hr c
    exact ⟨e.trans (funext fun i => (arr m c i).trans (ref m c i).symm), k⟩
  · refine (θ_run _ _ _).mono (fun r hr c => ?_) (Cert.Reference3Ideal.Value.run m' g')
    obtain ⟨m0, m1⟩ := hm c
    obtain ⟨e, k⟩ := hr c
    exact ⟨e.trans ((Cert.Reference3Ideal.Read.val_main_v7_eq _ _).trans (congr (congrArg _ m0) m1)), k⟩

end Blocked.Gw
end
-- ==== Proof.Go.lean ====
module
public import proofs.«01_k».proof.Proof.Blocked
public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.Pipeline.ValueKit

/-! The gradient of a square output weight (`g_w_o`): the call's array is the reference's. -/

@[expose] public section
set_option maxRecDepth 16384

noncomputable section
namespace Blocked.Go
open Idealize.ShloMosaic Idealize.ShloMosaic.TcCoe Idealize.SL.Sem Cert.Kernel4Ideal Cert.Kernel4Ideal.Gen Cert.Kernel4Ideal.Value

theorem i0 : ∀ t : Fin cfg0.N, win0_0.index t = ![t.val % 4, t.val / 4] := (by decide +kernel : ∀ t : Fin grid0.N, _)
theorem i1 : ∀ t : Fin cfg0.N, win0_1.index t = ![t.val % 4, 0] := (by decide +kernel : ∀ t : Fin grid0.N, _)

variable (m : (ℓ : Loc nD τ sig) → Buf (Elt Ideal) ℓ) (c : Dev nD)

/-- The two arguments, read at natural numbers. -/
def A (i j : ℕ) : EReal := ext (φ := .bf16) (n := 4096) (m := 1024) (m ((c.tc : Thread nD τ).loc main_arg0)) i j
def B (i j : ℕ) : EReal := ext (φ := .bf16) (n := 4096) (m := 1024) (m ((c.tc : Thread nD τ).loc main_arg1)) i j

theorem b0 (t : Fin cfg0.N) (r : Fin 512) (k : Fin 1024) :
    (iblk m c 0 t : FVec Ideal S1024x512 .bf16) (ValueIdx.ix2 k r) = A m c (1024 * (t.val % 4) + k.val) (512 * (t.val / 4) + r.val) := by
  refine (ext_apply (φ := .bf16) (n := 4096) (m := 1024) (m ((c.tc : Thread nD τ).loc main_arg0)) (((cfg0.win 0).blk t).view.emb (ValueIdx.ix2 k r))).trans ?_
  show ext _ (win0_0.index t 0 * 1024 + 1 * k.val) (win0_0.index t 1 * 512 + 1 * r.val) = _
  rw [i0]
  unfold A
  congr 1
  · show t.val % 4 * 1024 + 1 * k.val = _; omega
  · show t.val / 4 * 512 + 1 * r.val = _; omega

theorem b1 (t : Fin cfg0.N) (k : Fin 1024) (q : Fin 1024) :
    (iblk m c 1 t : FVec Ideal S1024x1024 .bf16) (ValueIdx.ix2 k q) = B m c (1024 * (t.val % 4) + k.val) q.val := by
  refine (ext_apply (φ := .bf16) (n := 4096) (m := 1024) (m ((c.tc : Thread nD τ).loc main_arg1)) (((cfg0.win 1).blk t).view.emb (ValueIdx.ix2 k q))).trans ?_
  show ext _ (win0_1.index t 0 * 1024 + 1 * k.val) (win0_1.index t 1 * 1024 + 1 * q.val) = _
  rw [i1]
  unfold B
  congr 1
  · show t.val % 4 * 1024 + 1 * k.val = _; omega
  · show 0 * 1024 + 1 * q.val = _; omega

/-- One point adds its block's product. -/
theorem pay (t : Fin cfg0.N) (acc : Vec Ideal S512x1024 .f32) (i : S512x1024.Idx) :
    k0_pay2 acc (iblk m c 0 t) (iblk m c 1 t) i
      = acc i + ∑ j : Fin 1024, A m c (1024 * (t.val % 4) + j.val) (512 * (t.val / 4) + (i 0).val) * B m c (1024 * (t.val % 4) + j.val) (i 1).val := by
  obtain ⟨r, q, rfl⟩ : ∃ r q, i = ValueIdx.ix2 r q := ⟨i 0, i 1, funext fun a => match a with | ⟨0, _⟩ => rfl | ⟨1, _⟩ => rfl⟩
  unfold k0_pay2
  dsimp only
  rw [shapeCast_self]
  refine (add_dot00 _ _ _ _ r q).trans ?_
  congr 1
  refine Finset.sum_congr rfl fun j _ => ?_
  rw [b0, b1]

/-- The call's array: every element is the whole product's. -/
theorem arr (i : S1024x1024.Idx) : G2 m c i = ∑ k : Fin 4096, A m c k.val (i 0).val * B m c k.val (i 1).val := by
  have hN : cfg0.N = 8 := N_0
  have h0 : (i 0).val < 1024 := (i 0).isLt
  have h1 : (i 1).val < 1024 := (i 1).isLt
  have hr : run2Of i = (i 0).val / 512 := by show 1 * ((i 0).val / 512 - 0) + 1 * ((i 1).val / 1024 - 0) = _; omega
  unfold G2
  rw [dif_pos (by rw [hr]; omega)]
  refine (folded (w := 1024) (J := 3) rfl
    (fun y k => A m c k (512 * ((i 0).val / 512) + (y 0).val) * B m c k (y 1).val) _ _ _ (fun h y => ?_) (fun s _ hs h acc y => ?_) _ _).trans ?_
  · refine (pay m c ⟨_, h⟩ _ y).trans ?_
    rw [show (4 * run2Of i) / 4 = (i 0).val / 512 by omega, show (4 * run2Of i) % 4 = 0 by omega]
    rw [show k0_pay1 (F := Ideal) y = 0 from Ideal.ofBits_zero_f32, zero_add]
    simp only [Nat.mul_zero, Nat.zero_add]
  · refine (pay m c ⟨_, h⟩ acc y).trans ?_
    rw [show (4 * run2Of i + s) / 4 = (i 0).val / 512 by omega, show (4 * run2Of i + s) % 4 = s by omega]
  · have e0 : 512 * ((i 0).val / 512) + (loc2Of i 0).val = (i 0).val := by
      show 512 * ((i 0).val / 512) + (i 0).val % 512 = _; omega
    have e1 : (loc2Of i 1).val = (i 1).val := by show (i 1).val % 1024 = _; omega
    refine Finset.sum_congr rfl fun k _ => ?_
    show A m c _ (512 * ((i 0).val / 512) + (loc2Of i 0).val) * B m c _ (loc2Of i 1).val = _
    rw [e0, e1]

open Cert.Reference4Ideal.Read in
/-- The reference's array likewise. -/
theorem ref (i : S1024x1024.Idx) :
    val_main_v5 (F := Ideal) (m ((c.tc : Thread nD τ).loc main_arg0)) (m ((c.tc : Thread nD τ).loc main_arg1)) i
      = ∑ k : Fin 4096, A m c k.val (i 0).val * B m c k.val (i 1).val := by
  rw [val_main_v5_apply, val_main_v4_apply]
  refine Finset.sum_congr rfl fun k _ => ?_
  rw [val_main_v3_apply, val_main_v1_apply]
  exact (congrArg₂ (HMul.hMul (α := EReal) (β := EReal) (γ := EReal)) (ext_apply (φ := .bf16) (n := 4096) (m := 1024) (m ((c.tc : Thread nD τ).loc main_arg1)) _)
    (ext_apply (φ := .bf16) (n := 4096) (m := 1024) (m ((c.tc : Thread nD τ).loc main_arg0)) _)).trans (mul_comm _ _)

/-- The call's array is the reference's. -/
theorem value : Cert.algebraic_Kernel4Ideal_Reference4Ideal := by
  intro m g m' g' _ hm
  refine ⟨fun c => Cert.Reference4Ideal.Read.val_main_v5 (F := Ideal) (m (c.tc.loc main_arg0)) (m (c.tc.loc main_arg1)), ?_, ?_⟩
  · refine (θ_run _ _ _).mono (fun r hr c => ?_) (Cert.Kernel4Ideal.Value.run m g)
    obtain ⟨e, k⟩ := hr c
    exact ⟨e.trans (funext fun i => (arr m c i).trans (ref m c i).symm), k⟩
  · refine (θ_run _ _ _).mono (fun r hr c => ?_) (Cert.Reference4Ideal.Value.run m' g')
    obtain ⟨m0, m1⟩ := hm c
    obtain ⟨e, k⟩ := hr c
    exact ⟨e.trans ((Cert.Reference4Ideal.Read.val_main_v5_eq _ _).trans (congr (congrArg _ m0) m1)), k⟩

end Blocked.Go
end
-- ==== Proof.Gs.lean ====
module
public import proofs.«01_k».proof.Proof.Blocked
public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.Pipeline.ValueKit

/-! The gradient of the scan's output weight (`g_w_ssm_out`): the call's array is the reference's. -/

@[expose] public section
set_option maxRecDepth 16384

noncomputable section
namespace Blocked.Gs
open Idealize.ShloMosaic Idealize.ShloMosaic.TcCoe Idealize.SL.Sem Cert.Kernel5Ideal Cert.Kernel5Ideal.Gen Cert.Kernel5Ideal.Value

theorem i0 : ∀ t : Fin cfg0.N, win0_0.index t = ![t.val % 4, t.val / 4] := (by decide +kernel : ∀ t : Fin grid0.N, _)
theorem i1 : ∀ t : Fin cfg0.N, win0_1.index t = ![t.val % 4, 0] := (by decide +kernel : ∀ t : Fin grid0.N, _)

variable (m : (ℓ : Loc nD τ sig) → Buf (Elt Ideal) ℓ) (c : Dev nD)

/-- The two arguments, read at natural numbers. -/
def A (i j : ℕ) : EReal := ext (φ := .bf16) (n := 4096) (m := 2048) (m ((c.tc : Thread nD τ).loc main_arg0)) i j
def B (i j : ℕ) : EReal := ext (φ := .bf16) (n := 4096) (m := 1024) (m ((c.tc : Thread nD τ).loc main_arg1)) i j

theorem b0 (t : Fin cfg0.N) (r : Fin 1024) (k : Fin 1024) :
    (iblk m c 0 t : FVec Ideal S1024x1024 .bf16) (ValueIdx.ix2 k r) = A m c (1024 * (t.val % 4) + k.val) (1024 * (t.val / 4) + r.val) := by
  refine (ext_apply (φ := .bf16) (n := 4096) (m := 2048) (m ((c.tc : Thread nD τ).loc main_arg0)) (((cfg0.win 0).blk t).view.emb (ValueIdx.ix2 k r))).trans ?_
  show ext _ (win0_0.index t 0 * 1024 + 1 * k.val) (win0_0.index t 1 * 1024 + 1 * r.val) = _
  rw [i0]
  unfold A
  congr 1
  · show t.val % 4 * 1024 + 1 * k.val = _; omega
  · show t.val / 4 * 1024 + 1 * r.val = _; omega

theorem b1 (t : Fin cfg0.N) (k : Fin 1024) (q : Fin 1024) :
    (iblk m c 1 t : FVec Ideal S1024x1024 .bf16) (ValueIdx.ix2 k q) = B m c (1024 * (t.val % 4) + k.val) q.val := by
  refine (ext_apply (φ := .bf16) (n := 4096) (m := 1024) (m ((c.tc : Thread nD τ).loc main_arg1)) (((cfg0.win 1).blk t).view.emb (ValueIdx.ix2 k q))).trans ?_
  show ext _ (win0_1.index t 0 * 1024 + 1 * k.val) (win0_1.index t 1 * 1024 + 1 * q.val) = _
  rw [i1]
  unfold B
  congr 1
  · show t.val % 4 * 1024 + 1 * k.val = _; omega
  · show 0 * 1024 + 1 * q.val = _; omega

/-- One point adds its block's product. -/
theorem pay (t : Fin cfg0.N) (acc : Vec Ideal S1024x1024 .f32) (i : S1024x1024.Idx) :
    k0_pay2 acc (iblk m c 0 t) (iblk m c 1 t) i
      = acc i + ∑ j : Fin 1024, A m c (1024 * (t.val % 4) + j.val) (1024 * (t.val / 4) + (i 0).val) * B m c (1024 * (t.val % 4) + j.val) (i 1).val := by
  obtain ⟨r, q, rfl⟩ : ∃ r q, i = ValueIdx.ix2 r q := ⟨i 0, i 1, funext fun a => match a with | ⟨0, _⟩ => rfl | ⟨1, _⟩ => rfl⟩
  unfold k0_pay2
  dsimp only
  rw [shapeCast_self]
  refine (add_dot00 _ _ _ _ r q).trans ?_
  congr 1
  refine Finset.sum_congr rfl fun j _ => ?_
  rw [b0, b1]

/-- The call's array: every element is the whole product's. -/
theorem arr (i : S2048x1024.Idx) : G2 m c i = ∑ k : Fin 4096, A m c k.val (i 0).val * B m c k.val (i 1).val := by
  have hN : cfg0.N = 8 := N_0
  have h0 : (i 0).val < 2048 := (i 0).isLt
  have h1 : (i 1).val < 1024 := (i 1).isLt
  have hr : run2Of i = (i 0).val / 1024 := by show 1 * ((i 0).val / 1024 - 0) + 1 * ((i 1).val / 1024 - 0) = _; omega
  unfold G2
  rw [dif_pos (by rw [hr]; omega)]
  refine (folded (w := 1024) (J := 3) rfl
    (fun y k => A m c k (1024 * ((i 0).val / 1024) + (y 0).val) * B m c k (y 1).val) _ _ _ (fun h y => ?_) (fun s _ hs h acc y => ?_) _ _).trans ?_
  · refine (pay m c ⟨_, h⟩ _ y).trans ?_
    rw [show (4 * run2Of i) / 4 = (i 0).val / 1024 by omega, show (4 * run2Of i) % 4 = 0 by omega]
    rw [show k0_pay1 (F := Ideal) y = 0 from Ideal.ofBits_zero_f32, zero_add]
    simp only [Nat.mul_zero, Nat.zero_add]
  · refine (pay m c ⟨_, h⟩ acc y).trans ?_
    rw [show (4 * run2Of i + s) / 4 = (i 0).val / 1024 by omega, show (4 * run2Of i + s) % 4 = s by omega]
  · have e0 : 1024 * ((i 0).val / 1024) + (loc2Of i 0).val = (i 0).val := by
      show 1024 * ((i 0).val / 1024) + (i 0).val % 1024 = _; omega
    have e1 : (loc2Of i 1).val = (i 1).val := by show (i 1).val % 1024 = _; omega
    refine Finset.sum_congr rfl fun k _ => ?_
    show A m c _ (1024 * ((i 0).val / 1024) + (loc2Of i 0).val) * B m c _ (loc2Of i 1).val = _
    rw [e0, e1]

open Cert.Reference5Ideal.Read in
/-- The reference's array likewise. -/
theorem ref (i : S2048x1024.Idx) :
    val_main_v5 (F := Ideal) (m ((c.tc : Thread nD τ).loc main_arg0)) (m ((c.tc : Thread nD τ).loc main_arg1)) i
      = ∑ k : Fin 4096, A m c k.val (i 0).val * B m c k.val (i 1).val := by
  rw [val_main_v5_apply, val_main_v4_apply]
  refine Finset.sum_congr rfl fun k _ => ?_
  rw [val_main_v3_apply, val_main_v1_apply]
  exact (congrArg₂ (HMul.hMul (α := EReal) (β := EReal) (γ := EReal)) (ext_apply (φ := .bf16) (n := 4096) (m := 1024) (m ((c.tc : Thread nD τ).loc main_arg1)) _)
    (ext_apply (φ := .bf16) (n := 4096) (m := 2048) (m ((c.tc : Thread nD τ).loc main_arg0)) _)).trans (mul_comm _ _)

/-- The call's array is the reference's. -/
theorem value : Cert.algebraic_Kernel5Ideal_Reference5Ideal := by
  intro m g m' g' _ hm
  refine ⟨fun c => Cert.Reference5Ideal.Read.val_main_v5 (F := Ideal) (m (c.tc.loc main_arg0)) (m (c.tc.loc main_arg1)), ?_, ?_⟩
  · refine (θ_run _ _ _).mono (fun r hr c => ?_) (Cert.Kernel5Ideal.Value.run m g)
    obtain ⟨e, k⟩ := hr c
    exact ⟨e.trans (funext fun i => (arr m c i).trans (ref m c i).symm), k⟩
  · refine (θ_run _ _ _).mono (fun r hr c => ?_) (Cert.Reference5Ideal.Value.run m' g')
    obtain ⟨m0, m1⟩ := hm c
    obtain ⟨e, k⟩ := hr c
    exact ⟨e.trans ((Cert.Reference5Ideal.Read.val_main_v5_eq _ _).trans (congr (congrArg _ m0) m1)), k⟩

end Blocked.Gs
end
-- ==== Proof.Dm.lean ====
module
public import proofs.«01_k».proof.Proof.Blocked
public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Pipeline.ValueKit

/-! The gradient of a square output weight's left factor (`d_merged`): the call's array is the reference's. -/

@[expose] public section
set_option maxRecDepth 16384

noncomputable section
namespace Blocked.Dm
open Idealize.ShloMosaic Idealize.ShloMosaic.TcCoe Idealize.SL.Sem Cert.Kernel6Ideal Cert.Kernel6Ideal.Gen Cert.Kernel6Ideal.Value

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

variable (m : (ℓ : Loc nD τ sig) → Buf (Elt Ideal) ℓ) (c : Dev nD)

/-- The two arguments, read at natural numbers. -/
def A (i j : ℕ) : EReal := ext (φ := .bf16) (n := 4096) (m := 1024) (m ((c.tc : Thread nD τ).loc main_arg0)) i j
def B (i j : ℕ) : EReal := ext (φ := .bf16) (n := 1024) (m := 1024) (m ((c.tc : Thread nD τ).loc main_arg1)) i j

theorem b0 (t : Fin cfg0.N) (r : Fin 512) (k : Fin 1024) :
    (iblk m c 0 t : FVec Ideal S512x1024 .bf16) (ValueIdx.ix2 r k) = A m c (512 * t.val + r.val) k.val := by
  refine (ext_apply (φ := .bf16) (n := 4096) (m := 1024) (m ((c.tc : Thread nD τ).loc main_arg0)) (((cfg0.win 0).blk t).view.emb (ValueIdx.ix2 r k))).trans ?_
  show ext _ (win0_0.index t 0 * 512 + 1 * r.val) (win0_0.index t 1 * 1024 + 1 * k.val) = _
  rw [i0]
  unfold A
  congr 1
  · show t.val * 512 + 1 * r.val = _; omega
  · show 0 * 1024 + 1 * k.val = _; omega

theorem b1 (t : Fin cfg0.N) (k : Fin 1024) (q : Fin 1024) :
    (iblk m c 1 t : FVec Ideal S1024x1024 .bf16) (ValueIdx.ix2 q k) = B m c q.val k.val := by
  refine (ext_apply (φ := .bf16) (n := 1024) (m := 1024) (m ((c.tc : Thread nD τ).loc main_arg1)) (((cfg0.win 1).blk t).view.emb (ValueIdx.ix2 q k))).trans ?_
  show ext _ (win0_1.index t 0 * 1024 + 1 * q.val) (win0_1.index t 1 * 1024 + 1 * k.val) = _
  rw [i1]
  unfold B
  congr 1
  · show 0 * 1024 + 1 * q.val = _; omega
  · show 0 * 1024 + 1 * k.val = _; omega

/-- One point adds its block's product. -/
theorem pay (t : Fin cfg0.N) (acc : Vec Ideal S512x1024 .f32) (i : S512x1024.Idx) :
    k0_pay2 acc (iblk m c 0 t) (iblk m c 1 t) i
      = acc i + ∑ j : Fin 1024, A m c (512 * t.val + (i 0).val) j.val * B m c (i 1).val j.val := by
  obtain ⟨r, q, rfl⟩ : ∃ r q, i = ValueIdx.ix2 r q := ⟨i 0, i 1, funext fun a => match a with | ⟨0, _⟩ => rfl | ⟨1, _⟩ => rfl⟩
  unfold k0_pay2
  dsimp only
  rw [shapeCast_self]
  refine (add_dot11 _ _ _ _ r q).trans ?_
  congr 1
  refine Finset.sum_congr rfl fun j _ => ?_
  rw [b0, b1]

theorem i2 : ∀ t : Fin cfg0.N, win0_2.index t = ![t.val, 0] := (by decide +kernel : ∀ t : Fin grid0.N, _)
theorem fl : ∀ t : Fin cfg0.N, (cfg0.win 2).flush t = true := (by decide +kernel : ∀ t : Fin grid0.N, win0_2.flush t = true)

/-- The whole product. -/
def G : Buf (Elt Ideal) ((c : Thread nD τ).loc main_v0) := fun (i : S4096x1024.Idx) => (∑ k : Fin 1024, A m c (i 0).val k.val * B m c (i 1).val k.val : EReal)

/-- What a point leaves in the output's block: its two stores, the second reading the first back. -/
theorem out_eq (i : grid0.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (hc0 : cond0_0 i)
    (x0 : Vec Ideal S512x1024 .bf16) (x1 : Vec Ideal S1024x1024 .bf16) :
    out0_A_2 c i arg3 harg3 arg4 harg4 arg5 harg5 hc0 x0 x1 = k0_pay2 (k0_pay1 (F := Ideal)) x0 x1 := by
  have hz : (![0, 0] : Fin 2 → Nat) = fun _ => 0 := funext fun a => match a with | ⟨0, _⟩ => rfl | ⟨1, _⟩ => rfl
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S512x1024) hz, View.readCov_unit_zero (S := S512x1024) _ hz]
  simp only [View.readAt_eq_ld, harg3.read_unread, harg4.read_unread, harg5.read_unread, View.ld_unit_zero (S := S1024x1024) hz, View.ld_unit_zero (S := S512x1024) hz, shapeCast_self]

/-- Each point writes back its rows of the whole product. -/
theorem flushed_eq (t : Fin cfg0.N) : (dats m 0 c).flushed 2 t = ((cfg0.win 2).blk t).view.read (Elt Ideal) (G m c) := by
  rw [flushed2_A, out_eq]
  funext y
  have e0 : (((cfg0.win 2).blk t).view.emb y 0).val = 512 * t.val + (y 0).val := by
    show win0_2.index t 0 * 512 + 1 * (y 0).val = _
    rw [i2]; show t.val * 512 + 1 * (y 0).val = _; omega
  have e1 : (((cfg0.win 2).blk t).view.emb y 1).val = (y 1).val := by
    show win0_2.index t 1 * 1024 + 1 * (y 1).val = _
    rw [i2]; show 0 * 1024 + 1 * (y 1).val = _; omega
  show k0_pay2 (k0_pay1 (F := Ideal)) (iblk m c 0 t) (iblk m c 1 t) ((cfg0.win 2).xinj (grid0.coords t) y) = G m c (((cfg0.win 2).blk t).view.emb y)
  refine (pay m c t _ _).trans ?_
  rw [show k0_pay1 (F := Ideal) ((cfg0.win 2).xinj (grid0.coords t) y) = 0 from Ideal.ofBits_zero_f32, zero_add]
  refine Finset.sum_congr rfl fun j _ => ?_
  show A m c (512 * t.val + (y 0).val) j.val * B m c (y 1).val j.val = A m c (((cfg0.win 2).blk t).view.emb y 0).val j.val * B m c (((cfg0.win 2).blk t).view.emb y 1).val j.val
  rw [e0, e1]

/-- The call's array: the points' rows fill it. -/
theorem arr : (dats m 0 c).arrAt 2 cfg0.N = G m c :=
  (dats m 0 c).arrAt_eq_of_cover 2 _ (fun t _ => flushed_eq m c t) (fun (i : S4096x1024.Idx) => by
    have h0 : (i 0).val < 4096 := (i 0).isLt
    have h1 : (i 1).val < 1024 := (i 1).isLt
    have hN : cfg0.N = 8 := N_0
    let t : Fin cfg0.N := ⟨(i 0).val / 512, by omega⟩
    refine ⟨t, fl t, ?_⟩
    show i ∈ ((View.whole main_v0).slice (win0_2.rect t)).set
    rw [View.set_slice_whole, Rect.mem_set_unit]
    intro a
    show win0_2.index t a * S512x1024.size a ≤ (i a).val ∧ (i a).val < win0_2.index t a * S512x1024.size a + S512x1024.size a
    rw [i2]
    match a with
    | ⟨0, _⟩ => show (i 0).val / 512 * 512 ≤ (i 0).val ∧ (i 0).val < (i 0).val / 512 * 512 + 512; omega
    | ⟨1, _⟩ => show 0 * 1024 ≤ (i 1).val ∧ (i 1).val < 0 * 1024 + 1024; omega)

open Cert.Reference6Ideal.Read in
/-- The reference's array likewise. -/
theorem ref (i : S4096x1024.Idx) :
    val_main_v4 (F := Ideal) (m ((c.tc : Thread nD τ).loc main_arg0)) (m ((c.tc : Thread nD τ).loc main_arg1)) i
      = ∑ k : Fin 1024, A m c (i 0).val k.val * B m c (i 1).val k.val := by
  rw [val_main_v4_apply]
  refine Finset.sum_congr rfl fun k _ => ?_
  rw [val_main_v3_apply, val_main_v1_apply]
  exact congrArg₂ (HMul.hMul (α := EReal) (β := EReal) (γ := EReal)) (ext_apply (φ := .bf16) (n := 4096) (m := 1024) (m ((c.tc : Thread nD τ).loc main_arg0)) _)
    (ext_apply (φ := .bf16) (n := 1024) (m := 1024) (m ((c.tc : Thread nD τ).loc main_arg1)) _)

/-- The call's array is the reference's. -/
theorem value : Cert.algebraic_Kernel6Ideal_Reference6Ideal := by
  intro m g m' g' _ hm
  refine ⟨fun c => Cert.Reference6Ideal.Read.val_main_v4 (F := Ideal) (m (c.tc.loc main_arg0)) (m (c.tc.loc main_arg1)), ?_, ?_⟩
  · refine (θ_run _ _ _).mono (fun r hr c => ?_) (Cert.Kernel6Ideal.Value.run_blocks m g)
    obtain ⟨e, k⟩ := hr c
    exact ⟨e.trans ((arr m c).trans (funext fun i => (ref m c i).symm)), k⟩
  · refine (θ_run _ _ _).mono (fun r hr c => ?_) (Cert.Reference6Ideal.Value.run m' g')
    obtain ⟨m0, m1⟩ := hm c
    obtain ⟨e, k⟩ := hr c
    exact ⟨e.trans ((Cert.Reference6Ideal.Read.val_main_v4_eq _ _).trans (congr (congrArg _ m0) m1)), k⟩

end Blocked.Dm
end
-- ==== Proof.Dn.lean ====
module
public import proofs.«01_k».proof.Proof.Blocked
public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Pipeline.ValueKit

/-! The gradient of the scan's normalised output (`d_ssm_norm`): the call's array is the reference's. -/

@[expose] public section
set_option maxRecDepth 16384

noncomputable section
namespace Blocked.Dn
open Idealize.ShloMosaic Idealize.ShloMosaic.TcCoe Idealize.SL.Sem Cert.Kernel7Ideal Cert.Kernel7Ideal.Gen Cert.Kernel7Ideal.Value

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

variable (m : (ℓ : Loc nD τ sig) → Buf (Elt Ideal) ℓ) (c : Dev nD)

/-- The two arguments, read at natural numbers. -/
def A (i j : ℕ) : EReal := ext (φ := .bf16) (n := 4096) (m := 1024) (m ((c.tc : Thread nD τ).loc main_arg0)) i j
def B (i j : ℕ) : EReal := ext (φ := .bf16) (n := 2048) (m := 1024) (m ((c.tc : Thread nD τ).loc main_arg1)) i j

theorem b0 (t : Fin cfg0.N) (r : Fin 1024) (k : Fin 1024) :
    (iblk m c 0 t : FVec Ideal S1024x1024 .bf16) (ValueIdx.ix2 r k) = A m c (1024 * t.val + r.val) k.val := by
  refine (ext_apply (φ := .bf16) (n := 4096) (m := 1024) (m ((c.tc : Thread nD τ).loc main_arg0)) (((cfg0.win 0).blk t).view.emb (ValueIdx.ix2 r k))).trans ?_
  show ext _ (win0_0.index t 0 * 1024 + 1 * r.val) (win0_0.index t 1 * 1024 + 1 * k.val) = _
  rw [i0]
  unfold A
  congr 1
  · show t.val * 1024 + 1 * r.val = _; omega
  · show 0 * 1024 + 1 * k.val = _; omega

theorem b1 (t : Fin cfg0.N) (k : Fin 1024) (q : Fin 2048) :
    (iblk m c 1 t : FVec Ideal S2048x1024 .bf16) (ValueIdx.ix2 q k) = B m c q.val k.val := by
  refine (ext_apply (φ := .bf16) (n := 2048) (m := 1024) (m ((c.tc : Thread nD τ).loc main_arg1)) (((cfg0.win 1).blk t).view.emb (ValueIdx.ix2 q k))).trans ?_
  show ext _ (win0_1.index t 0 * 2048 + 1 * q.val) (win0_1.index t 1 * 1024 + 1 * k.val) = _
  rw [i1]
  unfold B
  congr 1
  · show 0 * 2048 + 1 * q.val = _; omega
  · show 0 * 1024 + 1 * k.val = _; omega

/-- One point adds its block's product. -/
theorem pay (t : Fin cfg0.N) (acc : Vec Ideal S1024x2048 .f32) (i : S1024x2048.Idx) :
    k0_pay2 acc (iblk m c 0 t) (iblk m c 1 t) i
      = acc i + ∑ j : Fin 1024, A m c (1024 * t.val + (i 0).val) j.val * B m c (i 1).val j.val := by
  obtain ⟨r, q, rfl⟩ : ∃ r q, i = ValueIdx.ix2 r q := ⟨i 0, i 1, funext fun a => match a with | ⟨0, _⟩ => rfl | ⟨1, _⟩ => rfl⟩
  unfold k0_pay2
  dsimp only
  rw [shapeCast_self]
  refine (add_dot11 _ _ _ _ r q).trans ?_
  congr 1
  refine Finset.sum_congr rfl fun j _ => ?_
  rw [b0, b1]

theorem i2 : ∀ t : Fin cfg0.N, win0_2.index t = ![t.val, 0] := (by decide +kernel : ∀ t : Fin grid0.N, _)
theorem fl : ∀ t : Fin cfg0.N, (cfg0.win 2).flush t = true := (by decide +kernel : ∀ t : Fin grid0.N, win0_2.flush t = true)

/-- The whole product. -/
def G : Buf (Elt Ideal) ((c : Thread nD τ).loc main_v0) := fun (i : S4096x2048.Idx) => (∑ k : Fin 1024, A m c (i 0).val k.val * B m c (i 1).val k.val : EReal)

/-- What a point leaves in the output's block: its two stores, the second reading the first back. -/
theorem out_eq (i : grid0.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (hc0 : cond0_0 i)
    (x0 : Vec Ideal S1024x1024 .bf16) (x1 : Vec Ideal S2048x1024 .bf16) :
    out0_A_2 c i arg3 harg3 arg4 harg4 arg5 harg5 hc0 x0 x1 = k0_pay2 (k0_pay1 (F := Ideal)) x0 x1 := by
  have hz : (![0, 0] : Fin 2 → Nat) = fun _ => 0 := funext fun a => match a with | ⟨0, _⟩ => rfl | ⟨1, _⟩ => rfl
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S1024x2048) hz, View.readCov_unit_zero (S := S1024x2048) _ hz]
  simp only [View.readAt_eq_ld, harg3.read_unread, harg4.read_unread, harg5.read_unread, View.ld_unit_zero (S := S1024x1024) hz, View.ld_unit_zero (S := S1024x2048) hz, View.ld_unit_zero (S := S2048x1024) hz, shapeCast_self]

/-- Each point writes back its rows of the whole product. -/
theorem flushed_eq (t : Fin cfg0.N) : (dats m 0 c).flushed 2 t = ((cfg0.win 2).blk t).view.read (Elt Ideal) (G m c) := by
  rw [flushed2_A, out_eq]
  funext y
  have e0 : (((cfg0.win 2).blk t).view.emb y 0).val = 1024 * t.val + (y 0).val := by
    show win0_2.index t 0 * 1024 + 1 * (y 0).val = _
    rw [i2]; show t.val * 1024 + 1 * (y 0).val = _; omega
  have e1 : (((cfg0.win 2).blk t).view.emb y 1).val = (y 1).val := by
    show win0_2.index t 1 * 2048 + 1 * (y 1).val = _
    rw [i2]; show 0 * 2048 + 1 * (y 1).val = _; omega
  show k0_pay2 (k0_pay1 (F := Ideal)) (iblk m c 0 t) (iblk m c 1 t) ((cfg0.win 2).xinj (grid0.coords t) y) = G m c (((cfg0.win 2).blk t).view.emb y)
  refine (pay m c t _ _).trans ?_
  rw [show k0_pay1 (F := Ideal) ((cfg0.win 2).xinj (grid0.coords t) y) = 0 from Ideal.ofBits_zero_f32, zero_add]
  refine Finset.sum_congr rfl fun j _ => ?_
  show A m c (1024 * t.val + (y 0).val) j.val * B m c (y 1).val j.val = A m c (((cfg0.win 2).blk t).view.emb y 0).val j.val * B m c (((cfg0.win 2).blk t).view.emb y 1).val j.val
  rw [e0, e1]

/-- The call's array: the points' rows fill it. -/
theorem arr : (dats m 0 c).arrAt 2 cfg0.N = G m c :=
  (dats m 0 c).arrAt_eq_of_cover 2 _ (fun t _ => flushed_eq m c t) (fun (i : S4096x2048.Idx) => by
    have h0 : (i 0).val < 4096 := (i 0).isLt
    have h1 : (i 1).val < 2048 := (i 1).isLt
    have hN : cfg0.N = 4 := N_0
    let t : Fin cfg0.N := ⟨(i 0).val / 1024, by omega⟩
    refine ⟨t, fl t, ?_⟩
    show i ∈ ((View.whole main_v0).slice (win0_2.rect t)).set
    rw [View.set_slice_whole, Rect.mem_set_unit]
    intro a
    show win0_2.index t a * S1024x2048.size a ≤ (i a).val ∧ (i a).val < win0_2.index t a * S1024x2048.size a + S1024x2048.size a
    rw [i2]
    match a with
    | ⟨0, _⟩ => show (i 0).val / 1024 * 1024 ≤ (i 0).val ∧ (i 0).val < (i 0).val / 1024 * 1024 + 1024; omega
    | ⟨1, _⟩ => show 0 * 2048 ≤ (i 1).val ∧ (i 1).val < 0 * 2048 + 2048; omega)

open Cert.Reference7Ideal.Read in
/-- The reference's array likewise. -/
theorem ref (i : S4096x2048.Idx) :
    val_main_v4 (F := Ideal) (m ((c.tc : Thread nD τ).loc main_arg0)) (m ((c.tc : Thread nD τ).loc main_arg1)) i
      = ∑ k : Fin 1024, A m c (i 0).val k.val * B m c (i 1).val k.val := by
  rw [val_main_v4_apply]
  refine Finset.sum_congr rfl fun k _ => ?_
  rw [val_main_v3_apply, val_main_v1_apply]
  exact congrArg₂ (HMul.hMul (α := EReal) (β := EReal) (γ := EReal)) (ext_apply (φ := .bf16) (n := 4096) (m := 1024) (m ((c.tc : Thread nD τ).loc main_arg0)) _)
    (ext_apply (φ := .bf16) (n := 2048) (m := 1024) (m ((c.tc : Thread nD τ).loc main_arg1)) _)

/-- The call's array is the reference's. -/
theorem value : Cert.algebraic_Kernel7Ideal_Reference7Ideal := by
  intro m g m' g' _ hm
  refine ⟨fun c => Cert.Reference7Ideal.Read.val_main_v4 (F := Ideal) (m (c.tc.loc main_arg0)) (m (c.tc.loc main_arg1)), ?_, ?_⟩
  · refine (θ_run _ _ _).mono (fun r hr c => ?_) (Cert.Kernel7Ideal.Value.run_blocks m g)
    obtain ⟨e, k⟩ := hr c
    exact ⟨e.trans ((arr m c).trans (funext fun i => (ref m c i).symm)), k⟩
  · refine (θ_run _ _ _).mono (fun r hr c => ?_) (Cert.Reference7Ideal.Value.run m' g')
    obtain ⟨m0, m1⟩ := hm c
    obtain ⟨e, k⟩ := hr c
    exact ⟨e.trans ((Cert.Reference7Ideal.Read.val_main_v4_eq _ _).trans (congr (congrArg _ m0) m1)), k⟩

end Blocked.Dn
end
-- ==== Proof.Ao.lean ====
module
public import proofs.«01_k».proof.Proof.Blocked
public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Pipeline.ValueKit

/-! The product with a square output weight (`attn_out`): the call's array is the reference's. -/

@[expose] public section
set_option maxRecDepth 16384

noncomputable section
namespace Blocked.Ao
open Idealize.ShloMosaic Idealize.ShloMosaic.TcCoe Idealize.SL.Sem Cert.Kernel8Ideal Cert.Kernel8Ideal.Gen Cert.Kernel8Ideal.Value

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

variable (m : (ℓ : Loc nD τ sig) → Buf (Elt Ideal) ℓ) (c : Dev nD)

/-- The two arguments, read at natural numbers. -/
def A (i j : ℕ) : EReal := ext (φ := .bf16) (n := 4096) (m := 1024) (m ((c.tc : Thread nD τ).loc main_arg0)) i j
def B (i j : ℕ) : EReal := ext (φ := .bf16) (n := 1024) (m := 1024) (m ((c.tc : Thread nD τ).loc main_arg1)) i j

theorem b0 (t : Fin cfg0.N) (r : Fin 512) (k : Fin 1024) :
    (iblk m c 0 t : FVec Ideal S512x1024 .bf16) (ValueIdx.ix2 r k) = A m c (512 * t.val + r.val) k.val := by
  refine (ext_apply (φ := .bf16) (n := 4096) (m := 1024) (m ((c.tc : Thread nD τ).loc main_arg0)) (((cfg0.win 0).blk t).view.emb (ValueIdx.ix2 r k))).trans ?_
  show ext _ (win0_0.index t 0 * 512 + 1 * r.val) (win0_0.index t 1 * 1024 + 1 * k.val) = _
  rw [i0]
  unfold A
  congr 1
  · show t.val * 512 + 1 * r.val = _; omega
  · show 0 * 1024 + 1 * k.val = _; omega

theorem b1 (t : Fin cfg0.N) (k : Fin 1024) (q : Fin 1024) :
    (iblk m c 1 t : FVec Ideal S1024x1024 .bf16) (ValueIdx.ix2 k q) = B m c k.val q.val := by
  refine (ext_apply (φ := .bf16) (n := 1024) (m := 1024) (m ((c.tc : Thread nD τ).loc main_arg1)) (((cfg0.win 1).blk t).view.emb (ValueIdx.ix2 k q))).trans ?_
  show ext _ (win0_1.index t 0 * 1024 + 1 * k.val) (win0_1.index t 1 * 1024 + 1 * q.val) = _
  rw [i1]
  unfold B
  congr 1
  · show 0 * 1024 + 1 * k.val = _; omega
  · show 0 * 1024 + 1 * q.val = _; omega

/-- One point adds its block's product. -/
theorem pay (t : Fin cfg0.N) (acc : Vec Ideal S512x1024 .f32) (i : S512x1024.Idx) :
    k0_pay2 acc (iblk m c 0 t) (iblk m c 1 t) i
      = acc i + ∑ j : Fin 1024, A m c (512 * t.val + (i 0).val) j.val * B m c j.val (i 1).val := by
  obtain ⟨r, q, rfl⟩ : ∃ r q, i = ValueIdx.ix2 r q := ⟨i 0, i 1, funext fun a => match a with | ⟨0, _⟩ => rfl | ⟨1, _⟩ => rfl⟩
  unfold k0_pay2
  dsimp only
  rw [shapeCast_self]
  refine (add_dot10 _ _ _ _ r q).trans ?_
  congr 1
  refine Finset.sum_congr rfl fun j _ => ?_
  rw [b0, b1]

theorem i2 : ∀ t : Fin cfg0.N, win0_2.index t = ![t.val, 0] := (by decide +kernel : ∀ t : Fin grid0.N, _)
theorem fl : ∀ t : Fin cfg0.N, (cfg0.win 2).flush t = true := (by decide +kernel : ∀ t : Fin grid0.N, win0_2.flush t = true)

/-- The whole product. -/
def G : Buf (Elt Ideal) ((c : Thread nD τ).loc main_v0) := fun (i : S4096x1024.Idx) => (∑ k : Fin 1024, A m c (i 0).val k.val * B m c k.val (i 1).val : EReal)

/-- What a point leaves in the output's block: its two stores, the second reading the first back. -/
theorem out_eq (i : grid0.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (hc0 : cond0_0 i)
    (x0 : Vec Ideal S512x1024 .bf16) (x1 : Vec Ideal S1024x1024 .bf16) :
    out0_A_2 c i arg3 harg3 arg4 harg4 arg5 harg5 hc0 x0 x1 = k0_pay2 (k0_pay1 (F := Ideal)) x0 x1 := by
  have hz : (![0, 0] : Fin 2 → Nat) = fun _ => 0 := funext fun a => match a with | ⟨0, _⟩ => rfl | ⟨1, _⟩ => rfl
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S512x1024) hz, View.readCov_unit_zero (S := S512x1024) _ hz]
  simp only [View.readAt_eq_ld, harg3.read_unread, harg4.read_unread, harg5.read_unread, View.ld_unit_zero (S := S1024x1024) hz, View.ld_unit_zero (S := S512x1024) hz, shapeCast_self]

/-- Each point writes back its rows of the whole product. -/
theorem flushed_eq (t : Fin cfg0.N) : (dats m 0 c).flushed 2 t = ((cfg0.win 2).blk t).view.read (Elt Ideal) (G m c) := by
  rw [flushed2_A, out_eq]
  funext y
  have e0 : (((cfg0.win 2).blk t).view.emb y 0).val = 512 * t.val + (y 0).val := by
    show win0_2.index t 0 * 512 + 1 * (y 0).val = _
    rw [i2]; show t.val * 512 + 1 * (y 0).val = _; omega
  have e1 : (((cfg0.win 2).blk t).view.emb y 1).val = (y 1).val := by
    show win0_2.index t 1 * 1024 + 1 * (y 1).val = _
    rw [i2]; show 0 * 1024 + 1 * (y 1).val = _; omega
  show k0_pay2 (k0_pay1 (F := Ideal)) (iblk m c 0 t) (iblk m c 1 t) ((cfg0.win 2).xinj (grid0.coords t) y) = G m c (((cfg0.win 2).blk t).view.emb y)
  refine (pay m c t _ _).trans ?_
  rw [show k0_pay1 (F := Ideal) ((cfg0.win 2).xinj (grid0.coords t) y) = 0 from Ideal.ofBits_zero_f32, zero_add]
  refine Finset.sum_congr rfl fun j _ => ?_
  show A m c (512 * t.val + (y 0).val) j.val * B m c j.val (y 1).val = A m c (((cfg0.win 2).blk t).view.emb y 0).val j.val * B m c j.val (((cfg0.win 2).blk t).view.emb y 1).val
  rw [e0, e1]

/-- The call's array: the points' rows fill it. -/
theorem arr : (dats m 0 c).arrAt 2 cfg0.N = G m c :=
  (dats m 0 c).arrAt_eq_of_cover 2 _ (fun t _ => flushed_eq m c t) (fun (i : S4096x1024.Idx) => by
    have h0 : (i 0).val < 4096 := (i 0).isLt
    have h1 : (i 1).val < 1024 := (i 1).isLt
    have hN : cfg0.N = 8 := N_0
    let t : Fin cfg0.N := ⟨(i 0).val / 512, by omega⟩
    refine ⟨t, fl t, ?_⟩
    show i ∈ ((View.whole main_v0).slice (win0_2.rect t)).set
    rw [View.set_slice_whole, Rect.mem_set_unit]
    intro a
    show win0_2.index t a * S512x1024.size a ≤ (i a).val ∧ (i a).val < win0_2.index t a * S512x1024.size a + S512x1024.size a
    rw [i2]
    match a with
    | ⟨0, _⟩ => show (i 0).val / 512 * 512 ≤ (i 0).val ∧ (i 0).val < (i 0).val / 512 * 512 + 512; omega
    | ⟨1, _⟩ => show 0 * 1024 ≤ (i 1).val ∧ (i 1).val < 0 * 1024 + 1024; omega)

open Cert.Reference8Ideal.Read in
/-- The reference's array likewise. -/
theorem ref (i : S4096x1024.Idx) :
    val_main_v2 (F := Ideal) (m ((c.tc : Thread nD τ).loc main_arg0)) (m ((c.tc : Thread nD τ).loc main_arg1)) i
      = ∑ k : Fin 1024, A m c (i 0).val k.val * B m c k.val (i 1).val := by
  rw [val_main_v2_apply]
  refine Finset.sum_congr rfl fun k _ => ?_
  rw [val_main_v0_apply, val_main_v1_apply]
  exact congrArg₂ (HMul.hMul (α := EReal) (β := EReal) (γ := EReal)) (ext_apply (φ := .bf16) (n := 4096) (m := 1024) (m ((c.tc : Thread nD τ).loc main_arg0)) _)
    (ext_apply (φ := .bf16) (n := 1024) (m := 1024) (m ((c.tc : Thread nD τ).loc main_arg1)) _)

/-- The call's array is the reference's. -/
theorem value : Cert.algebraic_Kernel8Ideal_Reference8Ideal := by
  intro m g m' g' _ hm
  refine ⟨fun c => Cert.Reference8Ideal.Read.val_main_v2 (F := Ideal) (m (c.tc.loc main_arg0)) (m (c.tc.loc main_arg1)), ?_, ?_⟩
  · refine (θ_run _ _ _).mono (fun r hr c => ?_) (Cert.Kernel8Ideal.Value.run_blocks m g)
    obtain ⟨e, k⟩ := hr c
    exact ⟨e.trans ((arr m c).trans (funext fun i => (ref m c i).symm)), k⟩
  · refine (θ_run _ _ _).mono (fun r hr c => ?_) (Cert.Reference8Ideal.Value.run m' g')
    obtain ⟨m0, m1⟩ := hm c
    obtain ⟨e, k⟩ := hr c
    exact ⟨e.trans ((Cert.Reference8Ideal.Read.val_main_v2_eq _ _).trans (congr (congrArg _ m0) m1)), k⟩

end Blocked.Ao
end
-- ==== Proof.So.lean ====
module
public import proofs.«01_k».proof.Proof.Blocked
public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.Pipeline.ValueKit

/-! The product with the scan's output weight (`ssm_out`): the call's array is the reference's. -/

@[expose] public section
set_option maxRecDepth 16384

noncomputable section
namespace Blocked.So
open Idealize.ShloMosaic Idealize.ShloMosaic.TcCoe Idealize.SL.Sem Cert.Kernel9Ideal Cert.Kernel9Ideal.Gen Cert.Kernel9Ideal.Value

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

variable (m : (ℓ : Loc nD τ sig) → Buf (Elt Ideal) ℓ) (c : Dev nD)

/-- The two arguments, read at natural numbers. -/
def A (i j : ℕ) : EReal := ext (φ := .bf16) (n := 4096) (m := 2048) (m ((c.tc : Thread nD τ).loc main_arg0)) i j
def B (i j : ℕ) : EReal := ext (φ := .bf16) (n := 2048) (m := 1024) (m ((c.tc : Thread nD τ).loc main_arg1)) i j

theorem b0 (t : Fin cfg0.N) (r : Fin 512) (k : Fin 2048) :
    (iblk m c 0 t : FVec Ideal S512x2048 .bf16) (ValueIdx.ix2 r k) = A m c (512 * t.val + r.val) k.val := by
  refine (ext_apply (φ := .bf16) (n := 4096) (m := 2048) (m ((c.tc : Thread nD τ).loc main_arg0)) (((cfg0.win 0).blk t).view.emb (ValueIdx.ix2 r k))).trans ?_
  show ext _ (win0_0.index t 0 * 512 + 1 * r.val) (win0_0.index t 1 * 2048 + 1 * k.val) = _
  rw [i0]
  unfold A
  congr 1
  · show t.val * 512 + 1 * r.val = _; omega
  · show 0 * 2048 + 1 * k.val = _; omega

theorem b1 (t : Fin cfg0.N) (k : Fin 2048) (q : Fin 1024) :
    (iblk m c 1 t : FVec Ideal S2048x1024 .bf16) (ValueIdx.ix2 k q) = B m c k.val q.val := by
  refine (ext_apply (φ := .bf16) (n := 2048) (m := 1024) (m ((c.tc : Thread nD τ).loc main_arg1)) (((cfg0.win 1).blk t).view.emb (ValueIdx.ix2 k q))).trans ?_
  show ext _ (win0_1.index t 0 * 2048 + 1 * k.val) (win0_1.index t 1 * 1024 + 1 * q.val) = _
  rw [i1]
  unfold B
  congr 1
  · show 0 * 2048 + 1 * k.val = _; omega
  · show 0 * 1024 + 1 * q.val = _; omega

/-- One point adds its block's product. -/
theorem pay (t : Fin cfg0.N) (acc : Vec Ideal S512x1024 .f32) (i : S512x1024.Idx) :
    k0_pay2 acc (iblk m c 0 t) (iblk m c 1 t) i
      = acc i + ∑ j : Fin 2048, A m c (512 * t.val + (i 0).val) j.val * B m c j.val (i 1).val := by
  obtain ⟨r, q, rfl⟩ : ∃ r q, i = ValueIdx.ix2 r q := ⟨i 0, i 1, funext fun a => match a with | ⟨0, _⟩ => rfl | ⟨1, _⟩ => rfl⟩
  unfold k0_pay2
  dsimp only
  rw [shapeCast_self]
  refine (add_dot10 _ _ _ _ r q).trans ?_
  congr 1
  refine Finset.sum_congr rfl fun j _ => ?_
  rw [b0, b1]

theorem i2 : ∀ t : Fin cfg0.N, win0_2.index t = ![t.val, 0] := (by decide +kernel : ∀ t : Fin grid0.N, _)
theorem fl : ∀ t : Fin cfg0.N, (cfg0.win 2).flush t = true := (by decide +kernel : ∀ t : Fin grid0.N, win0_2.flush t = true)

/-- The whole product. -/
def G : Buf (Elt Ideal) ((c : Thread nD τ).loc main_v0) := fun (i : S4096x1024.Idx) => (∑ k : Fin 2048, A m c (i 0).val k.val * B m c k.val (i 1).val : EReal)

/-- What a point leaves in the output's block: its two stores, the second reading the first back. -/
theorem out_eq (i : grid0.Coords) (arg3 : Memref sig .tc .vmem S512x2048 .bf16) (harg3 : arg3.IsWhole) (arg4 : Memref sig .tc .vmem S2048x1024 .bf16) (harg4 : arg4.IsWhole) (arg5 : Memref sig .tc .vmem S512x1024 .f32) (harg5 : arg5.IsWhole) (hc0 : cond0_0 i)
    (x0 : Vec Ideal S512x2048 .bf16) (x1 : Vec Ideal S2048x1024 .bf16) :
    out0_A_2 c i arg3 harg3 arg4 harg4 arg5 harg5 hc0 x0 x1 = k0_pay2 (k0_pay1 (F := Ideal)) x0 x1 := by
  have hz : (![0, 0] : Fin 2 → Nat) = fun _ => 0 := funext fun a => match a with | ⟨0, _⟩ => rfl | ⟨1, _⟩ => rfl
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S512x1024) hz, View.readCov_unit_zero (S := S512x1024) _ hz]
  simp only [View.readAt_eq_ld, harg3.read_unread, harg4.read_unread, harg5.read_unread, View.ld_unit_zero (S := S2048x1024) hz, View.ld_unit_zero (S := S512x1024) hz, View.ld_unit_zero (S := S512x2048) hz, shapeCast_self]

/-- Each point writes back its rows of the whole product. -/
theorem flushed_eq (t : Fin cfg0.N) : (dats m 0 c).flushed 2 t = ((cfg0.win 2).blk t).view.read (Elt Ideal) (G m c) := by
  rw [flushed2_A, out_eq]
  funext y
  have e0 : (((cfg0.win 2).blk t).view.emb y 0).val = 512 * t.val + (y 0).val := by
    show win0_2.index t 0 * 512 + 1 * (y 0).val = _
    rw [i2]; show t.val * 512 + 1 * (y 0).val = _; omega
  have e1 : (((cfg0.win 2).blk t).view.emb y 1).val = (y 1).val := by
    show win0_2.index t 1 * 1024 + 1 * (y 1).val = _
    rw [i2]; show 0 * 1024 + 1 * (y 1).val = _; omega
  show k0_pay2 (k0_pay1 (F := Ideal)) (iblk m c 0 t) (iblk m c 1 t) ((cfg0.win 2).xinj (grid0.coords t) y) = G m c (((cfg0.win 2).blk t).view.emb y)
  refine (pay m c t _ _).trans ?_
  rw [show k0_pay1 (F := Ideal) ((cfg0.win 2).xinj (grid0.coords t) y) = 0 from Ideal.ofBits_zero_f32, zero_add]
  refine Finset.sum_congr rfl fun j _ => ?_
  show A m c (512 * t.val + (y 0).val) j.val * B m c j.val (y 1).val = A m c (((cfg0.win 2).blk t).view.emb y 0).val j.val * B m c j.val (((cfg0.win 2).blk t).view.emb y 1).val
  rw [e0, e1]

/-- The call's array: the points' rows fill it. -/
theorem arr : (dats m 0 c).arrAt 2 cfg0.N = G m c :=
  (dats m 0 c).arrAt_eq_of_cover 2 _ (fun t _ => flushed_eq m c t) (fun (i : S4096x1024.Idx) => by
    have h0 : (i 0).val < 4096 := (i 0).isLt
    have h1 : (i 1).val < 1024 := (i 1).isLt
    have hN : cfg0.N = 8 := N_0
    let t : Fin cfg0.N := ⟨(i 0).val / 512, by omega⟩
    refine ⟨t, fl t, ?_⟩
    show i ∈ ((View.whole main_v0).slice (win0_2.rect t)).set
    rw [View.set_slice_whole, Rect.mem_set_unit]
    intro a
    show win0_2.index t a * S512x1024.size a ≤ (i a).val ∧ (i a).val < win0_2.index t a * S512x1024.size a + S512x1024.size a
    rw [i2]
    match a with
    | ⟨0, _⟩ => show (i 0).val / 512 * 512 ≤ (i 0).val ∧ (i 0).val < (i 0).val / 512 * 512 + 512; omega
    | ⟨1, _⟩ => show 0 * 1024 ≤ (i 1).val ∧ (i 1).val < 0 * 1024 + 1024; omega)

open Cert.Reference9Ideal.Read in
/-- The reference's array likewise. -/
theorem ref (i : S4096x1024.Idx) :
    val_main_v2 (F := Ideal) (m ((c.tc : Thread nD τ).loc main_arg0)) (m ((c.tc : Thread nD τ).loc main_arg1)) i
      = ∑ k : Fin 2048, A m c (i 0).val k.val * B m c k.val (i 1).val := by
  rw [val_main_v2_apply]
  refine Finset.sum_congr rfl fun k _ => ?_
  rw [val_main_v0_apply, val_main_v1_apply]
  exact congrArg₂ (HMul.hMul (α := EReal) (β := EReal) (γ := EReal)) (ext_apply (φ := .bf16) (n := 4096) (m := 2048) (m ((c.tc : Thread nD τ).loc main_arg0)) _)
    (ext_apply (φ := .bf16) (n := 2048) (m := 1024) (m ((c.tc : Thread nD τ).loc main_arg1)) _)

/-- The call's array is the reference's. -/
theorem value : Cert.algebraic_Kernel9Ideal_Reference9Ideal := by
  intro m g m' g' _ hm
  refine ⟨fun c => Cert.Reference9Ideal.Read.val_main_v2 (F := Ideal) (m (c.tc.loc main_arg0)) (m (c.tc.loc main_arg1)), ?_, ?_⟩
  · refine (θ_run _ _ _).mono (fun r hr c => ?_) (Cert.Kernel9Ideal.Value.run_blocks m g)
    obtain ⟨e, k⟩ := hr c
    exact ⟨e.trans ((arr m c).trans (funext fun i => (ref m c i).symm)), k⟩
  · refine (θ_run _ _ _).mono (fun r hr c => ?_) (Cert.Reference9Ideal.Value.run m' g')
    obtain ⟨m0, m1⟩ := hm c
    obtain ⟨e, k⟩ := hr c
    exact ⟨e.trans ((Cert.Reference9Ideal.Read.val_main_v2_eq _ _).trans (congr (congrArg _ m0) m1)), k⟩

end Blocked.So
end
-- ==== Proof.Pj.lean ====
module
public import proofs.«01_k».proof.Proof.Blocked
public import proofs.«01_k».proof.Proof.Gen.Kernel10Ideal.Value
public import proofs.«01_k».proof.Proof.Gen.Reference10Ideal.Run
public import proofs.«01_k».proof.Proof.Gen.Reference10Ideal.Read
public import proofs.«01_k».proof.Defs
public import Idealize.ShloMosaic.Lib.Pipeline.ValueKit

/-! The input projection (`proj`): the call's array is the reference's. -/

@[expose] public section
set_option maxRecDepth 16384

noncomputable section
namespace Blocked.Pj
open Idealize.ShloMosaic Idealize.ShloMosaic.TcCoe Idealize.SL.Sem Cert.Kernel10Ideal Cert.Kernel10Ideal.Gen Cert.Kernel10Ideal.Value

theorem i0 : ∀ t : Fin cfg0.N, win0_0.index t = ![t.val / 9, 0] := (by decide +kernel : ∀ t : Fin grid0.N, _)
theorem i1 : ∀ t : Fin cfg0.N, win0_1.index t = ![t.val % 9, 0] := (by decide +kernel : ∀ t : Fin grid0.N, _)

variable (m : (ℓ : Loc nD τ sig) → Buf (Elt Ideal) ℓ) (c : Dev nD)

/-- The two arguments, read at natural numbers. -/
def A (i j : ℕ) : EReal := ext (φ := .bf16) (n := 4096) (m := 1024) (m ((c.tc : Thread nD τ).loc main_arg0)) i j
def B (i j : ℕ) : EReal := ext (φ := .bf16) (n := 11520) (m := 1024) (m ((c.tc : Thread nD τ).loc main_arg1)) i j

theorem b0 (t : Fin cfg0.N) (r : Fin 2048) (k : Fin 1024) :
    (iblk m c 0 t : FVec Ideal S2048x1024 .bf16) (ValueIdx.ix2 r k) = A m c (2048 * (t.val / 9) + r.val) k.val := by
  refine (ext_apply (φ := .bf16) (n := 4096) (m := 1024) (m ((c.tc : Thread nD τ).loc main_arg0)) (((cfg0.win 0).blk t).view.emb (ValueIdx.ix2 r k))).trans ?_
  show ext _ (win0_0.index t 0 * 2048 + 1 * r.val) (win0_0.index t 1 * 1024 + 1 * k.val) = _
  rw [i0]
  unfold A
  congr 1
  · show t.val / 9 * 2048 + 1 * r.val = _; omega
  · show 0 * 1024 + 1 * k.val = _; omega

theorem b1 (t : Fin cfg0.N) (k : Fin 1024) (q : Fin 1280) :
    (iblk m c 1 t : FVec Ideal S1280x1024 .bf16) (ValueIdx.ix2 q k) = B m c (1280 * (t.val % 9) + q.val) k.val := by
  refine (ext_apply (φ := .bf16) (n := 11520) (m := 1024) (m ((c.tc : Thread nD τ).loc main_arg1)) (((cfg0.win 1).blk t).view.emb (ValueIdx.ix2 q k))).trans ?_
  show ext _ (win0_1.index t 0 * 1280 + 1 * q.val) (win0_1.index t 1 * 1024 + 1 * k.val) = _
  rw [i1]
  unfold B
  congr 1
  · show t.val % 9 * 1280 + 1 * q.val = _; omega
  · show 0 * 1024 + 1 * k.val = _; omega

/-- One point adds its block's product. -/
theorem pay (t : Fin cfg0.N) (acc : Vec Ideal S2048x1280 .f32) (i : S2048x1280.Idx) :
    k0_pay2 acc (iblk m c 0 t) (iblk m c 1 t) i
      = acc i + ∑ j : Fin 1024, A m c (2048 * (t.val / 9) + (i 0).val) j.val * B m c (1280 * (t.val % 9) + (i 1).val) j.val := by
  obtain ⟨r, q, rfl⟩ : ∃ r q, i = ValueIdx.ix2 r q := ⟨i 0, i 1, funext fun a => match a with | ⟨0, _⟩ => rfl | ⟨1, _⟩ => rfl⟩
  unfold k0_pay2
  dsimp only
  rw [shapeCast_self]
  refine (add_dot11 _ _ _ _ r q).trans ?_
  congr 1
  refine Finset.sum_congr rfl fun j _ => ?_
  rw [b0, b1]

theorem i2 : ∀ t : Fin cfg0.N, win0_2.index t = ![t.val / 9, t.val % 9] := (by decide +kernel : ∀ t : Fin grid0.N, _)
theorem fl : ∀ t : Fin cfg0.N, (cfg0.win 2).flush t = true := (by decide +kernel : ∀ t : Fin grid0.N, win0_2.flush t = true)

/-- The whole product. -/
def G : Buf (Elt Ideal) ((c : Thread nD τ).loc main_v0) := fun (i : S4096x11520.Idx) => (∑ k : Fin 1024, A m c (i 0).val k.val * B m c (i 1).val k.val : EReal)

/-- What a point leaves in the output's block: its two stores, the second reading the first back. -/
theorem out_eq (i : grid0.Coords) (arg3 : Memref sig .tc .vmem S2048x1024 .bf16) (harg3 : arg3.IsWhole) (arg4 : Memref sig .tc .vmem S1280x1024 .bf16) (harg4 : arg4.IsWhole) (arg5 : Memref sig .tc .vmem S2048x1280 .f32) (harg5 : arg5.IsWhole) (hc0 : cond0_0 i)
    (x0 : Vec Ideal S2048x1024 .bf16) (x1 : Vec Ideal S1280x1024 .bf16) :
    out0_A_2 c i arg3 harg3 arg4 harg4 arg5 harg5 hc0 x0 x1 = k0_pay2 (k0_pay1 (F := Ideal)) x0 x1 := by
  have hz : (![0, 0] : Fin 2 → Nat) = fun _ => 0 := funext fun a => match a with | ⟨0, _⟩ => rfl | ⟨1, _⟩ => rfl
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S2048x1280) hz, View.readCov_unit_zero (S := S2048x1280) _ hz]
  simp only [View.readAt_eq_ld, harg3.read_unread, harg4.read_unread, harg5.read_unread, View.ld_unit_zero (S := S1280x1024) hz, View.ld_unit_zero (S := S2048x1280) hz, View.ld_unit_zero (S := S2048x1024) hz, shapeCast_self]

/-- Each point writes back its block of the whole product. -/
theorem flushed_eq (t : Fin cfg0.N) : (dats m 0 c).flushed 2 t = ((cfg0.win 2).blk t).view.read (Elt Ideal) (G m c) := by
  rw [flushed2_A, out_eq]
  funext y
  have e0 : (((cfg0.win 2).blk t).view.emb y 0).val = 2048 * (t.val / 9) + (y 0).val := by
    show win0_2.index t 0 * 2048 + 1 * (y 0).val = _
    rw [i2]; show t.val / 9 * 2048 + 1 * (y 0).val = _; omega
  have e1 : (((cfg0.win 2).blk t).view.emb y 1).val = 1280 * (t.val % 9) + (y 1).val := by
    show win0_2.index t 1 * 1280 + 1 * (y 1).val = _
    rw [i2]; show t.val % 9 * 1280 + 1 * (y 1).val = _; omega
  show k0_pay2 (k0_pay1 (F := Ideal)) (iblk m c 0 t) (iblk m c 1 t) ((cfg0.win 2).xinj (grid0.coords t) y) = G m c (((cfg0.win 2).blk t).view.emb y)
  refine (pay m c t _ _).trans ?_
  rw [show k0_pay1 (F := Ideal) ((cfg0.win 2).xinj (grid0.coords t) y) = 0 from Ideal.ofBits_zero_f32, zero_add]
  refine Finset.sum_congr rfl fun j _ => ?_
  show A m c (2048 * (t.val / 9) + (y 0).val) j.val * B m c (1280 * (t.val % 9) + (y 1).val) j.val = A m c (((cfg0.win 2).blk t).view.emb y 0).val j.val * B m c (((cfg0.win 2).blk t).view.emb y 1).val j.val
  rw [e0, e1]

/-- The call's array: the points' blocks fill it. -/
theorem arr : (dats m 0 c).arrAt 2 cfg0.N = G m c :=
  (dats m 0 c).arrAt_eq_of_cover 2 _ (fun t _ => flushed_eq m c t) (fun (i : S4096x11520.Idx) => by
    have h0 : (i 0).val < 4096 := (i 0).isLt
    have h1 : (i 1).val < 11520 := (i 1).isLt
    have hN : cfg0.N = 18 := N_0
    let t : Fin cfg0.N := ⟨9 * ((i 0).val / 2048) + (i 1).val / 1280, by omega⟩
    refine ⟨t, fl t, ?_⟩
    show i ∈ ((View.whole main_v0).slice (win0_2.rect t)).set
    rw [View.set_slice_whole, Rect.mem_set_unit]
    intro a
    show win0_2.index t a * S2048x1280.size a ≤ (i a).val ∧ (i a).val < win0_2.index t a * S2048x1280.size a + S2048x1280.size a
    rw [i2]
    match a with
    | ⟨0, _⟩ => show (9 * ((i 0).val / 2048) + (i 1).val / 1280) / 9 * 2048 ≤ (i 0).val ∧ (i 0).val < (9 * ((i 0).val / 2048) + (i 1).val / 1280) / 9 * 2048 + 2048; omega
    | ⟨1, _⟩ => show (9 * ((i 0).val / 2048) + (i 1).val / 1280) % 9 * 1280 ≤ (i 1).val ∧ (i 1).val < (9 * ((i 0).val / 2048) + (i 1).val / 1280) % 9 * 1280 + 1280; omega)

open Cert.Reference10Ideal.Read in
/-- The reference's array likewise. -/
theorem ref (i : S4096x11520.Idx) :
    val_main_v3 (F := Ideal) (m ((c.tc : Thread nD τ).loc main_arg0)) (m ((c.tc : Thread nD τ).loc main_arg1)) i
      = ∑ k : Fin 1024, A m c (i 0).val k.val * B m c (i 1).val k.val := by
  rw [val_main_v3_apply]
  refine Finset.sum_congr rfl fun k _ => ?_
  rw [val_main_v0_apply, val_main_v2_apply, val_main_v1_apply]
  exact congrArg₂ (HMul.hMul (α := EReal) (β := EReal) (γ := EReal)) (ext_apply (φ := .bf16) (n := 4096) (m := 1024) (m ((c.tc : Thread nD τ).loc main_arg0)) _)
    (ext_apply (φ := .bf16) (n := 11520) (m := 1024) (m ((c.tc : Thread nD τ).loc main_arg1)) _)

/-- The call's array is the reference's. -/
theorem value : Cert.algebraic_Kernel10Ideal_Reference10Ideal := by
  intro m g m' g' _ hm
  refine ⟨fun c => Cert.Reference10Ideal.Read.val_main_v3 (F := Ideal) (m (c.tc.loc main_arg0)) (m (c.tc.loc main_arg1)), ?_, ?_⟩
  · refine (θ_run _ _ _).mono (fun r hr c => ?_) (Cert.Kernel10Ideal.Value.run_blocks m g)
    obtain ⟨e, k⟩ := hr c
    exact ⟨e.trans ((arr m c).trans (funext fun i => (ref m c i).symm)), k⟩
  · refine (θ_run _ _ _).mono (fun r hr c => ?_) (Cert.Reference10Ideal.Value.run m' g')
    obtain ⟨m0, m1⟩ := hm c
    obtain ⟨e, k⟩ := hr c
    exact ⟨e.trans ((Cert.Reference10Ideal.Read.val_main_v3_eq _ _).trans (congr (congrArg _ m0) m1)), k⟩

end Blocked.Pj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite
public import proofs.«01_k».proof.Proof.Value
public import proofs.«01_k».proof.Proof.Dh
public import proofs.«01_k».proof.Proof.Gw
public import proofs.«01_k».proof.Proof.Go
public import proofs.«01_k».proof.Proof.Gs
public import proofs.«01_k».proof.Proof.Dm
public import proofs.«01_k».proof.Proof.Dn
public import proofs.«01_k».proof.Proof.Ao
public import proofs.«01_k».proof.Proof.So
public import proofs.«01_k».proof.Proof.Pj
public import Idealize.ShloMosaic.Adequacy
public import Idealize.ShloMosaic.Init

/-! The proof of the certificate: the kernels' frames are the generated ones, the references declare no semaphore, nothing
    was rewritten between a kernel and its idealization, and the value claims are `Ssd.value` and the products'
    `Blocked.*.value`. -/

@[expose] public section

noncomputable section

namespace Cert.Proof
open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2.2.2.2.2.2.2.2, sem_eq_zero_of_no_sems (by decide) r.2⟩) (Cert.ReferenceIdeal.Value.run m ρ),
  fun m ρ _ => (θ_run _ _ _).mono (fun r h => ⟨fun c => (h c).2.2.2.2.2.2.2.2.2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => (θ_run _ _ _).mono (fun r h => ⟨fun c => (h c).2, sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run _ _ _).mono (fun r h => ⟨fun c => (h c).2, sem_eq_zero_of_no_sems (by decide) r.2⟩) (Cert.Reference8Ideal.Value.run m ρ),
  fun m ρ _ => Cert.Kernel9.Gen.frame m ρ,
  fun m ρ _ => Cert.Kernel9Ideal.Gen.frame m ρ,
  fun m ρ _ => (θ_run _ _ _).mono (fun r h => ⟨fun c => (h c).2, sem_eq_zero_of_no_sems (by decide) r.2⟩) (Cert.Reference9Ideal.Value.run m ρ),
  fun m ρ _ => Cert.Kernel10.Gen.frame m ρ,
  fun m ρ _ => Cert.Kernel10Ideal.Gen.frame m ρ,
  fun m ρ _ => (θ_run _ _ _).mono (fun r h => ⟨fun c => (h c).2, sem_eq_zero_of_no_sems (by decide) r.2⟩) (Cert.Reference10Ideal.Value.run m ρ),
  trivial, Ssd.value,
  trivial, Blocked.Dh.value,
  trivial, Blocked.Gw.value,
  trivial, Blocked.Go.value,
  trivial, Blocked.Gs.value,
  trivial, Blocked.Dm.value,
  trivial, Blocked.Dn.value,
  trivial, Blocked.Ao.value,
  trivial, Blocked.So.value,
  trivial, Blocked.Pj.value⟩

end Cert.Proof

end
